-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S1x8192x2048 : Shape := ⟨3, ![1, 8192, 2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S_ : Shape := ⟨0, ![]⟩

class Facts : Prop where
  bcast_S_S1x8192x2048 : S_.BroadcastsInDim S1x8192x2048 (![] : Fin 0 → Fin S1x8192x2048.rank)
  bcast_S_S2048x11008 : S_.BroadcastsInDim S2048x11008 (![] : Fin 0 → Fin S2048x11008.rank)
  bcast_S_S3x11008 : S_.BroadcastsInDim S3x11008 (![] : Fin 0 → Fin S3x11008.rank)
  bcast_S_S11008 : S_.BroadcastsInDim S11008 (![] : Fin 0 → Fin S11008.rank)
  bcast_S_S5504x2048 : S_.BroadcastsInDim S5504x2048 (![] : Fin 0 → Fin S5504x2048.rank)

variable [Facts]

def fn {F : FTy → Type} [FloatOps F] (main_arg0 : FVec F S1x8192x2048 .f32) (main_arg1 : FVec F S2048x11008 .f32) (main_arg2 : FVec F S3x11008 .f32) (main_arg3 : FVec F S11008 .f32) (main_arg4 : FVec F S5504x2048 .f32) (main_arg5 : FVec F S1x8192x2048 .f32) : IVec S1x8192x2048 1 × IVec S2048x11008 1 × IVec S3x11008 1 × IVec S11008 1 × IVec S5504x2048 1 × IVec S1x8192x2048 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_v3 : FVec F S2048x11008 .f32 := Host.absf main_arg1
  let main_cst_0 : FVec F S_ .f32 := constant S_ .f32 0x7F800000#32
  let main_v4 : FVec F S2048x11008 .f32 := broadcastInDim S2048x11008 ![] bcast_S_S2048x11008 main_cst_0
  let main_v5 : IVec S2048x11008 1 := cmpf .olt main_v3 main_v4
  let main_v6 : FVec F S3x11008 .f32 := Host.absf main_arg2
  let main_cst_1 : FVec F S_ .f32 := constant S_ .f32 0x7F800000#32
  let main_v7 : FVec F S3x11008 .f32 := broadcastInDim S3x11008 ![] bcast_S_S3x11008 main_cst_1
  let main_v8 : IVec S3x11008 1 := cmpf .olt main_v6 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_v12 : FVec F S5504x2048 .f32 := Host.absf main_arg4
  let main_cst_3 : FVec F S_ .f32 := constant S_ .f32 0x7F800000#32
  let main_v13 : FVec F S5504x2048 .f32 := broadcastInDim S5504x2048 ![] bcast_S_S5504x2048 main_cst_3
  let main_v14 : IVec S5504x2048 1 := cmpf .olt main_v12 main_v13
  let main_v15 : FVec F S1x8192x2048 .f32 := Host.absf main_arg5
  let main_cst_4 : FVec F S_ .f32 := constant S_ .f32 0x7F800000#32
  let main_v16 : FVec F S1x8192x2048 .f32 := broadcastInDim S1x8192x2048 ![] bcast_S_S1x8192x2048 main_cst_4
  let main_v17 : IVec S1x8192x2048 1 := cmpf .olt main_v15 main_v16
  (main_v2, main_v5, main_v8, main_v11, main_v14, main_v17)
-- ==== Kernel.lean ====
abbrev S1x8192x2048 : Shape := ⟨3, ![1, 8192, 2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S1x8192x11008 : Shape := ⟨3, ![1, 8192, 11008]⟩
abbrev S_ : Shape := ⟨0, ![]⟩
abbrev S1x8194x11008 : Shape := ⟨3, ![1, 8194, 11008]⟩
abbrev S1x11008 : Shape := ⟨2, ![1, 11008]⟩
abbrev S1x1x11008 : Shape := ⟨3, ![1, 1, 11008]⟩
abbrev S3x8x1376 : Shape := ⟨3, ![3, 8, 1376]⟩
abbrev S8x3x1376 : Shape := ⟨3, ![8, 3, 1376]⟩
abbrev S8192x2048 : Shape := ⟨2, ![8192, 2048]⟩
abbrev S4x1376x2048 : Shape := ⟨3, ![4, 1376, 2048]⟩
abbrev S8192x11008 : Shape := ⟨2, ![8192, 11008]⟩
abbrev S8192x8x1376 : Shape := ⟨3, ![8192, 8, 1376]⟩
abbrev S8x8192x1376 : Shape := ⟨3, ![8, 8192, 1376]⟩
abbrev S2x4x8192x1376 : Shape := ⟨4, ![2, 4, 8192, 1376]⟩
abbrev S2x4x3x1376 : Shape := ⟨4, ![2, 4, 3, 1376]⟩
abbrev S2x4x1x1376 : Shape := ⟨4, ![2, 4, 1, 1376]⟩
abbrev S512x2048 : Shape := ⟨2, ![512, 2048]⟩
abbrev S1x1376x2048 : Shape := ⟨3, ![1, 1376, 2048]⟩
abbrev S2x1x512x1376 : Shape := ⟨4, ![2, 1, 512, 1376]⟩
abbrev S2x1x3x1376 : Shape := ⟨4, ![2, 1, 3, 1376]⟩
abbrev S2x1x1x1376 : Shape := ⟨4, ![2, 1, 1, 1376]⟩
abbrev S2x8x1376 : Shape := ⟨3, ![2, 8, 1376]⟩
abbrev S2x3x1376 : Shape := ⟨3, ![2, 3, 1376]⟩
abbrev S2x1x1376 : Shape := ⟨3, ![2, 1, 1376]⟩
abbrev S1376x2048 : Shape := ⟨2, ![1376, 2048]⟩
abbrev S512x1376 : Shape := ⟨2, ![512, 1376]⟩
abbrev S1x1x512x1376 : Shape := ⟨4, ![1, 1, 512, 1376]⟩
abbrev S1x8x1376 : Shape := ⟨3, ![1, 8, 1376]⟩
abbrev S8x1376 : Shape := ⟨2, ![8, 1376]⟩
abbrev S520x1376 : Shape := ⟨2, ![520, 1376]⟩
abbrev S1x1x1x1376 : Shape := ⟨4, ![1, 1, 1, 1376]⟩
abbrev S1x1376 : Shape := ⟨2, ![1, 1376]⟩
abbrev S1376 : Shape := ⟨1, ![1376]⟩

abbrev nBuf : Space → Nat
  | .hbm => 51
  | .vmem => 17
  | .smem => 0
  | _ => 0

abbrev bufTy : (tb : Table) → Fin (tcTables nBuf tb) → BufTy
  | .hbm, ⟨0, _⟩ => ⟨S1x8192x2048, .f32⟩
  | .hbm, ⟨1, _⟩ => ⟨S2048x11008, .f32⟩
  | .hbm, ⟨2, _⟩ => ⟨S3x11008, .f32⟩
  | .hbm, ⟨3, _⟩ => ⟨S11008, .f32⟩
  | .hbm, ⟨4, _⟩ => ⟨S5504x2048, .f32⟩
  | .hbm, ⟨5, _⟩ => ⟨S1x8192x2048, .f32⟩
  | .hbm, ⟨6, _⟩ => ⟨S1x8192x11008, .f32⟩
  | .hbm, ⟨7, _⟩ => ⟨S_, .i32⟩
  | .hbm, ⟨8, _⟩ => ⟨S_, .f32⟩
  | .hbm, ⟨9, _⟩ => ⟨S1x8194x11008, .f32⟩
  | .hbm, ⟨10, _⟩ => ⟨S1x11008, .f32⟩
  | .hbm, ⟨11, _⟩ => ⟨S11008, .f32⟩
  | .hbm, ⟨12, _⟩ => ⟨S1x8192x11008, .f32⟩
  | .hbm, ⟨13, _⟩ => ⟨S1x1x11008, .f32⟩
  | .hbm, ⟨14, _⟩ => ⟨S1x8192x11008, .f32⟩
  | .hbm, ⟨15, _⟩ => ⟨S1x8192x11008, .f32⟩
  | .hbm, ⟨16, _⟩ => ⟨S1x1x11008, .f32⟩
  | .hbm, ⟨17, _⟩ => ⟨S1x8192x11008, .f32⟩
  | .hbm, ⟨18, _⟩ => ⟨S1x8192x11008, .f32⟩
  | .hbm, ⟨19, _⟩ => ⟨S1x11008, .f32⟩
  | .hbm, ⟨20, _⟩ => ⟨S11008, .f32⟩
  | .hbm, ⟨21, _⟩ => ⟨S1x8192x11008, .f32⟩
  | .hbm, ⟨22, _⟩ => ⟨S1x1x11008, .f32⟩
  | .hbm, ⟨23, _⟩ => ⟨S1x8192x11008, .f32⟩
  | .hbm, ⟨24, _⟩ => ⟨S1x8192x11008, .f32⟩
  | .hbm, ⟨25, _⟩ => ⟨S1x8192x11008, .f32⟩
  | .hbm, ⟨26, _⟩ => ⟨S1x11008, .f32⟩
  | .hbm, ⟨27, _⟩ => ⟨S11008, .f32⟩
  | .hbm, ⟨28, _⟩ => ⟨S1x8192x11008, .f32⟩
  | .hbm, ⟨29, _⟩ => ⟨S1x1x11008, .f32⟩
  | .hbm, ⟨30, _⟩ => ⟨S1x8192x11008, .f32⟩
  | .hbm, ⟨31, _⟩ => ⟨S1x8192x11008, .f32⟩
  | .hbm, ⟨32, _⟩ => ⟨S1x8192x11008, .f32⟩
  | .hbm, ⟨33, _⟩ => ⟨S3x8x1376, .f32⟩
  | .hbm, ⟨34, _⟩ => ⟨S8x3x1376, .f32⟩
  | .hbm, ⟨35, _⟩ => ⟨S8192x2048, .f32⟩
  | .hbm, ⟨36, _⟩ => ⟨S8192x2048, .bf16⟩
  | .hbm, ⟨37, _⟩ => ⟨S5504x2048, .bf16⟩
  | .hbm, ⟨38, _⟩ => ⟨S4x1376x2048, .bf16⟩
  | .hbm, ⟨39, _⟩ => ⟨S8192x11008, .f32⟩
  | .hbm, ⟨40, _⟩ => ⟨S8192x8x1376, .f32⟩
  | .hbm, ⟨41, _⟩ => ⟨S8x8192x1376, .f32⟩
  | .hbm, ⟨42, _⟩ => ⟨S8192x11008, .f32⟩
  | .hbm, ⟨43, _⟩ => ⟨S8192x8x1376, .f32⟩
  | .hbm, ⟨44, _⟩ => ⟨S8x8192x1376, .f32⟩
  | .hbm, ⟨45, _⟩ => ⟨S2x4x8192x1376, .f32⟩
  | .hbm, ⟨46, _⟩ => ⟨S2x4x8192x1376, .f32⟩
  | .hbm, ⟨47, _⟩ => ⟨S2x4x3x1376, .f32⟩
  | .hbm, ⟨48, _⟩ => ⟨S2x4x8192x1376, .bf16⟩
  | .hbm, ⟨49, _⟩ => ⟨S2x4x3x1376, .f32⟩
  | .hbm, ⟨50, _⟩ => ⟨S2x4x1x1376, .f32⟩
  | .local _ .vmem, ⟨0, _⟩ => ⟨S512x2048, .bf16⟩
  | .local _ .vmem, ⟨1, _⟩ => ⟨S512x2048, .bf16⟩
  | .local _ .vmem, ⟨2, _⟩ => ⟨S1x1376x2048, .bf16⟩
  | .local _ .vmem, ⟨3, _⟩ => ⟨S1x1376x2048, .bf16⟩
  | .local _ .vmem, ⟨4, _⟩ => ⟨S2x1x512x1376, .f32⟩
  | .local _ .vmem, ⟨5, _⟩ => ⟨S2x1x512x1376, .f32⟩
  | .local _ .vmem, ⟨6, _⟩ => ⟨S2x1x512x1376, .f32⟩
  | .local _ .vmem, ⟨7, _⟩ => ⟨S2x1x512x1376, .f32⟩
  | .local _ .vmem, ⟨8, _⟩ => ⟨S2x1x3x1376, .f32⟩
  | .local _ .vmem, ⟨9, _⟩ => ⟨S2x1x3x1376, .f32⟩
  | .local _ .vmem, ⟨10, _⟩ => ⟨S2x1x512x1376, .bf16⟩
  | .local _ .vmem, ⟨11, _⟩ => ⟨S2x1x512x1376, .bf16⟩
  | .local _ .vmem, ⟨12, _⟩ => ⟨S2x1x3x1376, .f32⟩
  | .local _ .vmem, ⟨13, _⟩ => ⟨S2x1x3x1376, .f32⟩
  | .local _ .vmem, ⟨14, _⟩ => ⟨S2x1x1x1376, .f32⟩
  | .local _ .vmem, ⟨15, _⟩ => ⟨S2x1x1x1376, .f32⟩
  | .local _ .vmem, ⟨16, _⟩ => ⟨S2x8x1376, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40_0 : Ref sig .tc := ⟨.hbm, 48, rfl⟩
abbrev main_v40_1 : Ref sig .tc := ⟨.hbm, 49, rfl⟩
abbrev main_v40_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1376x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x3x1376 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x512x1376 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x3x1376 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x1x1376 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S1x8192x2048 : Shape := ⟨3, ![1, 8192, 2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S1x8192x11008 : Shape := ⟨3, ![1, 8192, 11008]⟩
abbrev S_ : Shape := ⟨0, ![]⟩
abbrev S1x2x11008 : Shape := ⟨3, ![1, 2, 11008]⟩
abbrev S1x8194x11008 : Shape := ⟨3, ![1, 8194, 11008]⟩
abbrev S1x11008 : Shape := ⟨2, ![1, 11008]⟩
abbrev S1x1x11008 : Shape := ⟨3, ![1, 1, 11008]⟩
abbrev S1x8192x5504 : Shape := ⟨3, ![1, 8192, 5504]⟩
abbrev S8192x2x4x1376 : Shape := ⟨4, ![8192, 2, 4, 1376]⟩
abbrev S2x4x8192x1376 : Shape := ⟨4, ![2, 4, 8192, 1376]⟩
abbrev S3x2x4x1376 : Shape := ⟨4, ![3, 2, 4, 1376]⟩
abbrev S2x4x3x1376 : Shape := ⟨4, ![2, 4, 3, 1376]⟩
abbrev S2x4x1x1376 : Shape := ⟨4, ![2, 4, 1, 1376]⟩

abbrev nBuf : Space → Nat
  | .hbm => 116
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x11008, .f32⟩
  | .hbm, ⟨2, _⟩ => ⟨S3x11008, .f32⟩
  | .hbm, ⟨3, _⟩ => ⟨S11008, .f32⟩
  | .hbm, ⟨4, _⟩ => ⟨S5504x2048, .f32⟩
  | .hbm, ⟨5, _⟩ => ⟨S1x8192x2048, .f32⟩
  | .hbm, ⟨6, _⟩ => ⟨S1x8192x11008, .f32⟩
  | .hbm, ⟨7, _⟩ => ⟨S_, .f32⟩
  | .hbm, ⟨8, _⟩ => ⟨S1x2x11008, .f32⟩
  | .hbm, ⟨9, _⟩ => ⟨S1x8194x11008, .f32⟩
  | .hbm, ⟨10, _⟩ => ⟨S_, .f32⟩
  | .hbm, ⟨11, _⟩ => ⟨S1x2x11008, .f32⟩
  | .hbm, ⟨12, _⟩ => ⟨S1x11008, .f32⟩
  | .hbm, ⟨13, _⟩ => ⟨S11008, .f32⟩
  | .hbm, ⟨14, _⟩ => ⟨S1x8192x11008, .f32⟩
  | .hbm, ⟨15, _⟩ => ⟨S1x1x11008, .f32⟩
  | .hbm, ⟨16, _⟩ => ⟨S1x8192x11008, .f32⟩
  | .hbm, ⟨17, _⟩ => ⟨S1x8192x11008, .f32⟩
  | .hbm, ⟨18, _⟩ => ⟨S1x1x11008, .f32⟩
  | .hbm, ⟨19, _⟩ => ⟨S1x8192x11008, .f32⟩
  | .hbm, ⟨20, _⟩ => ⟨S1x8192x11008, .f32⟩
  | .hbm, ⟨21, _⟩ => ⟨S1x11008, .f32⟩
  | .hbm, ⟨22, _⟩ => ⟨S11008, .f32⟩
  | .hbm, ⟨23, _⟩ => ⟨S1x8192x11008, .f32⟩
  | .hbm, ⟨24, _⟩ => ⟨S1x1x11008, .f32⟩
  | .hbm, ⟨25, _⟩ => ⟨S1x8192x11008, .f32⟩
  | .hbm, ⟨26, _⟩ => ⟨S1x8192x11008, .f32⟩
  | .hbm, ⟨27, _⟩ => ⟨S1x8192x11008, .f32⟩
  | .hbm, ⟨28, _⟩ => ⟨S1x11008, .f32⟩
  | .hbm, ⟨29, _⟩ => ⟨S11008, .f32⟩
  | .hbm, ⟨30, _⟩ => ⟨S1x8192x11008, .f32⟩
  | .hbm, ⟨31, _⟩ => ⟨S1x1x11008, .f32⟩
  | .hbm, ⟨32, _⟩ => ⟨S1x8192x11008, .f32⟩
  | .hbm, ⟨33, _⟩ => ⟨S1x8192x11008, .f32⟩
  | .hbm, ⟨34, _⟩ => ⟨S1x8192x11008, .f32⟩
  | .hbm, ⟨35, _⟩ => ⟨S1x8192x5504, .f32⟩
  | .hbm, ⟨36, _⟩ => ⟨S1x8192x5504, .f32⟩
  | .hbm, ⟨37, _⟩ => ⟨S1x8192x5504, .f32⟩
  | .hbm, ⟨38, _⟩ => ⟨S1x8192x5504, .f32⟩
  | .hbm, ⟨39, _⟩ => ⟨S_, .f32⟩
  | .hbm, ⟨40, _⟩ => ⟨S1x8192x5504, .f32⟩
  | .hbm, ⟨41, _⟩ => ⟨S1x8192x5504, .f32⟩
  | .hbm, ⟨42, _⟩ => ⟨S_, .f32⟩
  | .hbm, ⟨43, _⟩ => ⟨S1x8192x5504, .f32⟩
  | .hbm, ⟨44, _⟩ => ⟨S1x8192x5504, .f32⟩
  | .hbm, ⟨45, _⟩ => ⟨S_, .f32⟩
  | .hbm, ⟨46, _⟩ => ⟨S1x8192x5504, .f32⟩
  | .hbm, ⟨47, _⟩ => ⟨S1x8192x5504, .f32⟩
  | .hbm, ⟨48, _⟩ => ⟨S1x8192x5504, .f32⟩
  | .hbm, ⟨49, _⟩ => ⟨S1x8192x5504, .f32⟩
  | .hbm, ⟨50, _⟩ => ⟨S1x8192x5504, .f32⟩
  | .hbm, ⟨51, _⟩ => ⟨S1x8192x2048, .f32⟩
  | .hbm, ⟨52, _⟩ => ⟨S1x8192x5504, .f32⟩
  | .hbm, ⟨53, _⟩ => ⟨S1x8192x5504, .f32⟩
  | .hbm, ⟨54, _⟩ => ⟨S1x8192x5504, .f32⟩
  | .hbm, ⟨55, _⟩ => ⟨S1x8192x5504, .f32⟩
  | .hbm, ⟨56, _⟩ => ⟨S1x8192x5504, .f32⟩
  | .hbm, ⟨57, _⟩ => ⟨S1x8192x5504, .f32⟩
  | .hbm, ⟨58, _⟩ => ⟨S1x8192x5504, .f32⟩
  | .hbm, ⟨59, _⟩ => ⟨S1x8192x11008, .f32⟩
  | .hbm, ⟨60, _⟩ => ⟨S1x8192x11008, .f32⟩
  | .hbm, ⟨61, _⟩ => ⟨S1x8192x11008, .f32⟩
  | .hbm, ⟨62, _⟩ => ⟨S1x8192x11008, .f32⟩
  | .hbm, ⟨63, _⟩ => ⟨S_, .f32⟩
  | .hbm, ⟨64, _⟩ => ⟨S1x11008, .f32⟩
  | .hbm, ⟨65, _⟩ => ⟨S1x1x11008, .f32⟩
  | .hbm, ⟨66, _⟩ => ⟨S_, .f32⟩
  | .hbm, ⟨67, _⟩ => ⟨S11008, .f32⟩
  | .hbm, ⟨68, _⟩ => ⟨S_, .f32⟩
  | .hbm, ⟨69, _⟩ => ⟨S1x8194x11008, .f32⟩
  | .hbm, ⟨70, _⟩ => ⟨S1x11008, .f32⟩
  | .hbm, ⟨71, _⟩ => ⟨S_, .f32⟩
  | .hbm, ⟨72, _⟩ => ⟨S3x11008, .f32⟩
  | .hbm, ⟨73, _⟩ => ⟨S1x8192x11008, .f32⟩
  | .hbm, ⟨74, _⟩ => ⟨S1x8192x11008, .f32⟩
  | .hbm, ⟨75, _⟩ => ⟨S1x8192x11008, .f32⟩
  | .hbm, ⟨76, _⟩ => ⟨S_, .f32⟩
  | .hbm, ⟨77, _⟩ => ⟨S1x11008, .f32⟩
  | .hbm, ⟨78, _⟩ => ⟨S1x1x11008, .f32⟩
  | .hbm, ⟨79, _⟩ => ⟨S_, .f32⟩
  | .hbm, ⟨80, _⟩ => ⟨S11008, .f32⟩
  | .hbm, ⟨81, _⟩ => ⟨S_, .f32⟩
  | .hbm, ⟨82, _⟩ => ⟨S1x8194x11008, .f32⟩
  | .hbm, ⟨83, _⟩ => ⟨S1x8194x11008, .f32⟩
  | .hbm, ⟨84, _⟩ => ⟨S1x11008, .f32⟩
  | .hbm, ⟨85, _⟩ => ⟨S_, .f32⟩
  | .hbm, ⟨86, _⟩ => ⟨S3x11008, .f32⟩
  | .hbm, ⟨87, _⟩ => ⟨S3x11008, .f32⟩
  | .hbm, ⟨88, _⟩ => ⟨S_, .f32⟩
  | .hbm, ⟨89, _⟩ => ⟨S1x11008, .f32⟩
  | .hbm, ⟨90, _⟩ => ⟨S1x1x11008, .f32⟩
  | .hbm, ⟨91, _⟩ => ⟨S_, .f32⟩
  | .hbm, ⟨92, _⟩ => ⟨S11008, .f32⟩
  | .hbm, ⟨93, _⟩ => ⟨S1x8192x11008, .f32⟩
  | .hbm, ⟨94, _⟩ => ⟨S1x8192x11008, .f32⟩
  | .hbm, ⟨95, _⟩ => ⟨S1x8192x11008, .f32⟩
  | .hbm, ⟨96, _⟩ => ⟨S_, .f32⟩
  | .hbm, ⟨97, _⟩ => ⟨S1x11008, .f32⟩
  | .hbm, ⟨98, _⟩ => ⟨S1x1x11008, .f32⟩
  | .hbm, ⟨99, _⟩ => ⟨S_, .f32⟩
  | .hbm, ⟨100, _⟩ => ⟨S11008, .f32⟩
  | .hbm, ⟨101, _⟩ => ⟨S_, .f32⟩
  | .hbm, ⟨102, _⟩ => ⟨S1x8194x11008, .f32⟩
  | .hbm, ⟨103, _⟩ => ⟨S1x8194x11008, .f32⟩
  | .hbm, ⟨104, _⟩ => ⟨S1x11008, .f32⟩
  | .hbm, ⟨105, _⟩ => ⟨S_, .f32⟩
  | .hbm, ⟨106, _⟩ => ⟨S3x11008, .f32⟩
  | .hbm, ⟨107, _⟩ => ⟨S3x11008, .f32⟩
  | .hbm, ⟨108, _⟩ => ⟨S1x2x11008, .f32⟩
  | .hbm, ⟨109, _⟩ => ⟨S1x8192x11008, .f32⟩
  | .hbm, ⟨110, _⟩ => ⟨S8192x2x4x1376, .f32⟩
  | .hbm, ⟨111, _⟩ => ⟨S2x4x8192x1376, .f32⟩
  | .hbm, ⟨112, _⟩ => ⟨S2x4x8192x1376, .bf16⟩
  | .hbm, ⟨113, _⟩ => ⟨S3x2x4x1376, .f32⟩
  | .hbm, ⟨114, _⟩ => ⟨S2x4x3x1376, .f32⟩
  | .hbm, ⟨115, _⟩ => ⟨S2x4x1x1376, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_1 : Ref sig .tc := ⟨.hbm, 63, rfl⟩
abbrev main_v40 : Ref sig .tc := ⟨.hbm, 64, rfl⟩
abbrev main_v41 : Ref sig .tc := ⟨.hbm, 65, rfl⟩
abbrev main_cst_2 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== Kernel2.lean ====
abbrev S1x8192x2048 : Shape := ⟨3, ![1, 8192, 2048]⟩
abbrev S2048x11008 : Shape := ⟨2, ![2048, 11008]⟩
abbrev S3x11008 : Shape := ⟨2, ![3, 11008]⟩
abbrev S11008 : Shape := ⟨1, ![11008]⟩
abbrev S3x8x1376 : Shape := ⟨3, ![3, 8, 1376]⟩
abbrev S8x3x1376 : Shape := ⟨3, ![8, 3, 1376]⟩
abbrev S8192x2048 : Shape := ⟨2, ![8192, 2048]⟩
abbrev S11008x2048 : Shape := ⟨2, ![11008, 2048]⟩
abbrev S8x1376x2048 : Shape := ⟨3, ![8, 1376, 2048]⟩
abbrev S8x1x1376 : Shape := ⟨3, ![8, 1, 1376]⟩
abbrev S2x4x1376x2048 : Shape := ⟨4, ![2, 4, 1376, 2048]⟩
abbrev S2x4x3x1376 : Shape := ⟨4, ![2, 4, 3, 1376]⟩
abbrev S2x4x1x1376 : Shape := ⟨4, ![2, 4, 1, 1376]⟩
abbrev S2x4x8192x1376 : Shape := ⟨4, ![2, 4, 8192, 1376]⟩
abbrev S4x8192x1376 : Shape := ⟨3, ![4, 8192, 1376]⟩
abbrev S256x2048 : Shape := ⟨2, ![256, 2048]⟩
abbrev S2x1x1376x2048 : Shape := ⟨4, ![2, 1, 1376, 2048]⟩
abbrev S2x1x3x1376 : Shape := ⟨4, ![2, 1, 3, 1376]⟩
abbrev S2x1x1x1376 : Shape := ⟨4, ![2, 1, 1, 1376]⟩
abbrev S2x1x256x1376 : Shape := ⟨4, ![2, 1, 256, 1376]⟩
abbrev S1x256x1376 : Shape := ⟨3, ![1, 256, 1376]⟩
abbrev S2x8x1376 : Shape := ⟨3, ![2, 8, 1376]⟩
abbrev S1x1x1376x2048 : Shape := ⟨4, ![1, 1, 1376, 2048]⟩
abbrev S1376x2048 : Shape := ⟨2, ![1376, 2048]⟩
abbrev S256x1376 : Shape := ⟨2, ![256, 1376]⟩
abbrev S1x1x256x1376 : Shape := ⟨4, ![1, 1, 256, 1376]⟩
abbrev S1x8x1376 : Shape := ⟨3, ![1, 8, 1376]⟩
abbrev S8x1376 : Shape := ⟨2, ![8, 1376]⟩
abbrev S264x1376 : Shape := ⟨2, ![264, 1376]⟩
abbrev S1x1x1x1376 : Shape := ⟨4, ![1, 1, 1, 1376]⟩
abbrev S1x1376 : Shape := ⟨2, ![1, 1376]⟩

abbrev nBuf : Space → Nat
  | .hbm => 18
  | .vmem => 15
  | .smem => 0
  | _ => 0

abbrev bufTy : (tb : Table) → Fin (tcTables nBuf tb) → BufTy
  | .hbm, ⟨0, _⟩ => ⟨S1x8192x2048, .f32⟩
  | .hbm, ⟨1, _⟩ => ⟨S2048x11008, .f32⟩
  | .hbm, ⟨2, _⟩ => ⟨S3x11008, .f32⟩
  | .hbm, ⟨3, _⟩ => ⟨S11008, .f32⟩
  | .hbm, ⟨4, _⟩ => ⟨S3x8x1376, .f32⟩
  | .hbm, ⟨5, _⟩ => ⟨S8x3x1376, .f32⟩
  | .hbm, ⟨6, _⟩ => ⟨S8192x2048, .f32⟩
  | .hbm, ⟨7, _⟩ => ⟨S8192x2048, .bf16⟩
  | .hbm, ⟨8, _⟩ => ⟨S11008x2048, .f32⟩
  | .hbm, ⟨9, _⟩ => ⟨S11008x2048, .bf16⟩
  | .hbm, ⟨10, _⟩ => ⟨S8x1376x2048, .bf16⟩
  | .hbm, ⟨11, _⟩ => ⟨S8x1x1376, .f32⟩
  | .hbm, ⟨12, _⟩ => ⟨S2x4x1376x2048, .bf16⟩
  | .hbm, ⟨13, _⟩ => ⟨S2x4x3x1376, .f32⟩
  | .hbm, ⟨14, _⟩ => ⟨S2x4x1x1376, .f32⟩
  | .hbm, ⟨15, _⟩ => ⟨S2x4x8192x1376, .f32⟩
  | .hbm, ⟨16, _⟩ => ⟨S2x4x8192x1376, .f32⟩
  | .hbm, ⟨17, _⟩ => ⟨S4x8192x1376, .bf16⟩
  | .local _ .vmem, ⟨0, _⟩ => ⟨S256x2048, .bf16⟩
  | .local _ .vmem, ⟨1, _⟩ => ⟨S256x2048, .bf16⟩
  | .local _ .vmem, ⟨2, _⟩ => ⟨S2x1x1376x2048, .bf16⟩
  | .local _ .vmem, ⟨3, _⟩ => ⟨S2x1x1376x2048, .bf16⟩
  | .local _ .vmem, ⟨4, _⟩ => ⟨S2x1x3x1376, .f32⟩
  | .local _ .vmem, ⟨5, _⟩ => ⟨S2x1x3x1376, .f32⟩
  | .local _ .vmem, ⟨6, _⟩ => ⟨S2x1x1x1376, .f32⟩
  | .local _ .vmem, ⟨7, _⟩ => ⟨S2x1x1x1376, .f32⟩
  | .local _ .vmem, ⟨8, _⟩ => ⟨S2x1x256x1376, .f32⟩
  | .local _ .vmem, ⟨9, _⟩ => ⟨S2x1x256x1376, .f32⟩
  | .local _ .vmem, ⟨10, _⟩ => ⟨S2x1x256x1376, .f32⟩
  | .local _ .vmem, ⟨11, _⟩ => ⟨S2x1x256x1376, .f32⟩
  | .local _ .vmem, ⟨12, _⟩ => ⟨S1x256x1376, .bf16⟩
  | .local _ .vmem, ⟨13, _⟩ => ⟨S1x256x1376, .bf16⟩
  | .local _ .vmem, ⟨14, _⟩ => ⟨S2x8x1376, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x1376x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x3x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x256x1376 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x256x1376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1376 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S1x8192x2048 : Shape := ⟨3, ![1, 8192, 2048]⟩
abbrev S2048x11008 : Shape := ⟨2, ![2048, 11008]⟩
abbrev S3x11008 : Shape := ⟨2, ![3, 11008]⟩
abbrev S11008 : Shape := ⟨1, ![11008]⟩
abbrev S1x8192x11008 : Shape := ⟨3, ![1, 8192, 11008]⟩
abbrev S_ : Shape := ⟨0, ![]⟩
abbrev S1x8194x11008 : Shape := ⟨3, ![1, 8194, 11008]⟩
abbrev S1x11008 : Shape := ⟨2, ![1, 11008]⟩
abbrev S1x1x11008 : Shape := ⟨3, ![1, 1, 11008]⟩
abbrev S1x8192x5504 : Shape := ⟨3, ![1, 8192, 5504]⟩
abbrev S8192x2x4x1376 : Shape := ⟨4, ![8192, 2, 4, 1376]⟩
abbrev S2x4x8192x1376 : Shape := ⟨4, ![2, 4, 8192, 1376]⟩
abbrev S8192x4x1376 : Shape := ⟨3, ![8192, 4, 1376]⟩
abbrev S4x8192x1376 : Shape := ⟨3, ![4, 8192, 1376]⟩

abbrev nBuf : Space → Nat
  | .hbm => 50
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x11008, .f32⟩
  | .hbm, ⟨2, _⟩ => ⟨S3x11008, .f32⟩
  | .hbm, ⟨3, _⟩ => ⟨S11008, .f32⟩
  | .hbm, ⟨4, _⟩ => ⟨S1x8192x11008, .f32⟩
  | .hbm, ⟨5, _⟩ => ⟨S_, .i32⟩
  | .hbm, ⟨6, _⟩ => ⟨S_, .f32⟩
  | .hbm, ⟨7, _⟩ => ⟨S1x8194x11008, .f32⟩
  | .hbm, ⟨8, _⟩ => ⟨S1x11008, .f32⟩
  | .hbm, ⟨9, _⟩ => ⟨S11008, .f32⟩
  | .hbm, ⟨10, _⟩ => ⟨S1x8192x11008, .f32⟩
  | .hbm, ⟨11, _⟩ => ⟨S1x1x11008, .f32⟩
  | .hbm, ⟨12, _⟩ => ⟨S1x8192x11008, .f32⟩
  | .hbm, ⟨13, _⟩ => ⟨S1x8192x11008, .f32⟩
  | .hbm, ⟨14, _⟩ => ⟨S1x1x11008, .f32⟩
  | .hbm, ⟨15, _⟩ => ⟨S1x8192x11008, .f32⟩
  | .hbm, ⟨16, _⟩ => ⟨S1x8192x11008, .f32⟩
  | .hbm, ⟨17, _⟩ => ⟨S1x11008, .f32⟩
  | .hbm, ⟨18, _⟩ => ⟨S11008, .f32⟩
  | .hbm, ⟨19, _⟩ => ⟨S1x8192x11008, .f32⟩
  | .hbm, ⟨20, _⟩ => ⟨S1x1x11008, .f32⟩
  | .hbm, ⟨21, _⟩ => ⟨S1x8192x11008, .f32⟩
  | .hbm, ⟨22, _⟩ => ⟨S1x8192x11008, .f32⟩
  | .hbm, ⟨23, _⟩ => ⟨S1x8192x11008, .f32⟩
  | .hbm, ⟨24, _⟩ => ⟨S1x11008, .f32⟩
  | .hbm, ⟨25, _⟩ => ⟨S11008, .f32⟩
  | .hbm, ⟨26, _⟩ => ⟨S1x8192x11008, .f32⟩
  | .hbm, ⟨27, _⟩ => ⟨S1x1x11008, .f32⟩
  | .hbm, ⟨28, _⟩ => ⟨S1x8192x11008, .f32⟩
  | .hbm, ⟨29, _⟩ => ⟨S1x8192x11008, .f32⟩
  | .hbm, ⟨30, _⟩ => ⟨S1x8192x11008, .f32⟩
  | .hbm, ⟨31, _⟩ => ⟨S1x8192x5504, .f32⟩
  | .hbm, ⟨32, _⟩ => ⟨S1x8192x5504, .f32⟩
  | .hbm, ⟨33, _⟩ => ⟨S1x8192x5504, .f32⟩
  | .hbm, ⟨34, _⟩ => ⟨S1x8192x5504, .f32⟩
  | .hbm, ⟨35, _⟩ => ⟨S_, .f32⟩
  | .hbm, ⟨36, _⟩ => ⟨S1x8192x5504, .f32⟩
  | .hbm, ⟨37, _⟩ => ⟨S1x8192x5504, .f32⟩
  | .hbm, ⟨38, _⟩ => ⟨S_, .f32⟩
  | .hbm, ⟨39, _⟩ => ⟨S1x8192x5504, .f32⟩
  | .hbm, ⟨40, _⟩ => ⟨S1x8192x5504, .f32⟩
  | .hbm, ⟨41, _⟩ => ⟨S1x8192x5504, .f32⟩
  | .hbm, ⟨42, _⟩ => ⟨S1x8192x5504, .f32⟩
  | .hbm, ⟨43, _⟩ => ⟨S8192x2x4x1376, .f32⟩
  | .hbm, ⟨44, _⟩ => ⟨S2x4x8192x1376, .f32⟩
  | .hbm, ⟨45, _⟩ => ⟨S8192x2x4x1376, .f32⟩
  | .hbm, ⟨46, _⟩ => ⟨S2x4x8192x1376, .f32⟩
  | .hbm, ⟨47, _⟩ => ⟨S8192x4x1376, .f32⟩
  | .hbm, ⟨48, _⟩ => ⟨S4x8192x1376, .f32⟩
  | .hbm, ⟨49, _⟩ => ⟨S4x8192x1376, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel3.lean ====
abbrev S1x8192x5504 : Shape := ⟨3, ![1, 8192, 5504]⟩
abbrev S5504x2048 : Shape := ⟨2, ![5504, 2048]⟩
abbrev S1x8192x2048 : Shape := ⟨3, ![1, 8192, 2048]⟩
abbrev S8192x5504 : Shape := ⟨2, ![8192, 5504]⟩
abbrev S8192x4x1376 : Shape := ⟨3, ![8192, 4, 1376]⟩
abbrev S4x8192x1376 : Shape := ⟨3, ![4, 8192, 1376]⟩
abbrev S4x1376x2048 : Shape := ⟨3, ![4, 1376, 2048]⟩
abbrev S1x2048x1376 : Shape := ⟨3, ![1, 2048, 1376]⟩
abbrev S1x2048x1024 : Shape := ⟨3, ![1, 2048, 1024]⟩
abbrev S1x1376x1024 : Shape := ⟨3, ![1, 1376, 1024]⟩
abbrev S1376x1024 : Shape := ⟨2, ![1376, 1024]⟩
abbrev S2048x1376 : Shape := ⟨2, ![2048, 1376]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x5504, .f32⟩
  | .hbm, ⟨1, _⟩ => ⟨S5504x2048, .f32⟩
  | .hbm, ⟨2, _⟩ => ⟨S1x8192x2048, .f32⟩
  | .hbm, ⟨3, _⟩ => ⟨S8192x5504, .f32⟩
  | .hbm, ⟨4, _⟩ => ⟨S8192x5504, .bf16⟩
  | .hbm, ⟨5, _⟩ => ⟨S8192x4x1376, .bf16⟩
  | .hbm, ⟨6, _⟩ => ⟨S4x8192x1376, .bf16⟩
  | .hbm, ⟨7, _⟩ => ⟨S1x8192x2048, .bf16⟩
  | .hbm, ⟨8, _⟩ => ⟨S4x1376x2048, .bf16⟩
  | .local _ .vmem, ⟨0, _⟩ => ⟨S1x2048x1376, .bf16⟩
  | .local _ .vmem, ⟨1, _⟩ => ⟨S1x2048x1376, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1376x1024, .bf16⟩
  | .local _ .vmem, ⟨5, _⟩ => ⟨S1x1376x1024, .bf16⟩
  | .local _ .vmem, ⟨6, _⟩ => ⟨S1376x1024, .f32⟩
  | _, _ => ⟨S1x8192x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S1x8192x5504 : Shape := ⟨3, ![1, 8192, 5504]⟩
abbrev S5504x2048 : Shape := ⟨2, ![5504, 2048]⟩
abbrev S1x8192x2048 : Shape := ⟨3, ![1, 8192, 2048]⟩
abbrev S2048x5504 : Shape := ⟨2, ![2048, 5504]⟩
abbrev S4x1376x2048 : Shape := ⟨3, ![4, 1376, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x5504, .f32⟩
  | .hbm, ⟨1, _⟩ => ⟨S5504x2048, .f32⟩
  | .hbm, ⟨2, _⟩ => ⟨S1x8192x2048, .f32⟩
  | .hbm, ⟨3, _⟩ => ⟨S1x8192x2048, .f32⟩
  | .hbm, ⟨4, _⟩ => ⟨S2048x5504, .f32⟩
  | .hbm, ⟨5, _⟩ => ⟨S5504x2048, .f32⟩
  | .hbm, ⟨6, _⟩ => ⟨S4x1376x2048, .f32⟩
  | .hbm, ⟨7, _⟩ => ⟨S4x1376x2048, .bf16⟩
  | _, _ => ⟨S1x8192x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S1x8192x2048 : Shape := ⟨3, ![1, 8192, 2048]⟩
abbrev S2048x11008 : Shape := ⟨2, ![2048, 11008]⟩
abbrev S1x8192x11008 : Shape := ⟨3, ![1, 8192, 11008]⟩
abbrev S8192x11008 : Shape := ⟨2, ![8192, 11008]⟩
abbrev S8192x8x1376 : Shape := ⟨3, ![8192, 8, 1376]⟩
abbrev S8x8192x1376 : Shape := ⟨3, ![8, 8192, 1376]⟩
abbrev S8x1376x2048 : Shape := ⟨3, ![8, 1376, 2048]⟩
abbrev S1x2048x1376 : Shape := ⟨3, ![1, 2048, 1376]⟩
abbrev S1x2048x1024 : Shape := ⟨3, ![1, 2048, 1024]⟩
abbrev S1x1376x1024 : Shape := ⟨3, ![1, 1376, 1024]⟩
abbrev S1376x1024 : Shape := ⟨2, ![1376, 1024]⟩
abbrev S2048x1376 : Shape := ⟨2, ![2048, 1376]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S2048x11008, .f32⟩
  | .hbm, ⟨2, _⟩ => ⟨S1x8192x11008, .f32⟩
  | .hbm, ⟨3, _⟩ => ⟨S8192x11008, .f32⟩
  | .hbm, ⟨4, _⟩ => ⟨S8192x11008, .bf16⟩
  | .hbm, ⟨5, _⟩ => ⟨S8192x8x1376, .bf16⟩
  | .hbm, ⟨6, _⟩ => ⟨S8x8192x1376, .bf16⟩
  | .hbm, ⟨7, _⟩ => ⟨S1x8192x2048, .bf16⟩
  | .hbm, ⟨8, _⟩ => ⟨S8x1376x2048, .bf16⟩
  | .local _ .vmem, ⟨0, _⟩ => ⟨S1x2048x1376, .bf16⟩
  | .local _ .vmem, ⟨1, _⟩ => ⟨S1x2048x1376, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1376x1024, .bf16⟩
  | .local _ .vmem, ⟨5, _⟩ => ⟨S1x1376x1024, .bf16⟩
  | .local _ .vmem, ⟨6, _⟩ => ⟨S1376x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference4Ideal.lean ====
abbrev S1x8192x2048 : Shape := ⟨3, ![1, 8192, 2048]⟩
abbrev S2048x11008 : Shape := ⟨2, ![2048, 11008]⟩
abbrev S1x8192x11008 : Shape := ⟨3, ![1, 8192, 11008]⟩
abbrev S11008x2048 : Shape := ⟨2, ![11008, 2048]⟩
abbrev S8x1376x2048 : Shape := ⟨3, ![8, 1376, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x11008, .f32⟩
  | .hbm, ⟨2, _⟩ => ⟨S1x8192x11008, .f32⟩
  | .hbm, ⟨3, _⟩ => ⟨S1x8192x11008, .f32⟩
  | .hbm, ⟨4, _⟩ => ⟨S11008x2048, .f32⟩
  | .hbm, ⟨5, _⟩ => ⟨S2048x11008, .f32⟩
  | .hbm, ⟨6, _⟩ => ⟨S11008x2048, .f32⟩
  | .hbm, ⟨7, _⟩ => ⟨S8x1376x2048, .f32⟩
  | .hbm, ⟨8, _⟩ => ⟨S8x1376x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S1x8192x2048 : Shape := ⟨3, ![1, 8192, 2048]⟩
abbrev S2048x11008 : Shape := ⟨2, ![2048, 11008]⟩
abbrev S1x8192x11008 : Shape := ⟨3, ![1, 8192, 11008]⟩
abbrev S8192x11008 : Shape := ⟨2, ![8192, 11008]⟩
abbrev S8192x8x1376 : Shape := ⟨3, ![8192, 8, 1376]⟩
abbrev S8x8192x1376 : Shape := ⟨3, ![8, 8192, 1376]⟩
abbrev S11008x2048 : Shape := ⟨2, ![11008, 2048]⟩
abbrev S8x1376x2048 : Shape := ⟨3, ![8, 1376, 2048]⟩
abbrev S8192x2048 : Shape := ⟨2, ![8192, 2048]⟩
abbrev S1x1024x1376 : Shape := ⟨3, ![1, 1024, 1376]⟩
abbrev S1x1376x2048 : Shape := ⟨3, ![1, 1376, 2048]⟩
abbrev S1024x2048 : Shape := ⟨2, ![1024, 2048]⟩
abbrev S1024x1376 : Shape := ⟨2, ![1024, 1376]⟩
abbrev S1376x2048 : Shape := ⟨2, ![1376, 2048]⟩

abbrev nBuf : Space → Nat
  | .hbm => 11
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S2048x11008, .f32⟩
  | .hbm, ⟨2, _⟩ => ⟨S1x8192x11008, .f32⟩
  | .hbm, ⟨3, _⟩ => ⟨S8192x11008, .f32⟩
  | .hbm, ⟨4, _⟩ => ⟨S8192x11008, .bf16⟩
  | .hbm, ⟨5, _⟩ => ⟨S8192x8x1376, .bf16⟩
  | .hbm, ⟨6, _⟩ => ⟨S8x8192x1376, .bf16⟩
  | .hbm, ⟨7, _⟩ => ⟨S11008x2048, .f32⟩
  | .hbm, ⟨8, _⟩ => ⟨S11008x2048, .bf16⟩
  | .hbm, ⟨9, _⟩ => ⟨S8x1376x2048, .bf16⟩
  | .hbm, ⟨10, _⟩ => ⟨S8192x2048, .f32⟩
  | .local _ .vmem, ⟨0, _⟩ => ⟨S1x1024x1376, .bf16⟩
  | .local _ .vmem, ⟨1, _⟩ => ⟨S1x1024x1376, .bf16⟩
  | .local _ .vmem, ⟨2, _⟩ => ⟨S1x1376x2048, .bf16⟩
  | .local _ .vmem, ⟨3, _⟩ => ⟨S1x1376x2048, .bf16⟩
  | .local _ .vmem, ⟨4, _⟩ => ⟨S1024x2048, .f32⟩
  | .local _ .vmem, ⟨5, _⟩ => ⟨S1024x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1376x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S1x8192x2048 : Shape := ⟨3, ![1, 8192, 2048]⟩
abbrev S2048x11008 : Shape := ⟨2, ![2048, 11008]⟩
abbrev S1x8192x11008 : Shape := ⟨3, ![1, 8192, 11008]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x11008, .f32⟩
  | .hbm, ⟨2, _⟩ => ⟨S1x8192x11008, .f32⟩
  | .hbm, ⟨3, _⟩ => ⟨S1x8192x11008, .f32⟩
  | .hbm, ⟨4, _⟩ => ⟨S1x8192x2048, .f32⟩
  | .hbm, ⟨5, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S1x8192x5504 : Shape := ⟨3, ![1, 8192, 5504]⟩
abbrev S5504x2048 : Shape := ⟨2, ![5504, 2048]⟩
abbrev S8192x5504 : Shape := ⟨2, ![8192, 5504]⟩
abbrev S8192x4x1376 : Shape := ⟨3, ![8192, 4, 1376]⟩
abbrev S4x8192x1376 : Shape := ⟨3, ![4, 8192, 1376]⟩
abbrev S4x1376x2048 : Shape := ⟨3, ![4, 1376, 2048]⟩
abbrev S8192x2048 : Shape := ⟨2, ![8192, 2048]⟩
abbrev S1x1024x1376 : Shape := ⟨3, ![1, 1024, 1376]⟩
abbrev S1x1376x2048 : Shape := ⟨3, ![1, 1376, 2048]⟩
abbrev S1024x2048 : Shape := ⟨2, ![1024, 2048]⟩
abbrev S1024x1376 : Shape := ⟨2, ![1024, 1376]⟩
abbrev S1376x2048 : Shape := ⟨2, ![1376, 2048]⟩

abbrev nBuf : Space → Nat
  | .hbm => 9
  | .vmem => 6
  | .smem => 0
  | _ => 0

abbrev bufTy : (tb : Table) → Fin (tcTables nBuf tb) → BufTy
  | .hbm, ⟨0, _⟩ => ⟨S1x8192x5504, .f32⟩
  | .hbm, ⟨1, _⟩ => ⟨S5504x2048, .f32⟩
  | .hbm, ⟨2, _⟩ => ⟨S8192x5504, .f32⟩
  | .hbm, ⟨3, _⟩ => ⟨S8192x5504, .bf16⟩
  | .hbm, ⟨4, _⟩ => ⟨S8192x4x1376, .bf16⟩
  | .hbm, ⟨5, _⟩ => ⟨S4x8192x1376, .bf16⟩
  | .hbm, ⟨6, _⟩ => ⟨S5504x2048, .bf16⟩
  | .hbm, ⟨7, _⟩ => ⟨S4x1376x2048, .bf16⟩
  | .hbm, ⟨8, _⟩ => ⟨S8192x2048, .f32⟩
  | .local _ .vmem, ⟨0, _⟩ => ⟨S1x1024x1376, .bf16⟩
  | .local _ .vmem, ⟨1, _⟩ => ⟨S1x1024x1376, .bf16⟩
  | .local _ .vmem, ⟨2, _⟩ => ⟨S1x1376x2048, .bf16⟩
  | .local _ .vmem, ⟨3, _⟩ => ⟨S1x1376x2048, .bf16⟩
  | .local _ .vmem, ⟨4, _⟩ => ⟨S1024x2048, .f32⟩
  | .local _ .vmem, ⟨5, _⟩ => ⟨S1024x2048, .f32⟩
  | _, _ => ⟨S1x8192x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1376x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S1x8192x5504 : Shape := ⟨3, ![1, 8192, 5504]⟩
abbrev S5504x2048 : Shape := ⟨2, ![5504, 2048]⟩
abbrev S1x8192x2048 : Shape := ⟨3, ![1, 8192, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1x8192x5504, .f32⟩
  | .hbm, ⟨1, _⟩ => ⟨S5504x2048, .f32⟩
  | .hbm, ⟨2, _⟩ => ⟨S1x8192x2048, .f32⟩
  | .hbm, ⟨3, _⟩ => ⟨S8192x2048, .f32⟩
  | _, _ => ⟨S1x8192x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S1x8192x2048 : Shape := ⟨3, ![1, 8192, 2048]⟩
abbrev S2048x6144 : Shape := ⟨2, ![2048, 6144]⟩
abbrev S8192x2048 : Shape := ⟨2, ![8192, 2048]⟩
abbrev S2048x8x768 : Shape := ⟨3, ![2048, 8, 768]⟩
abbrev S8x2048x768 : Shape := ⟨3, ![8, 2048, 768]⟩
abbrev S8192x6144 : Shape := ⟨2, ![8192, 6144]⟩
abbrev S512x2048 : Shape := ⟨2, ![512, 2048]⟩
abbrev S1x2048x768 : Shape := ⟨3, ![1, 2048, 768]⟩
abbrev S512x768 : Shape := ⟨2, ![512, 768]⟩
abbrev S2048x768 : Shape := ⟨2, ![2048, 768]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S2048x6144, .f32⟩
  | .hbm, ⟨2, _⟩ => ⟨S8192x2048, .f32⟩
  | .hbm, ⟨3, _⟩ => ⟨S8192x2048, .bf16⟩
  | .hbm, ⟨4, _⟩ => ⟨S2048x8x768, .f32⟩
  | .hbm, ⟨5, _⟩ => ⟨S8x2048x768, .f32⟩
  | .hbm, ⟨6, _⟩ => ⟨S8x2048x768, .bf16⟩
  | .hbm, ⟨7, _⟩ => ⟨S8192x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x768, .bf16⟩
  | .local _ .vmem, ⟨5, _⟩ => ⟨S512x768, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S1x8192x2048 : Shape := ⟨3, ![1, 8192, 2048]⟩
abbrev S2048x6144 : Shape := ⟨2, ![2048, 6144]⟩
abbrev S1x8192x6144 : Shape := ⟨3, ![1, 8192, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x6144, .f32⟩
  | .hbm, ⟨2, _⟩ => ⟨S1x8192x6144, .f32⟩
  | .hbm, ⟨3, _⟩ => ⟨S8192x6144, .f32⟩
  | .hbm, ⟨4, _⟩ => ⟨S8192x6144, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S1x8192x2048 : Shape := ⟨3, ![1, 8192, 2048]⟩
abbrev S2048x2048 : Shape := ⟨2, ![2048, 2048]⟩
abbrev S8192x2048 : Shape := ⟨2, ![8192, 2048]⟩
abbrev S1x2048x2048 : Shape := ⟨3, ![1, 2048, 2048]⟩
abbrev S512x2048 : Shape := ⟨2, ![512, 2048]⟩
abbrev S1x512x2048 : Shape := ⟨3, ![1, 512, 2048]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S1x2048x2048, .bf16⟩
  | .hbm, ⟨6, _⟩ => ⟨S1x8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x512x2048, .f32⟩
  | .local _ .vmem, ⟨4, _⟩ => ⟨S1x512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S1x8192x2048 : Shape := ⟨3, ![1, 8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S1x8192x2048 : Shape := ⟨3, ![1, 8192, 2048]⟩
abbrev S2048x2048 : Shape := ⟨2, ![2048, 2048]⟩
abbrev S8192x2048 : Shape := ⟨2, ![8192, 2048]⟩
abbrev S1x2048x2048 : Shape := ⟨3, ![1, 2048, 2048]⟩
abbrev S512x2048 : Shape := ⟨2, ![512, 2048]⟩
abbrev S1x512x2048 : Shape := ⟨3, ![1, 512, 2048]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S8192x2048, .f32⟩
  | .hbm, ⟨4, _⟩ => ⟨S8192x2048, .bf16⟩
  | .hbm, ⟨5, _⟩ => ⟨S2048x2048, .bf16⟩
  | .hbm, ⟨6, _⟩ => ⟨S1x2048x2048, .bf16⟩
  | .hbm, ⟨7, _⟩ => ⟨S1x8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x512x2048, .bf16⟩
  | .local _ .vmem, ⟨4, _⟩ => ⟨S1x512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S1x8192x2048 : Shape := ⟨3, ![1, 8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S1x8192x2048, .f32⟩
  | .hbm, ⟨4, _⟩ => ⟨S1x8192x2048, .f32⟩
  | .hbm, ⟨5, _⟩ => ⟨S1x8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S1x8192x2048 : Shape := ⟨3, ![1, 8192, 2048]⟩
abbrev S2048x2048 : Shape := ⟨2, ![2048, 2048]⟩
abbrev S1x2048x2048 : Shape := ⟨3, ![1, 2048, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S1x8192x2048, .bf16⟩
  | .hbm, ⟨4, _⟩ => ⟨S1x8192x2048, .bf16⟩
  | .hbm, ⟨5, _⟩ => ⟨S1x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference10Ideal.lean ====
abbrev S1x8192x2048 : Shape := ⟨3, ![1, 8192, 2048]⟩
abbrev S2048x2048 : Shape := ⟨2, ![2048, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S1x8192x2048, .f32⟩
  | .hbm, ⟨4, _⟩ => ⟨S2048x2048, .f32⟩
  | .hbm, ⟨5, _⟩ => ⟨S2048x2048, .f32⟩
  | .hbm, ⟨6, _⟩ => ⟨S1x2048x2048, .f32⟩
  | .hbm, ⟨7, _⟩ => ⟨S1x2048x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S1x8192x2048 : Shape := ⟨3, ![1, 8192, 2048]⟩
abbrev S2048x6144 : Shape := ⟨2, ![2048, 6144]⟩
abbrev S1x8192x6144 : Shape := ⟨3, ![1, 8192, 6144]⟩
abbrev S8192x6144 : Shape := ⟨2, ![8192, 6144]⟩
abbrev S8x2048x768 : Shape := ⟨3, ![8, 2048, 768]⟩
abbrev S1x2048x1024 : Shape := ⟨3, ![1, 2048, 1024]⟩
abbrev S2048x768 : Shape := ⟨2, ![2048, 768]⟩
abbrev S1x1024x768 : Shape := ⟨3, ![1, 1024, 768]⟩
abbrev S1024x768 : Shape := ⟨2, ![1024, 768]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S2048x6144, .f32⟩
  | .hbm, ⟨2, _⟩ => ⟨S1x8192x6144, .f32⟩
  | .hbm, ⟨3, _⟩ => ⟨S1x8192x2048, .bf16⟩
  | .hbm, ⟨4, _⟩ => ⟨S8192x6144, .f32⟩
  | .hbm, ⟨5, _⟩ => ⟨S8192x6144, .bf16⟩
  | .hbm, ⟨6, _⟩ => ⟨S8x2048x768, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference11Ideal.lean ====
abbrev S1x8192x2048 : Shape := ⟨3, ![1, 8192, 2048]⟩
abbrev S2048x6144 : Shape := ⟨2, ![2048, 6144]⟩
abbrev S1x8192x6144 : Shape := ⟨3, ![1, 8192, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x6144, .f32⟩
  | .hbm, ⟨2, _⟩ => ⟨S1x8192x6144, .f32⟩
  | .hbm, ⟨3, _⟩ => ⟨S1x8192x6144, .f32⟩
  | .hbm, ⟨4, _⟩ => ⟨S6144x2048, .f32⟩
  | .hbm, ⟨5, _⟩ => ⟨S2048x6144, .f32⟩
  | .hbm, ⟨6, _⟩ => ⟨S2048x8x768, .f32⟩
  | .hbm, ⟨7, _⟩ => ⟨S8x2048x768, .f32⟩
  | .hbm, ⟨8, _⟩ => ⟨S8x2048x768, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S1x8192x2048 : Shape := ⟨3, ![1, 8192, 2048]⟩
abbrev S2048x6144 : Shape := ⟨2, ![2048, 6144]⟩
abbrev S1x8192x6144 : Shape := ⟨3, ![1, 8192, 6144]⟩
abbrev S8192x6144 : Shape := ⟨2, ![8192, 6144]⟩
abbrev S2048x8x768 : Shape := ⟨3, ![2048, 8, 768]⟩
abbrev S8x2048x768 : Shape := ⟨3, ![8, 2048, 768]⟩
abbrev S8192x2048 : Shape := ⟨2, ![8192, 2048]⟩
abbrev S1024x768 : Shape := ⟨2, ![1024, 768]⟩
abbrev S1x2048x768 : Shape := ⟨3, ![1, 2048, 768]⟩
abbrev S1024x2048 : Shape := ⟨2, ![1024, 2048]⟩
abbrev S2048x768 : Shape := ⟨2, ![2048, 768]⟩

abbrev nBuf : Space → Nat
  | .hbm => 9
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S2048x6144, .f32⟩
  | .hbm, ⟨2, _⟩ => ⟨S1x8192x6144, .f32⟩
  | .hbm, ⟨3, _⟩ => ⟨S8192x6144, .f32⟩
  | .hbm, ⟨4, _⟩ => ⟨S8192x6144, .bf16⟩
  | .hbm, ⟨5, _⟩ => ⟨S2048x8x768, .f32⟩
  | .hbm, ⟨6, _⟩ => ⟨S8x2048x768, .f32⟩
  | .hbm, ⟨7, _⟩ => ⟨S8x2048x768, .bf16⟩
  | .hbm, ⟨8, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x2048, .f32⟩
  | .local _ .vmem, ⟨5, _⟩ => ⟨S1024x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S1x8192x2048 : Shape := ⟨3, ![1, 8192, 2048]⟩
abbrev S2048x6144 : Shape := ⟨2, ![2048, 6144]⟩
abbrev S1x8192x6144 : Shape := ⟨3, ![1, 8192, 6144]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x6144, .f32⟩
  | .hbm, ⟨2, _⟩ => ⟨S1x8192x6144, .f32⟩
  | .hbm, ⟨3, _⟩ => ⟨S1x8192x6144, .f32⟩
  | .hbm, ⟨4, _⟩ => ⟨S1x8192x2048, .f32⟩
  | .hbm, ⟨5, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Spec.lean ====
module

public import Idealize.ShloMosaic.PureOps.Ideal
public import Idealize.ShloMosaic.Lib.Pointwise.Index
public import Mathlib.Algebra.BigOperators.Intervals

@[expose] public section

noncomputable section

namespace Cert.Spec

open Idealize.ShloMosaic

/-! The gradient of the gated feed-forward layer, as functions of its six arguments: what the kernel and the reference both compute. -/

/-- An array of extended reals. -/
abbrev Arr1 (a : ℕ) := (⟨1, ![a]⟩ : Shape).Idx → EReal
/-- An array of extended reals, of two axes. -/
abbrev Arr2 (a b : ℕ) := (⟨2, ![a, b]⟩ : Shape).Idx → EReal
/-- An array of extended reals, of three axes. -/
abbrev Arr3 (a b c : ℕ) := (⟨3, ![a, b, c]⟩ : Shape).Idx → EReal

/-- The column of the up projection that half `g`, feature `p` has. -/
def col (g : Fin 2) (p : Fin 5504) : Fin 11008 := ⟨g.val * 5504 + p.val, by have := g.isLt; have := p.isLt; omega⟩

/-- The feature in chunk `j` at place `f`. -/
def feat (j : Fin 4) (f : Fin 1376) : Fin 5504 := ⟨j.val * 1376 + f.val, by have := j.isLt; have := f.isLt; omega⟩

section
variable (X : Arr3 1 8192 2048) (WU : Arr2 2048 11008) (CW : Arr2 3 11008) (CB : Arr1 11008) (WD : Arr2 5504 2048) (CT : Arr3 1 8192 2048)

/-- The up projection. -/
def H (s : Fin 8192) (f : Fin 11008) : EReal := ∑ k : Fin 2048, X (ix3 0 s k) * WU (ix2 k f)

/-- The up projection, zero past the last row. -/
def HN (s : ℕ) (f : Fin 11008) : EReal := if h : s < 8192 then H X WU ⟨s, h⟩ f else 0

/-- The up projection with two rows of zeros before it. -/
def HP (s : ℕ) (f : Fin 11008) : EReal := if s < 2 then 0 else HN X WU (s - 2) f

/-- The convolution over time: three taps and a bias. -/
def C (s : Fin 8192) (f : Fin 11008) : EReal :=
  CB (ix1 f) + CW (ix2 0 f) * HP X WU s.val f + CW (ix2 1 f) * HP X WU (s.val + 1) f + CW (ix2 2 f) * HP X WU (s.val + 2) f

/-- The gradient at the gated activation. -/
def DA (s : Fin 8192) (p : Fin 5504) : EReal := ∑ k : Fin 2048, CT (ix3 0 s k) * WD (ix2 p k)

end

section
variable (D : Fin 2 → Fin 8192 → Fin 5504 → EReal)

/-- The gradient at the convolution's output, zero past the last row. -/
def DN (g : Fin 2) (s : ℕ) (p : Fin 5504) : EReal := if h : s < 8192 then D g ⟨s, h⟩ p else 0

/-- The gradient at the up projection: the taps, over the rows that follow. -/
def outH (CW : Arr2 3 11008) (g : Fin 2) (s : Fin 8192) (p : Fin 5504) : EReal :=
  CW (ix2 2 (col g p)) * DN D g s.val p + CW (ix2 1 (col g p)) * DN D g (s.val + 1) p + CW (ix2 0 (col g p)) * DN D g (s.val + 2) p

/-- The gradient at a tap: the sum over all rows. -/
def outW (X : Arr3 1 8192 2048) (WU : Arr2 2048 11008) (g : Fin 2) (k : Fin 3) (p : Fin 5504) : EReal :=
  ∑ s ∈ Finset.range 8192, DN D g (s + (2 - k.val)) p * HN X WU s (col g p)

/-- The gradient at the bias: the sum over all rows. -/
def outB (g : Fin 2) (p : Fin 5504) : EReal := ∑ s ∈ Finset.range 8192, DN D g s p

end

end Cert.Spec

end
-- ==== Proof.HostRead.lean ====
module

public import proofs.«01_k».proof.Proof.Gen.KernelIdeal.Frame
public import proofs.«01_k».proof.Proof.Spec
public import Idealize.ShloMosaic.Lib.Pointwise
public import Idealize.ShloMosaic.Lib.StableHlo.ReadAt

@[expose] public section

set_option maxRecDepth 16384

noncomputable section

namespace Cert.KernelIdeal.Blk

open Cert.KernelIdeal Cert.KernelIdeal.Gen Idealize.ShloMosaic Idealize.ShloMosaic.TcCoe Idealize.SL.Sem Idealize.ShloMosaic.Tactic Cert.Spec

variable (m : (ℓ : Loc nD τ sig) → Buf (Elt Ideal) ℓ) (c : Dev nD)

/-- The up projection with two rows of zeros before it, as a padded array is read. -/
theorem HP_pad (X : Arr3 1 8192 2048) (WU : Arr2 2048 11008) (s : ℕ) (f : Fin 11008) (z : EReal) (hz : z = 0) :
    HP X WU s f = if h : 2 ≤ s ∧ s - 2 < 8192 then ∑ k : Fin 2048, X (ix3 0 ⟨s - 2, h.2⟩ k) * WU (ix2 k f) else z := by
  subst hz
  unfold HP HN
  by_cases h1 : s < 2
  · rw [if_pos h1, dif_neg (by omega)]
  · by_cases h2 : s - 2 < 8192
    · rw [if_neg h1, dif_pos h2, dif_pos ⟨by omega, h2⟩]; rfl
    · rw [if_neg h1, dif_neg h2, dif_neg (by omega)]

/-- The convolution's output, over an array padded by two rows. -/
theorem C_pad (X : Arr3 1 8192 2048) (WU : Arr2 2048 11008) (CW : Arr2 3 11008) (CB : Arr1 11008) (s : Fin 8192) (f : Fin 11008) (z : EReal) (hz : z = 0) :
    C X WU CW CB s f = ((CB (ix1 f) + CW (ix2 0 f) *
        if h : 2 ≤ s.val ∧ s.val - 2 < 8192 then ∑ k : Fin 2048, X (ix3 0 ⟨s.val - 2, h.2⟩ k) * WU (ix2 k f) else z)
        + CW (ix2 1 f) * if h : 2 ≤ 1 + s.val ∧ 1 + s.val - 2 < 8192 then ∑ k : Fin 2048, X (ix3 0 ⟨1 + s.val - 2, h.2⟩ k) * WU (ix2 k f) else z)
        + CW (ix2 2 f) * ∑ k : Fin 2048, X (ix3 0 s k) * WU (ix2 k f) := by
  have h0 := HP_pad X WU s.val f z hz
  have h1 := HP_pad X WU (1 + s.val) f z hz
  have hc : HP X WU (s.val + 1) f = HP X WU (1 + s.val) f := congrArg (fun n => HP X WU n f) (Nat.add_comm _ _)
  have e : HP X WU (s.val + 2) f = ∑ k : Fin 2048, X (ix3 0 s k) * WU (ix2 k f) := by
    unfold HP HN
    rw [if_neg (by omega), dif_pos (by have := s.isLt; omega)]
    rfl
  exact congrArg₂ (· + ·) (congrArg₂ (· + ·) (congrArg₂ (· + ·) rfl (congrArg (CW (ix2 0 f) * ·) h0)) (congrArg (CW (ix2 1 f) * ·) (hc.trans h1))) (congrArg (CW (ix2 2 f) * ·) e)

/-- The first window's array: the cotangent. -/
theorem V28 (s : Fin 8192) (k : Fin 2048) : V m c main_v28 (ix2 s k) = m ((c : Thread nD τ).loc main_arg5) (ix3 0 s k) := by
  after_reads_at

/-- The second window's array: the down projection, cut into chunks. -/
theorem V30 (j : Fin 4) (f : Fin 1376) (k : Fin 2048) : V m c main_v30 (ix3 j f k) = m ((c : Thread nD τ).loc main_arg4) (ix2 (feat j f) k) := by
  after_reads_at
  rfl

theorem col_feat (g : Fin 2) (j : Fin 4) (f : Fin 1376) (h : (g.val * 4 + j.val) * 1376 + f.val < 11008) :
    (⟨(g.val * 4 + j.val) * 1376 + f.val, h⟩ : Fin 11008) = col g (feat j f) :=
  Fin.ext (by show (g.val * 4 + j.val) * 1376 + f.val = g.val * 5504 + (j.val * 1376 + f.val); omega)

/-- The third window's array: the up projection, cut into halves and chunks. -/
theorem V37 (g : Fin 2) (j : Fin 4) (s : Fin 8192) (f : Fin 1376) : V m c main_v37 (ix4 g j s f) = H (m ((c : Thread nD τ).loc main_arg0)) (m ((c : Thread nD τ).loc main_arg1)) s (col g (feat j f)) := by
  after_reads_at
  rw [col_feat]
  rfl

/-- The fifth window's array: the convolution's taps, cut into halves and chunks. -/
theorem V39 (g : Fin 2) (j : Fin 4) (k : Fin 3) (f : Fin 1376) : V m c main_v39 (ix4 g j k f) = m ((c : Thread nD τ).loc main_arg2) (ix2 k (col g (feat j f))) := by
  after_reads_at
  rw [col_feat]

theorem sitofp_zero : (FloatOps.sitofp (F := Ideal) FTy.f32 (0#32 : BitVec 32) : EReal) = 0 := by
  show ((((0#32 : BitVec 32).toInt : ℝ)) : EReal) = 0
  simp

/-- The fourth window's array: the convolution's output, cut into halves and chunks. -/
theorem V38 (g : Fin 2) (j : Fin 4) (s : Fin 8192) (f : Fin 1376) : V m c main_v38 (ix4 g j s f) = C (m ((c : Thread nD τ).loc main_arg0)) (m ((c : Thread nD τ).loc main_arg1)) (m ((c : Thread nD τ).loc main_arg2)) (m ((c : Thread nD τ).loc main_arg3)) s (col g (feat j f)) := by
  after_reads_at
  simp only [col_feat g j f]
  exact (C_pad _ _ _ _ s (col g (feat j f)) _ sitofp_zero).symm
end Cert.KernelIdeal.Blk
end
-- ==== Proof.Blocks.lean ====
module

public import proofs.«01_k».proof.Proof.HostRead

@[expose] public section

set_option maxRecDepth 16384

noncomputable section

namespace Cert.KernelIdeal.Blk

open Cert.KernelIdeal Cert.KernelIdeal.Gen Idealize.ShloMosaic Idealize.ShloMosaic.TcCoe Idealize.SL.Sem Idealize.ShloMosaic.Tactic Cert.Spec

/-- The number of grid points. -/
theorem lt64 (t : Fin cfg0.N) : t.val < 64 := Nat.lt_of_lt_of_eq t.isLt N_0

/-- The chunk of features at a grid point. -/
def jt (t : Fin cfg0.N) : Fin 4 := ⟨t.val / 16, by have := lt64 t; omega⟩

/-- The first row of the time block at a grid point: the blocks are taken from the last one on. -/
def st (t : Fin cfg0.N) : ℕ := (15 - t.val % 16) * 512

theorem st_add (t : Fin cfg0.N) (r : Fin 512) : st t + r.val < 8192 := by have := r.isLt; unfold st; omega

/-- Row `r` of the time block at a grid point. -/
def row (t : Fin cfg0.N) (r : Fin 512) : Fin 8192 := ⟨st t + r.val, st_add t r⟩

theorem widx0 : ∀ t : Fin cfg0.N, win0_0.index t (0 : Fin 2) = 15 - t.val % 16 ∧ win0_0.index t (1 : Fin 2) = 0 :=
  (by decide +kernel : ∀ t : Fin grid0.N, _)
/-- Where the first window's block lies. -/
theorem emb0 (t : Fin cfg0.N) (a0 : Fin 512) (a1 : Fin 2048) : ((cfg0.win 0).blk t).view.emb (ix2 a0 a1) = ix2 (row t a0) a1 := by
  obtain ⟨e0, e1⟩ := widx0 t
  funext a; apply Fin.ext
  match a with
  | ⟨0, _⟩ => show win0_0.index t (0 : Fin 2) * 512 + 1 * a0.val = ((row t a0) : Fin _).val; rw [e0]; simp [row, st, jt] <;> omega
  | ⟨1, _⟩ => show win0_0.index t (1 : Fin 2) * 2048 + 1 * a1.val = (a1 : Fin _).val; rw [e1]; simp [row, st, jt] <;> omega

theorem widx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
/-- Where the second window's block lies. -/
theorem emb1 (t : Fin cfg0.N) (a0 : Fin 1) (a1 : Fin 1376) (a2 : Fin 2048) : ((cfg0.win 1).blk t).view.emb (ix3 a0 a1 a2) = ix3 (jt t) a1 a2 := by
  obtain ⟨e0, e1, e2⟩ := widx1 t
  funext a; apply Fin.ext
  match a with
  | ⟨0, _⟩ => show win0_1.index t (0 : Fin 3) * 1 + 1 * a0.val = ((jt t) : Fin _).val; rw [e0]; simp [row, st, jt] <;> omega
  | ⟨1, _⟩ => show win0_1.index t (1 : Fin 3) * 1376 + 1 * a1.val = (a1 : Fin _).val; rw [e1]; simp [row, st, jt] <;> omega
  | ⟨2, _⟩ => show win0_1.index t (2 : Fin 3) * 2048 + 1 * a2.val = (a2 : Fin _).val; rw [e2]; simp [row, st, jt] <;> omega

theorem widx2 : ∀ t : Fin cfg0.N, win0_2.index t (0 : Fin 4) = 0 ∧ win0_2.index t (1 : Fin 4) = t.val / 16 ∧ win0_2.index t (2 : Fin 4) = 15 - t.val % 16 ∧ win0_2.index t (3 : Fin 4) = 0 :=
  (by decide +kernel : ∀ t : Fin grid0.N, _)
/-- Where window 2's block lies. -/
theorem emb2 (t : Fin cfg0.N) (a0 : Fin 2) (a1 : Fin 1) (a2 : Fin 512) (a3 : Fin 1376) : ((cfg0.win 2).blk t).view.emb (ix4 a0 a1 a2 a3) = ix4 a0 (jt t) (row t a2) a3 := by
  obtain ⟨e0, e1, e2, e3⟩ := widx2 t
  funext a; apply Fin.ext
  match a with
  | ⟨0, _⟩ => show win0_2.index t (0 : Fin 4) * 2 + 1 * a0.val = (a0 : Fin _).val; rw [e0]; simp [row, st, jt] <;> omega
  | ⟨1, _⟩ => show win0_2.index t (1 : Fin 4) * 1 + 1 * a1.val = ((jt t) : Fin _).val; rw [e1]; simp [row, st, jt] <;> omega
  | ⟨2, _⟩ => show win0_2.index t (2 : Fin 4) * 512 + 1 * a2.val = ((row t a2) : Fin _).val; rw [e2]; simp [row, st, jt] <;> omega
  | ⟨3, _⟩ => show win0_2.index t (3 : Fin 4) * 1376 + 1 * a3.val = (a3 : Fin _).val; rw [e3]; simp [row, st, jt] <;> omega

theorem widx3 : ∀ t : Fin cfg0.N, win0_3.index t (0 : Fin 4) = 0 ∧ win0_3.index t (1 : Fin 4) = t.val / 16 ∧ win0_3.index t (2 : Fin 4) = 15 - t.val % 16 ∧ win0_3.index t (3 : Fin 4) = 0 :=
  (by decide +kernel : ∀ t : Fin grid0.N, _)
/-- Where window 3's block lies. -/
theorem emb3 (t : Fin cfg0.N) (a0 : Fin 2) (a1 : Fin 1) (a2 : Fin 512) (a3 : Fin 1376) : ((cfg0.win 3).blk t).view.emb (ix4 a0 a1 a2 a3) = ix4 a0 (jt t) (row t a2) a3 := by
  obtain ⟨e0, e1, e2, e3⟩ := widx3 t
  funext a; apply Fin.ext
  match a with
  | ⟨0, _⟩ => show win0_3.index t (0 : Fin 4) * 2 + 1 * a0.val = (a0 : Fin _).val; rw [e0]; simp [row, st, jt] <;> omega
  | ⟨1, _⟩ => show win0_3.index t (1 : Fin 4) * 1 + 1 * a1.val = ((jt t) : Fin _).val; rw [e1]; simp [row, st, jt] <;> omega
  | ⟨2, _⟩ => show win0_3.index t (2 : Fin 4) * 512 + 1 * a2.val = ((row t a2) : Fin _).val; rw [e2]; simp [row, st, jt] <;> omega
  | ⟨3, _⟩ => show win0_3.index t (3 : Fin 4) * 1376 + 1 * a3.val = (a3 : Fin _).val; rw [e3]; simp [row, st, jt] <;> omega

theorem widx5 : ∀ t : Fin cfg0.N, win0_5.index t (0 : Fin 4) = 0 ∧ win0_5.index t (1 : Fin 4) = t.val / 16 ∧ win0_5.index t (2 : Fin 4) = 15 - t.val % 16 ∧ win0_5.index t (3 : Fin 4) = 0 :=
  (by decide +kernel : ∀ t : Fin grid0.N, _)
/-- Where window 5's block lies. -/
theorem emb5 (t : Fin cfg0.N) (a0 : Fin 2) (a1 : Fin 1) (a2 : Fin 512) (a3 : Fin 1376) : ((cfg0.win 5).blk t).view.emb (ix4 a0 a1 a2 a3) = ix4 a0 (jt t) (row t a2) a3 := by
  obtain ⟨e0, e1, e2, e3⟩ := widx5 t
  funext a; apply Fin.ext
  match a with
  | ⟨0, _⟩ => show win0_5.index t (0 : Fin 4) * 2 + 1 * a0.val = (a0 : Fin _).val; rw [e0]; simp [row, st, jt] <;> omega
  | ⟨1, _⟩ => show win0_5.index t (1 : Fin 4) * 1 + 1 * a1.val = ((jt t) : Fin _).val; rw [e1]; simp [row, st, jt] <;> omega
  | ⟨2, _⟩ => show win0_5.index t (2 : Fin 4) * 512 + 1 * a2.val = ((row t a2) : Fin _).val; rw [e2]; simp [row, st, jt] <;> omega
  | ⟨3, _⟩ => show win0_5.index t (3 : Fin 4) * 1376 + 1 * a3.val = (a3 : Fin _).val; rw [e3]; simp [row, st, jt] <;> omega

theorem widx4 : ∀ t : Fin cfg0.N, win0_4.index t (0 : Fin 4) = 0 ∧ win0_4.index t (1 : Fin 4) = t.val / 16 ∧ win0_4.index t (2 : Fin 4) = 0 ∧ win0_4.index t (3 : Fin 4) = 0 :=
  (by decide +kernel : ∀ t : Fin grid0.N, _)
/-- Where window 4's block lies. -/
theorem emb4 (t : Fin cfg0.N) (a0 : Fin 2) (a1 : Fin 1) (a2 : Fin 3) (a3 : Fin 1376) : ((cfg0.win 4).blk t).view.emb (ix4 a0 a1 a2 a3) = ix4 a0 (jt t) a2 a3 := by
  obtain ⟨e0, e1, e2, e3⟩ := widx4 t
  funext a; apply Fin.ext
  match a with
  | ⟨0, _⟩ => show win0_4.index t (0 : Fin 4) * 2 + 1 * a0.val = (a0 : Fin _).val; rw [e0]; simp [row, st, jt] <;> omega
  | ⟨1, _⟩ => show win0_4.index t (1 : Fin 4) * 1 + 1 * a1.val = ((jt t) : Fin _).val; rw [e1]; simp [row, st, jt] <;> omega
  | ⟨2, _⟩ => show win0_4.index t (2 : Fin 4) * 3 + 1 * a2.val = (a2 : Fin _).val; rw [e2]; simp [row, st, jt] <;> omega
  | ⟨3, _⟩ => show win0_4.index t (3 : Fin 4) * 1376 + 1 * a3.val = (a3 : Fin _).val; rw [e3]; simp [row, st, jt] <;> omega

theorem widx6 : ∀ t : Fin cfg0.N, win0_6.index t (0 : Fin 4) = 0 ∧ win0_6.index t (1 : Fin 4) = t.val / 16 ∧ win0_6.index t (2 : Fin 4) = 0 ∧ win0_6.index t (3 : Fin 4) = 0 :=
  (by decide +kernel : ∀ t : Fin grid0.N, _)
/-- Where window 6's block lies. -/
theorem emb6 (t : Fin cfg0.N) (a0 : Fin 2) (a1 : Fin 1) (a2 : Fin 3) (a3 : Fin 1376) : ((cfg0.win 6).blk t).view.emb (ix4 a0 a1 a2 a3) = ix4 a0 (jt t) a2 a3 := by
  obtain ⟨e0, e1, e2, e3⟩ := widx6 t
  funext a; apply Fin.ext
  match a with
  | ⟨0, _⟩ => show win0_6.index t (0 : Fin 4) * 2 + 1 * a0.val = (a0 : Fin _).val; rw [e0]; simp [row, st, jt] <;> omega
  | ⟨1, _⟩ => show win0_6.index t (1 : Fin 4) * 1 + 1 * a1.val = ((jt t) : Fin _).val; rw [e1]; simp [row, st, jt] <;> omega
  | ⟨2, _⟩ => show win0_6.index t (2 : Fin 4) * 3 + 1 * a2.val = (a2 : Fin _).val; rw [e2]; simp [row, st, jt] <;> omega
  | ⟨3, _⟩ => show win0_6.index t (3 : Fin 4) * 1376 + 1 * a3.val = (a3 : Fin _).val; rw [e3]; simp [row, st, jt] <;> omega

theorem widx7 : ∀ t : Fin cfg0.N, win0_7.index t (0 : Fin 4) = 0 ∧ win0_7.index t (1 : Fin 4) = t.val / 16 ∧ win0_7.index t (2 : Fin 4) = 0 ∧ win0_7.index t (3 : Fin 4) = 0 :=
  (by decide +kernel : ∀ t : Fin grid0.N, _)
/-- Where window 7's block lies. -/
theorem emb7 (t : Fin cfg0.N) (a0 : Fin 2) (a1 : Fin 1) (a2 : Fin 1) (a3 : Fin 1376) : ((cfg0.win 7).blk t).view.emb (ix4 a0 a1 a2 a3) = ix4 a0 (jt t) a2 a3 := by
  obtain ⟨e0, e1, e2, e3⟩ := widx7 t
  funext a; apply Fin.ext
  match a with
  | ⟨0, _⟩ => show win0_7.index t (0 : Fin 4) * 2 + 1 * a0.val = (a0 : Fin _).val; rw [e0]; simp [row, st, jt] <;> omega
  | ⟨1, _⟩ => show win0_7.index t (1 : Fin 4) * 1 + 1 * a1.val = ((jt t) : Fin _).val; rw [e1]; simp [row, st, jt] <;> omega
  | ⟨2, _⟩ => show win0_7.index t (2 : Fin 4) * 1 + 1 * a2.val = (a2 : Fin _).val; rw [e2]; simp [row, st, jt] <;> omega
  | ⟨3, _⟩ => show win0_7.index t (3 : Fin 4) * 1376 + 1 * a3.val = (a3 : Fin _).val; rw [e3]; simp [row, st, jt] <;> omega

variable (m : (ℓ : Loc nD τ sig) → Buf (Elt Ideal) ℓ) (c : Dev nD)

/-- The six argument arrays. -/
abbrev aX : Arr3 1 8192 2048 := m ((c : Thread nD τ).loc main_arg0)
abbrev aWU : Arr2 2048 11008 := m ((c : Thread nD τ).loc main_arg1)
abbrev aCW : Arr2 3 11008 := m ((c : Thread nD τ).loc main_arg2)
abbrev aCB : Arr1 11008 := m ((c : Thread nD τ).loc main_arg3)
abbrev aWD : Arr2 5504 2048 := m ((c : Thread nD τ).loc main_arg4)
abbrev aCT : Arr3 1 8192 2048 := m ((c : Thread nD τ).loc main_arg5)

theorem rd0 (W : (b : Ref sig .tc) → Buf (Elt Ideal) ((c : Thread nD τ).loc b)) (t : Fin cfg0.N) (r : Fin 512) (k : Fin 2048) :
    ((cfg0.win 0).blk t).view.read (Elt Ideal) (W (Pipeline.arrRef spec0 0)) (ix2 r k) = W main_v28 (ix2 (row t r) k) := by
  show W main_v28 (((cfg0.win 0).blk t).view.emb (ix2 r k)) = _
  rw [emb0]

/-- The block of the cotangent at a grid point. -/
theorem iblk0 (t : Fin cfg0.N) (r : Fin 512) (k : Fin 2048) : iblk m c 0 t (ix2 r k) = aCT m c (ix3 0 (row t r) k) := by
  unfold iblk
  exact (rd0 c (V m c) t r k).trans (V28 m c _ _)

theorem rd1 (W : (b : Ref sig .tc) → Buf (Elt Ideal) ((c : Thread nD τ).loc b)) (t : Fin cfg0.N) (f : Fin 1376) (k : Fin 2048) :
    ((cfg0.win 1).blk t).view.read (Elt Ideal) (W (Pipeline.arrRef spec0 1)) (ix3 0 f k) = W main_v30 (ix3 (jt t) f k) := by
  show W main_v30 (((cfg0.win 1).blk t).view.emb (ix3 0 f k)) = _
  rw [emb1]

/-- The block of the down projection at a grid point. -/
theorem iblk1 (t : Fin cfg0.N) (f : Fin 1376) (k : Fin 2048) : iblk m c 1 t (ix3 0 f k) = aWD m c (ix2 (feat (jt t) f) k) := by
  unfold iblk
  exact (rd1 c (V m c) t f k).trans (V30 m c _ _ _)

theorem rd2 (W : (b : Ref sig .tc) → Buf (Elt Ideal) ((c : Thread nD τ).loc b)) (t : Fin cfg0.N) (g : Fin 2) (r : Fin 512) (f : Fin 1376) :
    ((cfg0.win 2).blk t).view.read (Elt Ideal) (W (Pipeline.arrRef spec0 2)) (ix4 g 0 r f) = W main_v37 (ix4 g (jt t) (row t r) f) := by
  show W main_v37 (((cfg0.win 2).blk t).view.emb (ix4 g 0 r f)) = _
  rw [emb2]

/-- The block of the up projection at a grid point. -/
theorem iblk2 (t : Fin cfg0.N) (g : Fin 2) (r : Fin 512) (f : Fin 1376) : iblk m c 2 t (ix4 g 0 r f) = H (aX m c) (aWU m c) (row t r) (col g (feat (jt t) f)) := by
  unfold iblk
  exact (rd2 c (V m c) t g r f).trans (V37 m c _ _ _ _)

theorem rd3 (W : (b : Ref sig .tc) → Buf (Elt Ideal) ((c : Thread nD τ).loc b)) (t : Fin cfg0.N) (g : Fin 2) (r : Fin 512) (f : Fin 1376) :
    ((cfg0.win 3).blk t).view.read (Elt Ideal) (W (Pipeline.arrRef spec0 3)) (ix4 g 0 r f) = W main_v38 (ix4 g (jt t) (row t r) f) := by
  show W main_v38 (((cfg0.win 3).blk t).view.emb (ix4 g 0 r f)) = _
  rw [emb3]

/-- The block of the convolution's output at a grid point. -/
theorem iblk3 (t : Fin cfg0.N) (g : Fin 2) (r : Fin 512) (f : Fin 1376) : iblk m c 3 t (ix4 g 0 r f) = C (aX m c) (aWU m c) (aCW m c) (aCB m c) (row t r) (col g (feat (jt t) f)) := by
  unfold iblk
  exact (rd3 c (V m c) t g r f).trans (V38 m c _ _ _ _)

theorem rd4 (W : (b : Ref sig .tc) → Buf (Elt Ideal) ((c : Thread nD τ).loc b)) (t : Fin cfg0.N) (g : Fin 2) (k : Fin 3) (f : Fin 1376) :
    ((cfg0.win 4).blk t).view.read (Elt Ideal) (W (Pipeline.arrRef spec0 4)) (ix4 g 0 k f) = W main_v39 (ix4 g (jt t) k f) := by
  show W main_v39 (((cfg0.win 4).blk t).view.emb (ix4 g 0 k f)) = _
  rw [emb4]

/-- The block of the convolution's taps at a grid point. -/
theorem iblk4 (t : Fin cfg0.N) (g : Fin 2) (k : Fin 3) (f : Fin 1376) : iblk m c 4 t (ix4 g 0 k f) = aCW m c (ix2 k (col g (feat (jt t) f))) := by
  unfold iblk
  exact (rd4 c (V m c) t g k f).trans (V39 m c _ _ _ _)

end Cert.KernelIdeal.Blk
end
-- ==== Proof.GateBlock.lean ====
module

public import proofs.«01_k».proof.Proof.Gen.KernelIdeal.Frame
public import Idealize.ShloMosaic.Lib.Pipeline.Value
public import Idealize.ShloMosaic.Lib.Pipeline.ReadBack
public import Idealize.ShloMosaic.Lib.Pipeline.ValueKit.Geometry
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.SelectCore

@[expose] public section

set_option maxRecDepth 16384

noncomputable section

namespace Cert.KernelIdeal.Blk

open Cert.KernelIdeal Cert.KernelIdeal.Gen Idealize.ShloMosaic Idealize.ShloMosaic.TcCoe Idealize.SL.Sem Idealize.ShloMosaic.Tactic

/-! What one grid point computes, as functions of the blocks it is given. -/

/-- The constant one half, as the kernel writes it. -/
abbrev half : EReal := Ideal.ofBits .f32 0x3F000000#32

/-- The kernel's logistic function: half the hyperbolic tangent of half the argument, plus one half. -/
def sg (g : EReal) : EReal := half * Ideal.tanh (half * g) + half

/-- A column of a block shifted up by some rows: past its last row come the rows of another, eight rows long. -/
def shV (d : Fin 512 → EReal) (h : Fin 8 → EReal) (δ : ℕ) (r : Fin 512) : EReal :=
  if p : r.val + δ < 512 then d ⟨r.val + δ, p⟩ else if q : r.val + δ - 512 < 8 then h ⟨r.val + δ - 512, q⟩ else 0

theorem shV_zero (d : Fin 512 → EReal) (h : Fin 8 → EReal) (r : Fin 512) : shV d h 0 r = d r := dif_pos r.isLt

section Spec
variable (x0 : Vec Ideal S512x2048 .bf16) (x1 : Vec Ideal S1x1376x2048 .bf16) (x2 x3 : Vec Ideal S2x1x512x1376 .f32)
  (x4 : Vec Ideal S2x1x3x1376 .f32)

/-- The gradient at the gated activation: one row of the incoming gradient against one row of the down weight. -/
def dA (r : Fin 512) (f : Fin 1376) : EReal := ∑ k : Fin 2048, x0 (ix2 r k) * x1 (ix3 0 f k)

/-- The gradient at the convolution's output, of the gate half (0) and of the value half (1). -/
def dB (g : Fin 2) (r : Fin 512) (f : Fin 1376) : EReal :=
  if g = 0 then dA x0 x1 r f * x3 (ix4 1 0 r f) * (sg (x3 (ix4 0 0 r f)) * (1 + x3 (ix4 0 0 r f) * (1 - sg (x3 (ix4 0 0 r f)))))
  else dA x0 x1 r f * (x3 (ix4 0 0 r f) * sg (x3 (ix4 0 0 r f)))

/-- That gradient some rows further on: past the block's last row, the rows kept from the block visited before. -/
def shB (xs : Vec Ideal S2x8x1376 .f32) (δ : ℕ) (g : Fin 2) (r : Fin 512) (f : Fin 1376) : EReal :=
  shV (fun r => dB x0 x1 x3 g r f) (fun q => xs (ix3 g q f)) δ r

/-- One element of the block of the input gradient. -/
def g5 (xs : Vec Ideal S2x8x1376 .f32) (g : Fin 2) (r : Fin 512) (f : Fin 1376) : EReal :=
  x4 (ix4 g 0 2 f) * dB x0 x1 x3 g r f + x4 (ix4 g 0 1 f) * shB x0 x1 x3 xs 1 g r f + x4 (ix4 g 0 0 f) * shB x0 x1 x3 xs 2 g r f

/-- One element of the block of the taps' gradient: what it held, plus the block's sum. -/
def g6 (xs : Vec Ideal S2x8x1376 .f32) (xo6 : Vec Ideal S2x1x3x1376 .f32) (g : Fin 2) (k : Fin 3) (f : Fin 1376) : EReal :=
  xo6 (ix4 g 0 k f) + ∑ r : Fin 512, shB x0 x1 x3 xs (2 - k.val) g r f * x2 (ix4 g 0 r f)

/-- One element of the block of the bias's gradient: what it held, plus the block's sum. -/
def g7 (xo7 : Vec Ideal S2x1x1x1376 .f32) (g : Fin 2) (f : Fin 1376) : EReal :=
  xo7 (ix4 g 0 0 f) + ∑ r : Fin 512, dB x0 x1 x3 g r f

/-- One element of the rows kept for the next point: the block's first eight. -/
def gS (g : Fin 2) (q : Fin 8) (f : Fin 1376) : EReal := dB x0 x1 x3 g ⟨q.val, lt_trans q.isLt (by decide)⟩ f

/-- The block of the input gradient. -/
def G5 (xs : Vec Ideal S2x8x1376 .f32) : Vec Ideal S2x1x512x1376 .bf16 := fun y => g5 x0 x1 x3 x4 xs (y 0) (y 2) (y 3)

/-- The block of the taps' gradient. -/
def G6 (xs : Vec Ideal S2x8x1376 .f32) (xo6 : Vec Ideal S2x1x3x1376 .f32) : Vec Ideal S2x1x3x1376 .f32 := fun y =>
  g6 x0 x1 x2 x3 xs xo6 (y 0) (y 2) (y 3)

/-- The block of the bias's gradient. -/
def G7 (xo7 : Vec Ideal S2x1x1x1376 .f32) : Vec Ideal S2x1x1x1376 .f32 := fun y => g7 x0 x1 x3 xo7 (y 0) (y 3)

/-- The rows kept for the next point. -/
def GS : Vec Ideal S2x8x1376 .f32 := fun y => gS x0 x1 x3 (y 0) (y 1) (y 2)

end Spec

theorem rot1 (r : Fin 512) : (r.val + 520 - 519) % 520 = r.val + 1 := by have := r.isLt; omega

theorem rot2 (r : Fin 512) : (r.val + 520 - 518) % 520 = r.val + 2 := by have := r.isLt; omega

theorem lt8_1 (r : Fin 512) : r.val + 1 - 512 < 8 := by have := r.isLt; omega

theorem lt8_2 (r : Fin 512) : r.val + 2 - 512 < 8 := by have := r.isLt; omega

theorem idx5 (x : S1x1x512x1376.Idx) : ∃ (r : Fin 512) (f : Fin 1376), x = ix4 0 0 r f :=
  ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

theorem idx6 (x : S1x1x1x1376.Idx) : ∃ f : Fin 1376, x = ix4 0 0 0 f :=
  ⟨x 3, by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl⟩

theorem idxS (x : S1x8x1376.Idx) : ∃ (q : Fin 8) (f : Fin 1376), x = ix3 0 q f :=
  ⟨x 1, x 2, by
    funext a
    match a with
    | ⟨0, _⟩ => exact Subsingleton.elim (α := Fin 1) _ _
    | ⟨1, _⟩ => rfl
    | ⟨2, _⟩ => rfl⟩

section Pay
variable (v3 : Vec Ideal S512x2048 .bf16) (v5 : Vec Ideal S1x1376x2048 .bf16) (h g v : Vec Ideal S1x1x512x1376 .f32)
  (d h2 d1 d2 : FVec Ideal S512x1376 .f32) (xs : Vec Ideal S1x8x1376 .f32) (o w2 w1 w0 : Vec Ideal S1x1x1x1376 .f32)
  (r : Fin 512) (f : Fin 1376) (q : Fin 8)

theorem pay8_at : k0_pay8 v3 v5 g v (ix2 r f)
    = (∑ k : Fin 2048, v3 (ix2 r k) * v5 (ix3 0 f k)) * v (ix4 0 0 r f) * (sg (g (ix4 0 0 r f)) * (1 + g (ix4 0 0 r f) * (1 - sg (g (ix4 0 0 r f))))) := by
  unfold_payloads; pointwise; rfl

theorem pay9_at : k0_pay9 v3 v5 g (ix2 r f)
    = (∑ k : Fin 2048, v3 (ix2 r k) * v5 (ix3 0 f k)) * (g (ix4 0 0 r f) * sg (g (ix4 0 0 r f))) := by
  unfold_payloads; pointwise; rfl

theorem pay10_at : k0_pay10 h (ix2 r f) = h (ix4 0 0 r f) := by unfold_payloads; pointwise

theorem pay21_at : k0_pay21 h (ix2 r f) = h (ix4 0 0 r f) := by unfold_payloads; pointwise

theorem pay12_at : k0_pay12 d (ix3 0 q f) = d (ix2 ⟨q.val, lt_trans q.isLt (by decide)⟩ f) := by unfold_payloads; pointwise

theorem pay23_at : k0_pay23 d (ix3 0 q f) = d (ix2 ⟨q.val, lt_trans q.isLt (by decide)⟩ f) := by unfold_payloads; pointwise

theorem pay13_at : k0_pay13 d xs (ix2 r f) = shV (fun r => d (ix2 r f)) (fun q => xs (ix3 0 q f)) 1 r := by
  unfold_payloads; pointwise; simp only [rot1, shV, lt8_1]; rfl

theorem pay14_at : k0_pay14 d xs (ix2 r f) = shV (fun r => d (ix2 r f)) (fun q => xs (ix3 0 q f)) 2 r := by
  unfold_payloads; pointwise; simp only [rot2, shV, lt8_2]; rfl

theorem pay24_at : k0_pay24 d xs (ix2 r f) = shV (fun r => d (ix2 r f)) (fun q => xs (ix3 0 q f)) 1 r := by
  unfold_payloads; pointwise; simp only [rot1, shV, lt8_1]; rfl

theorem pay25_at : k0_pay25 d xs (ix2 r f) = shV (fun r => d (ix2 r f)) (fun q => xs (ix3 0 q f)) 2 r := by
  unfold_payloads; pointwise; simp only [rot2, shV, lt8_2]; rfl

theorem pay15_at : k0_pay15 d o (ix4 0 0 0 f) = o (ix4 0 0 0 f) + ∑ r : Fin 512, d (ix2 r f) := by unfold_payloads; pointwise

theorem pay26_at : k0_pay26 d o (ix4 0 0 0 f) = o (ix4 0 0 0 f) + ∑ r : Fin 512, d (ix2 r f) := by unfold_payloads; pointwise

theorem pay16_at : k0_pay16 d h2 xs o (ix4 0 0 0 f)
    = o (ix4 0 0 0 f) + ∑ r : Fin 512, shV (fun r => d (ix2 r f)) (fun q => xs (ix3 0 q f)) 2 r * h2 (ix2 r f) := by
  unfold_payloads; pointwise; simp only [rot2, shV, lt8_2]; rfl

theorem pay17_at : k0_pay17 h2 d o (ix4 0 0 0 f) = o (ix4 0 0 0 f) + ∑ r : Fin 512, d (ix2 r f) * h2 (ix2 r f) := by
  unfold_payloads; pointwise

theorem pay18_at : k0_pay18 d h2 o (ix4 0 0 0 f) = o (ix4 0 0 0 f) + ∑ r : Fin 512, d (ix2 r f) * h2 (ix2 r f) := by
  unfold_payloads; pointwise

theorem pay29_at : k0_pay29 (k0_pay27 o) (k0_pay28 d h xs) (ix4 0 0 0 f)
    = o (ix4 0 0 0 f) + ∑ r : Fin 512, shV (fun r => d (ix2 r f)) (fun q => xs (ix3 0 q f)) 2 r * h (ix4 0 0 r f) := by
  unfold_payloads; pointwise; simp only [rot2, shV, lt8_2]; rfl

theorem pay30_at : k0_pay30 h2 d o (ix4 0 0 0 f) = o (ix4 0 0 0 f) + ∑ r : Fin 512, d (ix2 r f) * h2 (ix2 r f) := by
  unfold_payloads; pointwise

theorem pay31_at : k0_pay31 d h2 o (ix4 0 0 0 f) = o (ix4 0 0 0 f) + ∑ r : Fin 512, d (ix2 r f) * h2 (ix2 r f) := by
  unfold_payloads; pointwise

theorem pay20_at : k0_pay20 (k0_pay19 d d1 d2 w2 w1 w0) (ix4 0 0 r f)
    = w2 (ix4 0 0 0 f) * d (ix2 r f) + w1 (ix4 0 0 0 f) * d1 (ix2 r f) + w0 (ix4 0 0 0 f) * d2 (ix2 r f) := by
  unfold_payloads; pointwise

theorem pay1_at : k0_pay1 d1 d2 (k0_pay32 d w2) w1 w0 (ix4 0 0 r f)
    = w2 (ix4 0 0 0 f) * d (ix2 r f) + w1 (ix4 0 0 0 f) * d1 (ix2 r f) + w0 (ix4 0 0 0 f) * d2 (ix2 r f) := by
  unfold_payloads; pointwise

theorem G5_at (x0 : Vec Ideal S512x2048 .bf16) (x1 : Vec Ideal S1x1376x2048 .bf16) (x3 : Vec Ideal S2x1x512x1376 .f32)
    (x4 : Vec Ideal S2x1x3x1376 .f32) (xs : Vec Ideal S2x8x1376 .f32) (g : Fin 2) :
    G5 x0 x1 x3 x4 xs (ix4 g 0 r f) = g5 x0 x1 x3 x4 xs g r f := rfl

theorem G6_at (x0 : Vec Ideal S512x2048 .bf16) (x1 : Vec Ideal S1x1376x2048 .bf16) (x2 x3 : Vec Ideal S2x1x512x1376 .f32)
    (xs : Vec Ideal S2x8x1376 .f32) (xo6 : Vec Ideal S2x1x3x1376 .f32) (g : Fin 2) (k : Fin 3) :
    G6 x0 x1 x2 x3 xs xo6 (ix4 g 0 k f) = g6 x0 x1 x2 x3 xs xo6 g k f := rfl

theorem G7_at (x0 : Vec Ideal S512x2048 .bf16) (x1 : Vec Ideal S1x1376x2048 .bf16) (x3 : Vec Ideal S2x1x512x1376 .f32)
    (xo7 : Vec Ideal S2x1x1x1376 .f32) (g : Fin 2) : G7 x0 x1 x3 xo7 (ix4 g 0 0 f) = g7 x0 x1 x3 xo7 g f := rfl

theorem GS_at (x0 : Vec Ideal S512x2048 .bf16) (x1 : Vec Ideal S1x1376x2048 .bf16) (x3 : Vec Ideal S2x1x512x1376 .f32) (g : Fin 2) :
    GS x0 x1 x3 (ix3 g q f) = gS x0 x1 x3 g q f := rfl

theorem dB_zero (x0 : Vec Ideal S512x2048 .bf16) (x1 : Vec Ideal S1x1376x2048 .bf16) (x3 : Vec Ideal S2x1x512x1376 .f32) :
    dB x0 x1 x3 0 r f = dA x0 x1 r f * x3 (ix4 1 0 r f) * (sg (x3 (ix4 0 0 r f)) * (1 + x3 (ix4 0 0 r f) * (1 - sg (x3 (ix4 0 0 r f))))) := rfl

theorem dB_one (x0 : Vec Ideal S512x2048 .bf16) (x1 : Vec Ideal S1x1376x2048 .bf16) (x3 : Vec Ideal S2x1x512x1376 .f32) :
    dB x0 x1 x3 1 r f = dA x0 x1 r f * (x3 (ix4 0 0 r f) * sg (x3 (ix4 0 0 r f))) := rfl

end Pay

section Point
variable (c : Dev nD) (i : grid0.Coords)
  (arg2 : Memref sig .tc .vmem S512x2048 .bf16) (harg2 : arg2.IsWhole)
  (arg3 : Memref sig .tc .vmem S1x1376x2048 .bf16) (harg3 : arg3.IsWhole)
  (arg4 : Memref sig .tc .vmem S2x1x512x1376 .f32) (harg4 : arg4.IsWhole)
  (arg5 : Memref sig .tc .vmem S2x1x512x1376 .f32) (harg5 : arg5.IsWhole)
  (arg6 : Memref sig .tc .vmem S2x1x3x1376 .f32) (harg6 : arg6.IsWhole)
  (arg7 : Memref sig .tc .vmem S2x1x512x1376 .bf16) (harg7 : arg7.IsWhole)
  (arg8 : Memref sig .tc .vmem S2x1x3x1376 .f32) (harg8 : arg8.IsWhole)
  (arg9 : Memref sig .tc .vmem S2x1x1x1376 .f32) (harg9 : arg9.IsWhole)
  (arg10 : Memref sig .tc .vmem S2x8x1376 .f32) (harg10 : arg10.IsWhole)
  (x0 : Vec Ideal S512x2048 .bf16) (x1 : Vec Ideal S1x1376x2048 .bf16) (x2 x3 : Vec Ideal S2x1x512x1376 .f32)
  (x4 : Vec Ideal S2x1x3x1376 .f32) (xo6 : Vec Ideal S2x1x3x1376 .f32) (xo7 : Vec Ideal S2x1x1x1376 .f32) (xs0 : Vec Ideal S2x8x1376 .f32)

/-- A later point of a column leaves its block of the input gradient. -/
theorem out0_B_5_eq (hc0 : ¬cond0_0 i) :
    out0_B_5 c i arg2 harg2 arg3 harg3 arg4 harg4 arg5 harg5 arg6 harg6 arg7 harg7 arg8 harg8 arg9 harg9 arg10 harg10 hc0 x0 x1 x2 x3 x4 xo6 xo7 xs0 = G5 x0 x1 x3 x4 xs0 := by
  funext y
  unfold out0_B_5
  have hcov := cover0_B_5 c i arg2 harg2 arg3 harg3 arg4 harg4 arg5 harg5 arg6 harg6 arg7 harg7 arg8 harg8 arg9 harg9 arg10 harg10 hc0 x0 x1 x2 x3 x4 xo6 xo7 xs0 y
  rw [View.read_writes_eq_canon _ _ _ (cover0_B_5 c i arg2 harg2 arg3 harg3 arg4 harg4 arg5 harg5 arg6 harg6 arg7 harg7 arg8 harg8 arg9 harg9 arg10 harg10 hc0 x0 x1 x2 x3 x4 xo6 xo7 xs0)]
  revert hcov
  unfold kernelRun0_B; dsimp only; sl_unfold_words
  simp only [View.readAt_eq_ld, harg2.read_unread, harg3.read_unread, harg4.read_unread, harg5.read_unread, harg6.read_unread, harg7.read_unread, harg8.read_unread, harg9.read_unread, harg10.read_unread]
  intro hcov
  refine View.canon_apply_of_pieces _ _ (View.PiecesOf.mem ?_) y hcov
  refine ⟨fun x => ?_, fun x => ?_, trivial⟩
  · obtain ⟨r, f, rfl⟩ := idx5 x
    refine Eq.trans ?_ (congrArg (G5 x0 x1 x3 x4 xs0) (a₁ := ix4 1 0 r f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨r, f, rfl⟩ := idx5 x
    refine Eq.trans ?_ (congrArg (G5 x0 x1 x3 x4 xs0) (a₁ := ix4 0 0 r f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm

/-- A later point of a column leaves its block of the taps' gradient. -/
theorem out0_B_6_eq (hc0 : ¬cond0_0 i) :
    out0_B_6 c i arg2 harg2 arg3 harg3 arg4 harg4 arg5 harg5 arg6 harg6 arg7 harg7 arg8 harg8 arg9 harg9 arg10 harg10 hc0 x0 x1 x2 x3 x4 xo6 xo7 xs0 = G6 x0 x1 x2 x3 xs0 xo6 := by
  funext y
  unfold out0_B_6
  have hcov := cover0_B_6 c i arg2 harg2 arg3 harg3 arg4 harg4 arg5 harg5 arg6 harg6 arg7 harg7 arg8 harg8 arg9 harg9 arg10 harg10 hc0 x0 x1 x2 x3 x4 xo6 xo7 xs0 y
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 xo6 xo7 xs0)]
  revert hcov
  unfold kernelRun0_B; dsimp only; sl_unfold_words
  simp only [View.readAt_eq_ld, harg2.read_unread, harg3.read_unread, harg4.read_unread, harg5.read_unread, harg6.read_unread, harg7.read_unread, harg8.read_unread, harg9.read_unread, harg10.read_unread]
  intro hcov
  refine View.canon_apply_of_pieces _ _ (View.PiecesOf.mem ?_) y hcov
  refine ⟨fun x => ?_, fun x => ?_, fun x => ?_, fun x => ?_, fun x => ?_, fun x => ?_, trivial⟩
  · obtain ⟨f, rfl⟩ := idx6 x
    refine Eq.trans ?_ (congrArg (G6 x0 x1 x2 x3 xs0 xo6) (a₁ := ix4 1 0 2 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 xs0 xo6) (a₁ := ix4 1 0 1 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 xs0 xo6) (a₁ := ix4 1 0 0 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 xs0 xo6) (a₁ := ix4 0 0 2 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 xs0 xo6) (a₁ := ix4 0 0 1 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 xs0 xo6) (a₁ := ix4 0 0 0 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm

/-- A later point of a column leaves its block of the bias's gradient. -/
theorem out0_B_7_eq (hc0 : ¬cond0_0 i) :
    out0_B_7 c i arg2 harg2 arg3 harg3 arg4 harg4 arg5 harg5 arg6 harg6 arg7 harg7 arg8 harg8 arg9 harg9 arg10 harg10 hc0 x0 x1 x2 x3 x4 xo6 xo7 xs0 = G7 x0 x1 x3 xo7 := by
  funext y
  unfold out0_B_7
  have hcov := cover0_B_7 c i arg2 harg2 arg3 harg3 arg4 harg4 arg5 harg5 arg6 harg6 arg7 harg7 arg8 harg8 arg9 harg9 arg10 harg10 hc0 x0 x1 x2 x3 x4 xo6 xo7 xs0 y
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 xo6 xo7 xs0)]
  revert hcov
  unfold kernelRun0_B; dsimp only; sl_unfold_words
  simp only [View.readAt_eq_ld, harg2.read_unread, harg3.read_unread, harg4.read_unread, harg5.read_unread, harg6.read_unread, harg7.read_unread, harg8.read_unread, harg9.read_unread, harg10.read_unread]
  intro hcov
  refine View.canon_apply_of_pieces _ _ (View.PiecesOf.mem ?_) y hcov
  refine ⟨fun x => ?_, fun x => ?_, trivial⟩
  · obtain ⟨f, rfl⟩ := idx6 x
    refine Eq.trans ?_ (congrArg (G7 x0 x1 x3 xo7) (a₁ := ix4 1 0 0 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G7 x0 x1 x3 xo7) (a₁ := ix4 0 0 0 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm

/-- A later point of a column leaves its block of the rows kept. -/
theorem sout0_B_0_eq (hc0 : ¬cond0_0 i) :
    sout0_B_0 c i arg2 harg2 arg3 harg3 arg4 harg4 arg5 harg5 arg6 harg6 arg7 harg7 arg8 harg8 arg9 harg9 arg10 harg10 hc0 x0 x1 x2 x3 x4 xo6 xo7 xs0 = GS x0 x1 x3 := by
  funext y
  unfold sout0_B_0
  have hcov := scover0_B_0 c i arg2 harg2 arg3 harg3 arg4 harg4 arg5 harg5 arg6 harg6 arg7 harg7 arg8 harg8 arg9 harg9 arg10 harg10 hc0 x0 x1 x2 x3 x4 xo6 xo7 xs0 y
  rw [View.read_writes_eq_canon _ _ _ (scover0_B_0 c i arg2 harg2 arg3 harg3 arg4 harg4 arg5 harg5 arg6 harg6 arg7 harg7 arg8 harg8 arg9 harg9 arg10 harg10 hc0 x0 x1 x2 x3 x4 xo6 xo7 xs0)]
  revert hcov
  unfold kernelRun0_B; dsimp only; sl_unfold_words
  simp only [View.readAt_eq_ld, harg2.read_unread, harg3.read_unread, harg4.read_unread, harg5.read_unread, harg6.read_unread, harg7.read_unread, harg8.read_unread, harg9.read_unread, harg10.read_unread]
  intro hcov
  refine View.canon_apply_of_pieces _ _ (View.PiecesOf.mem ?_) y hcov
  refine ⟨fun x => ?_, fun x => ?_, trivial⟩
  · obtain ⟨q, f, rfl⟩ := idxS x
    refine Eq.trans ?_ (congrArg (GS x0 x1 x3) (a₁ := ix3 1 q f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨q, f, rfl⟩ := idxS x
    refine Eq.trans ?_ (congrArg (GS x0 x1 x3) (a₁ := ix3 0 q f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm

/-- The first point of a column leaves its block of the input gradient. -/
theorem out0_A_5_eq (hc0 : cond0_0 i) :
    out0_A_5 c i arg2 harg2 arg3 harg3 arg4 harg4 arg5 harg5 arg6 harg6 arg7 harg7 arg8 harg8 arg9 harg9 arg10 harg10 hc0 x0 x1 x2 x3 x4 = G5 x0 x1 x3 x4 (k0_pay2 (F := Ideal)) := by
  funext y
  unfold out0_A_5
  have hcov := cover0_A_5 c i arg2 harg2 arg3 harg3 arg4 harg4 arg5 harg5 arg6 harg6 arg7 harg7 arg8 harg8 arg9 harg9 arg10 harg10 hc0 x0 x1 x2 x3 x4 y
  rw [View.read_writes_eq_canon _ _ _ (cover0_A_5 c i arg2 harg2 arg3 harg3 arg4 harg4 arg5 harg5 arg6 harg6 arg7 harg7 arg8 harg8 arg9 harg9 arg10 harg10 hc0 x0 x1 x2 x3 x4)]
  revert hcov
  unfold kernelRun0_A; dsimp only; sl_unfold_words
  simp (discharger := decide) only [↓ View.readCov_skip, ↓ View.readCov_fill, View.readAt_eq_ld, harg2.read_unread, harg3.read_unread, harg4.read_unread, harg5.read_unread, harg6.read_unread, harg7.read_unread, harg8.read_unread, harg9.read_unread, harg10.read_unread]
  intro hcov
  refine View.canon_apply_of_pieces _ _ (View.PiecesOf.mem ?_) y hcov
  refine ⟨fun x => ?_, fun x => ?_, trivial⟩
  · obtain ⟨r, f, rfl⟩ := idx5 x
    refine Eq.trans ?_ (congrArg (G5 x0 x1 x3 x4 (k0_pay2 (F := Ideal))) (a₁ := ix4 1 0 r f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨r, f, rfl⟩ := idx5 x
    refine Eq.trans ?_ (congrArg (G5 x0 x1 x3 x4 (k0_pay2 (F := Ideal))) (a₁ := ix4 0 0 r f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm

/-- The first point of a column leaves its block of the taps' gradient. -/
theorem out0_A_6_eq (hc0 : cond0_0 i) :
    out0_A_6 c i arg2 harg2 arg3 harg3 arg4 harg4 arg5 harg5 arg6 harg6 arg7 harg7 arg8 harg8 arg9 harg9 arg10 harg10 hc0 x0 x1 x2 x3 x4 = G6 x0 x1 x2 x3 (k0_pay2 (F := Ideal)) (k0_pay3 (F := Ideal)) := by
  funext y
  unfold out0_A_6
  have hcov := cover0_A_6 c i arg2 harg2 arg3 harg3 arg4 harg4 arg5 harg5 arg6 harg6 arg7 harg7 arg8 harg8 arg9 harg9 arg10 harg10 hc0 x0 x1 x2 x3 x4 y
  rw [View.read_writes_eq_canon _ _ _ (cover0_A_6 c i arg2 harg2 arg3 harg3 arg4 harg4 arg5 harg5 arg6 harg6 arg7 harg7 arg8 harg8 arg9 harg9 arg10 harg10 hc0 x0 x1 x2 x3 x4)]
  revert hcov
  unfold kernelRun0_A; dsimp only; sl_unfold_words
  simp (discharger := decide) only [↓ View.readCov_skip, ↓ View.readCov_fill, View.readAt_eq_ld, harg2.read_unread, harg3.read_unread, harg4.read_unread, harg5.read_unread, harg6.read_unread, harg7.read_unread, harg8.read_unread, harg9.read_unread, harg10.read_unread]
  intro _
  refine View.canon_append_of_piecesOf (G6 x0 x1 x2 x3 (k0_pay2 (F := Ideal)) (k0_pay3 (F := Ideal))) [_] [_, _, _, _, _, _] ?_ y
    (View.cover_of_tiledL _ ![1, 1, 1, 1376] (by sl_kernel_rfl) y)
  refine ⟨fun x => ?_, fun x => ?_, fun x => ?_, fun x => ?_, fun x => ?_, fun x => ?_, trivial⟩
  · obtain ⟨f, rfl⟩ := idx6 x
    refine Eq.trans ?_ (congrArg (G6 x0 x1 x2 x3 (k0_pay2 (F := Ideal)) (k0_pay3 (F := Ideal))) (a₁ := ix4 1 0 2 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 (k0_pay2 (F := Ideal)) (k0_pay3 (F := Ideal))) (a₁ := ix4 1 0 1 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 (k0_pay2 (F := Ideal)) (k0_pay3 (F := Ideal))) (a₁ := ix4 1 0 0 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 (k0_pay2 (F := Ideal)) (k0_pay3 (F := Ideal))) (a₁ := ix4 0 0 2 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 (k0_pay2 (F := Ideal)) (k0_pay3 (F := Ideal))) (a₁ := ix4 0 0 1 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G6 x0 x1 x2 x3 (k0_pay2 (F := Ideal)) (k0_pay3 (F := Ideal))) (a₁ := ix4 0 0 0 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm

/-- The first point of a column leaves its block of the bias's gradient. -/
theorem out0_A_7_eq (hc0 : cond0_0 i) :
    out0_A_7 c i arg2 harg2 arg3 harg3 arg4 harg4 arg5 harg5 arg6 harg6 arg7 harg7 arg8 harg8 arg9 harg9 arg10 harg10 hc0 x0 x1 x2 x3 x4 = G7 x0 x1 x3 (k0_pay4 (F := Ideal)) := by
  funext y
  unfold out0_A_7
  have hcov := cover0_A_7 c i arg2 harg2 arg3 harg3 arg4 harg4 arg5 harg5 arg6 harg6 arg7 harg7 arg8 harg8 arg9 harg9 arg10 harg10 hc0 x0 x1 x2 x3 x4 y
  rw [View.read_writes_eq_canon _ _ _ (cover0_A_7 c i arg2 harg2 arg3 harg3 arg4 harg4 arg5 harg5 arg6 harg6 arg7 harg7 arg8 harg8 arg9 harg9 arg10 harg10 hc0 x0 x1 x2 x3 x4)]
  revert hcov
  unfold kernelRun0_A; dsimp only; sl_unfold_words
  simp (discharger := decide) only [↓ View.readCov_skip, ↓ View.readCov_fill, View.readAt_eq_ld, harg2.read_unread, harg3.read_unread, harg4.read_unread, harg5.read_unread, harg6.read_unread, harg7.read_unread, harg8.read_unread, harg9.read_unread, harg10.read_unread]
  intro _
  refine View.canon_append_of_piecesOf (G7 x0 x1 x3 (k0_pay4 (F := Ideal))) [_] [_, _] ?_ y
    (View.cover_of_tiledL _ ![1, 1, 1, 1376] (by sl_kernel_rfl) y)
  refine ⟨fun x => ?_, fun x => ?_, trivial⟩
  · obtain ⟨f, rfl⟩ := idx6 x
    refine Eq.trans ?_ (congrArg (G7 x0 x1 x3 (k0_pay4 (F := Ideal))) (a₁ := ix4 1 0 0 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨f, rfl⟩ := idx6 x
    refine Eq.trans ?_ (congrArg (G7 x0 x1 x3 (k0_pay4 (F := Ideal))) (a₁ := ix4 0 0 0 f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm

/-- The first point of a column leaves its block of the rows kept. -/
theorem sout0_A_0_eq (hc0 : cond0_0 i) :
    sout0_A_0 c i arg2 harg2 arg3 harg3 arg4 harg4 arg5 harg5 arg6 harg6 arg7 harg7 arg8 harg8 arg9 harg9 arg10 harg10 hc0 x0 x1 x2 x3 x4 = GS x0 x1 x3 := by
  funext y
  unfold sout0_A_0
  have hcov := scover0_A_0 c i arg2 harg2 arg3 harg3 arg4 harg4 arg5 harg5 arg6 harg6 arg7 harg7 arg8 harg8 arg9 harg9 arg10 harg10 hc0 x0 x1 x2 x3 x4 y
  rw [View.read_writes_eq_canon _ _ _ (scover0_A_0 c i arg2 harg2 arg3 harg3 arg4 harg4 arg5 harg5 arg6 harg6 arg7 harg7 arg8 harg8 arg9 harg9 arg10 harg10 hc0 x0 x1 x2 x3 x4)]
  revert hcov
  unfold kernelRun0_A; dsimp only; sl_unfold_words
  simp (discharger := decide) only [↓ View.readCov_skip, ↓ View.readCov_fill, View.readAt_eq_ld, harg2.read_unread, harg3.read_unread, harg4.read_unread, harg5.read_unread, harg6.read_unread, harg7.read_unread, harg8.read_unread, harg9.read_unread, harg10.read_unread]
  intro _
  refine View.canon_append_of_piecesOf (GS x0 x1 x3) [_] [_, _] ?_ y
    (View.cover_of_tiledL _ ![1, 8, 1376] (by sl_kernel_rfl) y)
  refine ⟨fun x => ?_, fun x => ?_, trivial⟩
  · obtain ⟨q, f, rfl⟩ := idxS x
    refine Eq.trans ?_ (congrArg (GS x0 x1 x3) (a₁ := ix3 1 q f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm
  · obtain ⟨q, f, rfl⟩ := idxS x
    refine Eq.trans ?_ (congrArg (GS x0 x1 x3) (a₁ := ix3 0 q f) ?_)
    · simp only [pay8_at, pay9_at, pay10_at, pay21_at, pay12_at, pay23_at, pay13_at, pay14_at, pay24_at, pay25_at, pay15_at, pay26_at,
        pay16_at, pay17_at, pay18_at, pay29_at, pay30_at, pay31_at, pay20_at, pay1_at, G5_at, G6_at, G7_at, GS_at, g5, g6, g7, gS, shB,
        dB_zero, dB_one, dA]
      pointwise <;> simp only [shV_zero]
    · funext a
      apply Fin.ext
      rw [ValueKit.rect_emb_unit_val]
      fin_cases a <;> first | rfl | exact (Nat.zero_add _).symm

end Point

end Cert.KernelIdeal.Blk

end
-- ==== Proof.Fold.lean ====
module

public import proofs.«01_k».proof.Proof.Blocks
public import proofs.«01_k».proof.Proof.GateBlock

@[expose] public section

set_option maxRecDepth 16384

noncomputable section

namespace Cert.KernelIdeal.Blk

open Cert.KernelIdeal Cert.KernelIdeal.Gen Idealize.ShloMosaic Idealize.ShloMosaic.TcCoe Idealize.SL.Sem Idealize.ShloMosaic.Tactic Cert.Spec

/-! One grid point's step, over any blocks. -/

section Step
variable (D : Fin 2 → Fin 8192 → Fin 5504 → EReal) (X : Arr3 1 8192 2048) (WU : Arr2 2048 11008) (CW : Arr2 3 11008)
  (x0 : Vec Ideal S512x2048 .bf16) (x1 : Vec Ideal S1x1376x2048 .bf16) (x2 x3 : Vec Ideal S2x1x512x1376 .f32)
  (x4 : Vec Ideal S2x1x3x1376 .f32) (xs : Vec Ideal S2x8x1376 .f32) (xo6 : Vec Ideal S2x1x3x1376 .f32) (xo7 : Vec Ideal S2x1x1x1376 .f32)
  (s0 : ℕ) (ph : Fin 1376 → Fin 5504)

/-- The kept rows are those after the block's last one. -/
def Kept : Prop := ∀ (g : Fin 2) (q : Fin 8) (f : Fin 1376), xs (ix3 g q f) = DN D g (s0 + q.val) (ph f)

/-- The taps' gradient so far is the sum over the rows from `s0` on. -/
def Taps : Prop := ∀ (g : Fin 2) (k : Fin 3) (f : Fin 1376),
  xo6 (ix4 g 0 k f) = ∑ s ∈ Finset.Ico s0 8192, DN D g (s + (2 - k.val)) (ph f) * HN X WU s (col g (ph f))

/-- The bias's gradient so far is the sum over the rows from `s0` on. -/
def Bias : Prop := ∀ (g : Fin 2) (f : Fin 1376), xo7 (ix4 g 0 0 f) = ∑ s ∈ Finset.Ico s0 8192, DN D g s (ph f)

variable (hd : ∀ g r f, dB x0 x1 x3 g r f = DN D g (s0 + r.val) (ph f))
include hd

theorem shB_eq (hs : Kept D xs (s0 + 512) ph) (δ : ℕ) (hδ : δ ≤ 2) (g : Fin 2) (r : Fin 512) (f : Fin 1376) :
    shB x0 x1 x3 xs δ g r f = DN D g (s0 + r.val + δ) (ph f) := by
  unfold shB shV
  have hr := r.isLt
  by_cases p : r.val + δ < 512
  · rw [dif_pos p]; exact (hd g ⟨r.val + δ, p⟩ f).trans (congrArg (fun n => DN D g n (ph f)) (by show s0 + (r.val + δ) = _; omega))
  · have q : r.val + δ - 512 < 8 := by omega
    rw [dif_neg p, dif_pos q]
    exact (hs g ⟨r.val + δ - 512, q⟩ f).trans (congrArg (fun n => DN D g n (ph f)) (by show s0 + 512 + (r.val + δ - 512) = _; omega))

theorem sum_block (F : ℕ → EReal) (h : s0 + 512 ≤ 8192) :
    ∑ s ∈ Finset.Ico (s0 + 512) 8192, F s + ∑ r : Fin 512, F (s0 + r.val) = ∑ s ∈ Finset.Ico s0 8192, F s := by
  rw [← Finset.sum_Ico_consecutive F (show s0 ≤ s0 + 512 by omega) h, add_comm]
  congr 1
  rw [Finset.sum_Ico_eq_sum_range, Nat.add_sub_cancel_left, Finset.sum_range]

theorem step5 (hs : Kept D xs (s0 + 512) ph) (hx4 : ∀ g k f, x4 (ix4 g 0 k f) = CW (ix2 k (col g (ph f))))
    (g : Fin 2) (r : Fin 512) (f : Fin 1376) :
    G5 x0 x1 x3 x4 xs (ix4 g 0 r f) = CW (ix2 2 (col g (ph f))) * DN D g (s0 + r.val) (ph f)
      + CW (ix2 1 (col g (ph f))) * DN D g (s0 + r.val + 1) (ph f) + CW (ix2 0 (col g (ph f))) * DN D g (s0 + r.val + 2) (ph f) := by
  show g5 x0 x1 x3 x4 xs g r f = _
  unfold g5
  rw [shB_eq D x0 x1 x3 xs s0 ph hd hs 1 (by decide), shB_eq D x0 x1 x3 xs s0 ph hd hs 2 (by decide), hd, hx4, hx4, hx4]

theorem step6 (h : s0 + 512 ≤ 8192) (hs : Kept D xs (s0 + 512) ph) (h6 : Taps D X WU xo6 (s0 + 512) ph)
    (hx2 : ∀ g r f, x2 (ix4 g 0 r f) = HN X WU (s0 + r.val) (col g (ph f))) :
    Taps D X WU (G6 x0 x1 x2 x3 xs xo6) s0 ph := by
  intro g k f
  show g6 x0 x1 x2 x3 xs xo6 g k f = _
  unfold g6
  rw [h6, ← sum_block D x0 x1 x3 s0 ph hd (fun s => DN D g (s + (2 - k.val)) (ph f) * HN X WU s (col g (ph f))) h]
  congr 1
  refine Finset.sum_congr rfl fun r _ => ?_
  rw [shB_eq D x0 x1 x3 xs s0 ph hd hs _ (by omega), hx2]

theorem step7 (h : s0 + 512 ≤ 8192) (h7 : Bias D xo7 (s0 + 512) ph) : Bias D (G7 x0 x1 x3 xo7) s0 ph := by
  intro g f
  show g7 x0 x1 x3 xo7 g f = _
  unfold g7
  rw [h7, ← sum_block D x0 x1 x3 s0 ph hd (fun s => DN D g s (ph f)) h]
  congr 1
  exact Finset.sum_congr rfl fun r _ => hd g r f

theorem stepS : Kept D (GS x0 x1 x3) s0 ph := by
  intro g q f
  show gS x0 x1 x3 g q f = _
  unfold gS
  rw [hd]

end Step

/-! The zeros that the first point of a chunk starts from. -/

theorem zero2 (g : Fin 2) (q : Fin 8) (f : Fin 1376) : k0_pay2 (F := Ideal) (ix3 g q f) = 0 := by
  unfold_payloads; pointwise
theorem zero3 (g : Fin 2) (k : Fin 3) (f : Fin 1376) : k0_pay3 (F := Ideal) (ix4 g 0 k f) = 0 := by
  unfold_payloads; pointwise
theorem zero4 (g : Fin 2) (f : Fin 1376) : k0_pay4 (F := Ideal) (ix4 g 0 0 f) = 0 := by
  unfold_payloads; pointwise

theorem kept_zero (D : Fin 2 → Fin 8192 → Fin 5504 → EReal) (ph : Fin 1376 → Fin 5504) : Kept D (k0_pay2 (F := Ideal)) 8192 ph := by
  intro g q f
  rw [zero2]; unfold DN; rw [dif_neg (by omega)]

theorem taps_zero (D : Fin 2 → Fin 8192 → Fin 5504 → EReal) (X : Arr3 1 8192 2048) (WU : Arr2 2048 11008) (ph : Fin 1376 → Fin 5504) :
    Taps D X WU (k0_pay3 (F := Ideal)) 8192 ph := by
  intro g k f
  rw [zero3, Finset.Ico_self, Finset.sum_empty]

theorem bias_zero (D : Fin 2 → Fin 8192 → Fin 5504 → EReal) (ph : Fin 1376 → Fin 5504) : Bias D (k0_pay4 (F := Ideal)) 8192 ph := by
  intro g f
  rw [zero4, Finset.Ico_self, Finset.sum_empty]

/-! The accumulation over the grid. -/

variable (m : (ℓ : Loc nD τ sig) → Buf (Elt Ideal) ℓ) (c : Dev nD)

/-- The kernel's gradient at the convolution's output. -/
def DK (g : Fin 2) (s : Fin 8192) (p : Fin 5504) : EReal :=
  if g = 0 then DA (aWD m c) (aCT m c) s p * C (aX m c) (aWU m c) (aCW m c) (aCB m c) s (col 1 p)
      * (sg (C (aX m c) (aWU m c) (aCW m c) (aCB m c) s (col 0 p))
        * (1 + C (aX m c) (aWU m c) (aCW m c) (aCB m c) s (col 0 p) * (1 - sg (C (aX m c) (aWU m c) (aCW m c) (aCB m c) s (col 0 p)))))
  else DA (aWD m c) (aCT m c) s p * (C (aX m c) (aWU m c) (aCW m c) (aCB m c) s (col 0 p) * sg (C (aX m c) (aWU m c) (aCW m c) (aCB m c) s (col 0 p)))

theorem dB_iblk (t : Fin cfg0.N) (g : Fin 2) (r : Fin 512) (f : Fin 1376) :
    dB (iblk m c 0 t) (iblk m c 1 t) (iblk m c 3 t) g r f = DN (DK m c) g (st t + r.val) (feat (jt t) f) := by
  have e : dA (iblk m c 0 t) (iblk m c 1 t) r f = DA (aWD m c) (aCT m c) (row t r) (feat (jt t) f) :=
    Finset.sum_congr rfl fun k _ => congrArg₂ (· * ·) (iblk0 m c t r k) (iblk1 m c t f k)
  unfold DN dB
  rw [dif_pos (st_add t r), e, iblk3, iblk3]
  rfl

theorem x2_iblk (t : Fin cfg0.N) (g : Fin 2) (r : Fin 512) (f : Fin 1376) :
    iblk m c 2 t (ix4 g 0 r f) = HN (aX m c) (aWU m c) (st t + r.val) (col g (feat (jt t) f)) := by
  rw [iblk2]; unfold HN; rw [dif_pos (st_add t r)]; rfl

theorem outs_A (t : Fin cfg0.N) (h0 : t.val % 16 = 0) : outsAt0 m c t.val t.isLt =
    (G5 (iblk m c 0 t) (iblk m c 1 t) (iblk m c 3 t) (iblk m c 4 t) (k0_pay2 (F := Ideal)),
     G6 (iblk m c 0 t) (iblk m c 1 t) (iblk m c 2 t) (iblk m c 3 t) (k0_pay2 (F := Ideal)) (k0_pay3 (F := Ideal)),
     G7 (iblk m c 0 t) (iblk m c 1 t) (iblk m c 3 t) (k0_pay4 (F := Ideal)),
     GS (iblk m c 0 t) (iblk m c 1 t) (iblk m c 3 t)) := by
  rw [outsAt0_A m c t h0, out0_A_5_eq, out0_A_6_eq, out0_A_7_eq, sout0_A_0_eq]

theorem outs_B (t : Fin cfg0.N) (h0 : ¬t.val % 16 = 0) (xo6 : Vec Ideal S2x1x3x1376 .f32) (xo7 : Vec Ideal S2x1x1x1376 .f32)
    (xs : Vec Ideal S2x8x1376 .f32)
    (e6 : (outsAt0 m c (t.val - 1) (Nat.lt_of_le_of_lt (Nat.sub_le _ _) t.isLt)).2.1 = xo6)
    (e7 : (outsAt0 m c (t.val - 1) (Nat.lt_of_le_of_lt (Nat.sub_le _ _) t.isLt)).2.2.1 = xo7)
    (es : (outsAt0 m c (t.val - 1) (Nat.lt_of_le_of_lt (Nat.sub_le _ _) t.isLt)).2.2.2 = xs) : outsAt0 m c t.val t.isLt =
    (G5 (iblk m c 0 t) (iblk m c 1 t) (iblk m c 3 t) (iblk m c 4 t) xs,
     G6 (iblk m c 0 t) (iblk m c 1 t) (iblk m c 2 t) (iblk m c 3 t) xs xo6,
     G7 (iblk m c 0 t) (iblk m c 1 t) (iblk m c 3 t) xo7,
     GS (iblk m c 0 t) (iblk m c 1 t) (iblk m c 3 t)) := by
  rw [outsAt0_B m c t h0, e6, e7, es, out0_B_5_eq, out0_B_6_eq, out0_B_7_eq, sout0_B_0_eq]

/-- What the outputs' buffers and the kept rows hold at every point. -/
structure At (t : Fin cfg0.N) (o : Vec Ideal S2x1x512x1376 .bf16 × Vec Ideal S2x1x3x1376 .f32 × Vec Ideal S2x1x1x1376 .f32 × Vec Ideal S2x8x1376 .f32) : Prop where
  h5 : ∀ (g : Fin 2) (r : Fin 512) (f : Fin 1376), o.1 (ix4 g 0 r f) = outH (DK m c) (aCW m c) g (row t r) (feat (jt t) f)
  h6 : Taps (DK m c) (aX m c) (aWU m c) o.2.1 (st t) (feat (jt t))
  h7 : Bias (DK m c) o.2.2.1 (st t) (feat (jt t))
  hs : Kept (DK m c) o.2.2.2 (st t) (feat (jt t))

/-- One point, from what the point before left. -/
theorem at_step (t : Fin cfg0.N) (xo6 : Vec Ideal S2x1x3x1376 .f32) (xo7 : Vec Ideal S2x1x1x1376 .f32) (xs : Vec Ideal S2x8x1376 .f32)
    (h6 : Taps (DK m c) (aX m c) (aWU m c) xo6 (st t + 512) (feat (jt t))) (h7 : Bias (DK m c) xo7 (st t + 512) (feat (jt t)))
    (hs : Kept (DK m c) xs (st t + 512) (feat (jt t))) :
    At m c t (G5 (iblk m c 0 t) (iblk m c 1 t) (iblk m c 3 t) (iblk m c 4 t) xs,
     G6 (iblk m c 0 t) (iblk m c 1 t) (iblk m c 2 t) (iblk m c 3 t) xs xo6,
     G7 (iblk m c 0 t) (iblk m c 1 t) (iblk m c 3 t) xo7,
     GS (iblk m c 0 t) (iblk m c 1 t) (iblk m c 3 t)) where
  h5 g r f := step5 (DK m c) (aCW m c) _ _ _ _ xs (st t) (feat (jt t)) (dB_iblk m c t) hs (iblk4 m c t) g r f
  h6 := step6 (DK m c) (aX m c) (aWU m c) _ _ _ _ xs xo6 (st t) (feat (jt t)) (dB_iblk m c t) (by unfold st; omega) hs h6 (x2_iblk m c t)
  h7 := step7 (DK m c) _ _ _ xo7 (st t) (feat (jt t)) (dB_iblk m c t) (by unfold st; omega) h7
  hs := stepS (DK m c) _ _ _ (st t) (feat (jt t)) (dB_iblk m c t)

theorem at_all : ∀ (n : ℕ) (hn : n < cfg0.N), At m c ⟨n, hn⟩ (outsAt0 m c n hn) := by
  intro n
  induction n with
  | zero =>
    intro hn
    have e := outs_A m c ⟨0, hn⟩ (Nat.zero_mod _)
    have e8 : st ⟨0, hn⟩ + 512 = 8192 := rfl
    show At m c ⟨0, hn⟩ (outsAt0 m c (⟨0, hn⟩ : Fin cfg0.N).val (⟨0, hn⟩ : Fin cfg0.N).isLt)
    rw [e]
    refine at_step m c _ _ _ _ ?_ ?_ ?_ <;> rw [e8]
    · exact taps_zero _ _ _ _
    · exact bias_zero _ _
    · exact kept_zero _ _
  | succ n ih =>
    intro hn
    have hn' : n < cfg0.N := Nat.lt_of_succ_lt hn
    have h64 := lt64 ⟨n + 1, hn⟩
    show At m c ⟨n + 1, hn⟩ (outsAt0 m c (⟨n + 1, hn⟩ : Fin cfg0.N).val (⟨n + 1, hn⟩ : Fin cfg0.N).isLt)
    by_cases h0 : (n + 1) % 16 = 0
    · have e8 : st ⟨n + 1, hn⟩ + 512 = 8192 := by unfold st; simp only [h0]
      rw [outs_A m c ⟨n + 1, hn⟩ h0]
      refine at_step m c _ _ _ _ ?_ ?_ ?_ <;> rw [e8]
      · exact taps_zero _ _ _ _
      · exact bias_zero _ _
      · exact kept_zero _ _
    · have ha := ih hn'
      have e8 : st ⟨n + 1, hn⟩ + 512 = st ⟨n, hn'⟩ := by unfold st; simp only; omega
      have ej : jt ⟨n + 1, hn⟩ = jt ⟨n, hn'⟩ := Fin.ext (by show (n + 1) / 16 = n / 16; omega)
      rw [outs_B m c ⟨n + 1, hn⟩ h0 (outsAt0 m c n hn').2.1 (outsAt0 m c n hn').2.2.1 (outsAt0 m c n hn').2.2.2 rfl rfl rfl]
      refine at_step m c _ _ _ _ ?_ ?_ ?_ <;> rw [e8, ej]
      · exact ha.h6
      · exact ha.h7
      · exact ha.hs

end Cert.KernelIdeal.Blk
end
-- ==== Proof.Final.lean ====
module

public import proofs.«01_k».proof.Proof.Fold
public import proofs.«01_k».proof.Proof.Gen.KernelIdeal.Value

@[expose] public section

set_option maxRecDepth 16384

noncomputable section

namespace Cert.KernelIdeal.Blk

open Cert.KernelIdeal Cert.KernelIdeal.Gen Cert.KernelIdeal.Value Idealize.ShloMosaic Idealize.ShloMosaic.TcCoe Idealize.SL.Sem Idealize.ShloMosaic.Tactic Cert.Spec

variable (m : (ℓ : Loc nD τ sig) → Buf (Elt Ideal) ℓ) (c : Dev nD)

/-- The input gradient's array, of any gradient at the convolution's output. -/
def F5 (D : Fin 2 → Fin 8192 → Fin 5504 → EReal) (CW : Arr2 3 11008) : Vec Ideal S2x4x8192x1376 .bf16 := fun y =>
  outH D CW (y 0) (y 2) (feat (y 1) (y 3))

/-- The taps' gradient's array. -/
def F6 (D : Fin 2 → Fin 8192 → Fin 5504 → EReal) (X : Arr3 1 8192 2048) (WU : Arr2 2048 11008) : Vec Ideal S2x4x3x1376 .f32 := fun y =>
  outW D X WU (y 0) (y 2) (feat (y 1) (y 3))

/-- The bias's gradient's array. -/
def F7 (D : Fin 2 → Fin 8192 → Fin 5504 → EReal) : Vec Ideal S2x4x1x1376 .f32 := fun y =>
  outB D (y 0) (feat (y 1) (y 3))

theorem at_t (t : Fin cfg0.N) : At m c t (outsAt0 m c t.val t.isLt) := at_all m c t.val t.isLt

theorem unit1 (z : Fin 1) : z = 0 := Subsingleton.elim _ _

/-- What a point writes back of the input gradient is that array's block. -/
theorem flush5 (t : Fin cfg0.N) : (dats m 0 c).flushed 5 t = ((cfg0.win 5).blk t).view.read (Elt Ideal) (F5 (DK m c) (aCW m c)) := by
  rw [flushed5]
  have ha := (at_t m c t).h5
  generalize outsAt0 m c t.val t.isLt = o at ha
  funext y
  obtain ⟨y0, y1, y2, y3, rfl⟩ : ∃ (y0 : Fin 2) (y1 : Fin 1) (y2 : Fin 512) (y3 : Fin 1376), y = ix4 y0 y1 y2 y3 :=
    ⟨y 0, y 1, y 2, y 3, by funext a; match a with | ⟨0, _⟩ => rfl | ⟨1, _⟩ => rfl | ⟨2, _⟩ => rfl | ⟨3, _⟩ => rfl⟩
  show o.1 (ix4 y0 y1 y2 y3) = F5 (DK m c) (aCW m c) (((cfg0.win 5).blk t).view.emb (ix4 y0 y1 y2 y3))
  rw [emb5, unit1 y1, ha]
  rfl

theorem flush6 (t : Fin cfg0.N) (hf : (cfg0.win 6).flush t = true) :
    (dats m 0 c).flushed 6 t = ((cfg0.win 6).blk t).view.read (Elt Ideal) (F6 (DK m c) (aX m c) (aWU m c)) := by
  have hl := (flush0_6 t).mp hf
  have hst : st t = 0 := by unfold st; omega
  rw [flushed6]
  have ha := (at_t m c t).h6
  rw [hst] at ha
  generalize outsAt0 m c t.val t.isLt = o at ha
  funext y
  obtain ⟨y0, y1, y2, y3, rfl⟩ : ∃ (y0 : Fin 2) (y1 : Fin 1) (y2 : Fin 3) (y3 : Fin 1376), y = ix4 y0 y1 y2 y3 :=
    ⟨y 0, y 1, y 2, y 3, by funext a; match a with | ⟨0, _⟩ => rfl | ⟨1, _⟩ => rfl | ⟨2, _⟩ => rfl | ⟨3, _⟩ => rfl⟩
  show o.2.1 (ix4 y0 y1 y2 y3) = F6 (DK m c) (aX m c) (aWU m c) (((cfg0.win 6).blk t).view.emb (ix4 y0 y1 y2 y3))
  rw [emb6, unit1 y1, ha, ← Finset.range_eq_Ico]
  rfl

theorem flush7 (t : Fin cfg0.N) (hf : (cfg0.win 7).flush t = true) :
    (dats m 0 c).flushed 7 t = ((cfg0.win 7).blk t).view.read (Elt Ideal) (F7 (DK m c)) := by
  have hl := (flush0_7 t).mp hf
  have hst : st t = 0 := by unfold st; omega
  rw [flushed7]
  have ha := (at_t m c t).h7
  rw [hst] at ha
  generalize outsAt0 m c t.val t.isLt = o at ha
  funext y
  obtain ⟨y0, y1, y2, y3, rfl⟩ : ∃ (y0 : Fin 2) (y1 : Fin 1) (y2 : Fin 1) (y3 : Fin 1376), y = ix4 y0 y1 y2 y3 :=
    ⟨y 0, y 1, y 2, y 3, by funext a; match a with | ⟨0, _⟩ => rfl | ⟨1, _⟩ => rfl | ⟨2, _⟩ => rfl | ⟨3, _⟩ => rfl⟩
  show o.2.2.1 (ix4 y0 y1 y2 y3) = F7 (DK m c) (((cfg0.win 7).blk t).view.emb (ix4 y0 y1 y2 y3))
  rw [emb7, unit1 y1, unit1 y2, ha, ← Finset.range_eq_Ico]
  rfl

/-- The grid point of chunk `j` and the `k`-th time block visited. -/
def pt (j : Fin 4) (k : Fin 16) : Fin cfg0.N := ⟨j.val * 16 + k.val, Nat.lt_of_lt_of_eq (by have := j.isLt; have := k.isLt; omega : j.val * 16 + k.val < 64) N_0.symm⟩

theorem final5 : (dats m 0 c).arrAt 5 cfg0.N = F5 (DK m c) (aCW m c) := by
  refine (dats m 0 c).arrAt_eq_of_cover 5 _ (fun t _ => flush5 m c t) fun i => ?_
  obtain ⟨y0, y1, y2, y3, rfl⟩ : ∃ (y0 : Fin 2) (y1 : Fin 4) (y2 : Fin 8192) (y3 : Fin 1376), i = ix4 y0 y1 y2 y3 :=
    ⟨i 0, i 1, i 2, i 3, by funext a; match a with | ⟨0, _⟩ => rfl | ⟨1, _⟩ => rfl | ⟨2, _⟩ => rfl | ⟨3, _⟩ => rfl⟩
  have h1 := y1.isLt
  have h2 := y2.isLt
  have hk : 15 - y2.val / 512 < 16 := by omega
  have hr : y2.val % 512 < 512 := by omega
  refine ⟨pt y1 ⟨15 - y2.val / 512, hk⟩, flush0_5 _, ?_⟩
  have e : ((cfg0.win 5).blk (pt y1 ⟨15 - y2.val / 512, hk⟩)).view.emb (ix4 y0 0 ⟨y2.val % 512, hr⟩ y3) = ix4 y0 y1 y2 y3 := by
    rw [emb5]
    congr 1
    · exact Fin.ext (by show (y1.val * 16 + (15 - y2.val / 512)) / 16 = y1.val; omega)
    · exact Fin.ext (by show (15 - (y1.val * 16 + (15 - y2.val / 512)) % 16) * 512 + y2.val % 512 = y2.val; omega)
  rw [← e]
  exact View.emb_mem_set _ _

theorem final6 : (dats m 0 c).arrAt 6 cfg0.N = F6 (DK m c) (aX m c) (aWU m c) := by
  refine (dats m 0 c).arrAt_eq_of_cover 6 _ (fun t hf => flush6 m c t hf) fun i => ?_
  obtain ⟨y0, y1, y2, y3, rfl⟩ : ∃ (y0 : Fin 2) (y1 : Fin 4) (y2 : Fin 3) (y3 : Fin 1376), i = ix4 y0 y1 y2 y3 :=
    ⟨i 0, i 1, i 2, i 3, by funext a; match a with | ⟨0, _⟩ => rfl | ⟨1, _⟩ => rfl | ⟨2, _⟩ => rfl | ⟨3, _⟩ => rfl⟩
  have h1 := y1.isLt
  refine ⟨pt y1 15, (flush0_6 _).mpr (by show (y1.val * 16 + 15) % 16 = 15; omega), ?_⟩
  have e : ((cfg0.win 6).blk (pt y1 15)).view.emb (ix4 y0 0 y2 y3) = ix4 y0 y1 y2 y3 := by
    rw [emb6]
    congr 1
    exact Fin.ext (by show (y1.val * 16 + 15) / 16 = y1.val; omega)
  rw [← e]
  exact View.emb_mem_set _ _

theorem final7 : (dats m 0 c).arrAt 7 cfg0.N = F7 (DK m c) := by
  refine (dats m 0 c).arrAt_eq_of_cover 7 _ (fun t hf => flush7 m c t hf) fun i => ?_
  obtain ⟨y0, y1, y2, y3, rfl⟩ : ∃ (y0 : Fin 2) (y1 : Fin 4) (y2 : Fin 1) (y3 : Fin 1376), i = ix4 y0 y1 y2 y3 :=
    ⟨i 0, i 1, i 2, i 3, by funext a; match a with | ⟨0, _⟩ => rfl | ⟨1, _⟩ => rfl | ⟨2, _⟩ => rfl | ⟨3, _⟩ => rfl⟩
  have h1 := y1.isLt
  refine ⟨pt y1 15, (flush0_7 _).mpr (by show (y1.val * 16 + 15) % 16 = 15; omega), ?_⟩
  have e : ((cfg0.win 7).blk (pt y1 15)).view.emb (ix4 y0 0 y2 y3) = ix4 y0 y1 y2 y3 := by
    rw [emb7]
    congr 1
    exact Fin.ext (by show (y1.val * 16 + 15) / 16 = y1.val; omega)
  rw [← e]
  exact View.emb_mem_set _ _

end Cert.KernelIdeal.Blk
end
-- ==== Proof.RefRead.lean ====
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Rd

open Cert.ReferenceIdeal Cert.ReferenceIdeal.Gen Cert.ReferenceIdeal.Read Idealize.ShloMosaic Idealize.ShloMosaic.TcCoe Idealize.SL.Sem Idealize.ShloMosaic.Tactic Cert.Spec

variable (X : Arr3 1 8192 2048) (WU : Arr2 2048 11008) (CW : Arr2 3 11008) (CB : Arr1 11008) (WD : Arr2 5504 2048) (CT : Arr3 1 8192 2048)

/-- The logistic function, as the reference writes it. -/
def lg (x : EReal) : EReal := Ideal.div 1 (1 + Ideal.exp (-x))

/-- The reference's gradient at the convolution's output: of the gate half (0) and of the value half (1). -/
def DR (g : Fin 2) (s : Fin 8192) (p : Fin 5504) : EReal :=
  if g = 0 then DA WD CT s p * C X WU CW CB s (col 1 p) * lg (C X WU CW CB s (col 0 p))
      + C X WU CW CB s (col 0 p) * (DA WD CT s p * C X WU CW CB s (col 1 p)) * (lg (C X WU CW CB s (col 0 p)) * (1 - lg (C X WU CW CB s (col 0 p))))
  else C X WU CW CB s (col 0 p) * lg (C X WU CW CB s (col 0 p)) * DA WD CT s p

theorem v2_at (s : Fin 8194) (f : Fin 11008) : val_main_v2 (F := Ideal) X WU (ix3 0 s f) = HP X WU s.val f := by
  unfold val_main_v2 val_main_v1 val_main_v0 val_main_cst
  pointwise
  have hs := s.isLt
  unfold HP HN
  by_cases h1 : s.val < 2
  · rw [dif_pos h1, if_pos h1]
  · rw [dif_neg h1, if_neg h1, dif_pos (show s.val - 2 < 8192 by omega)]
    rfl

theorem v26_at (s : Fin 8192) (f : Fin 11008) : val_main_v26 (F := Ideal) X WU CW CB (ix3 0 s f) = C X WU CW CB s f := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4
  pointwise
  rw [v2_at, v2_at, v2_at]
  unfold C
  simp only [Nat.add_comm]

theorem v32_at (s : Fin 8192) (p : Fin 5504) : val_main_v32 (F := Ideal) WD CT (ix3 0 s p) = DA WD CT s p := by
  unfold val_main_v32
  pointwise
  rfl

theorem col0 (p : Fin 5504) (h : p.val < 11008) : (⟨p.val, h⟩ : Fin 11008) = col 0 p := Fin.ext (by show p.val = 0 * 5504 + p.val; omega)

theorem col1 (p : Fin 5504) (h : 5504 + p.val < 11008) : (⟨5504 + p.val, h⟩ : Fin 11008) = col 1 p := Fin.ext (by show 5504 + p.val = 1 * 5504 + p.val; omega)

theorem v33_at (s : Fin 8192) (p : Fin 5504) : val_main_v33 (F := Ideal) X WU CW CB WD CT (ix3 0 s p) = DR X WU CW CB WD CT 1 s p := by
  unfold val_main_v33 val_main_v29_0 val_main_v29_2 val_main_v27 val_main_call0_v4 val_main_call0_v3 val_main_call0_v2 val_main_call0_v1 val_main_call0_v0 val_main_call0_cst_0 val_main_call0_cst val_main_v27
  pointwise
  rw [col0, v26_at, v32_at]
  rfl

theorem v35_at (s : Fin 8192) (p : Fin 5504) : val_main_v35 (F := Ideal) X WU CW CB WD CT (ix3 0 s p) = DR X WU CW CB WD CT 0 s p := by
  unfold val_main_v35 val_main_call1_v2 val_main_call1_v1 val_main_call1_v0 val_main_v34 val_main_v29_1 val_main_call0_v7 val_main_v29_2 val_main_v27 val_main_v28 val_main_call0_v6 val_main_call0_cst_1 val_main_call0_v4 val_main_call0_v3 val_main_call0_v2 val_main_call0_v1 val_main_call0_v0 val_main_call0_cst_0 val_main_call0_cst val_main_v27
  pointwise
  rw [col0, col1, v26_at, v26_at, v32_at]
  rfl

theorem v36_at (g : Fin 2) (s : Fin 8192) (p : Fin 5504) : val_main_v36 (F := Ideal) X WU CW CB WD CT (ix3 0 s (col g p)) = DR X WU CW CB WD CT g s p := by
  unfold val_main_v36
  pointwise
  have hp := p.isLt
  match g with
  | ⟨0, _⟩ =>
    refine (dif_pos (show 0 * 5504 + p.val < 5504 by omega)).trans ?_
    exact (congrArg (fun q => val_main_v35 (F := Ideal) X WU CW CB WD CT (ix3 0 s q)) (Fin.ext (by show 0 * 5504 + p.val = p.val; omega))).trans (v35_at X WU CW CB WD CT s p)
  | ⟨1, _⟩ =>
    refine (dif_neg (show ¬ 1 * 5504 + p.val < 5504 by omega)).trans ?_
    exact (congrArg (fun q => val_main_v33 (F := Ideal) X WU CW CB WD CT (ix3 0 s q)) (Fin.ext (by show 1 * 5504 + p.val - 5504 = p.val; omega))).trans (v33_at X WU CW CB WD CT s p)

theorem colf (g : Fin 2) (j : Fin 4) (f : Fin 1376) (h : g.val * 5504 + j.val * 1376 + f.val < 11008) :
    (⟨g.val * 5504 + j.val * 1376 + f.val, h⟩ : Fin 11008) = col g (feat j f) :=
  Fin.ext (by show g.val * 5504 + j.val * 1376 + f.val = g.val * 5504 + (j.val * 1376 + f.val); omega)

theorem dn_of (D : Fin 2 → Fin 8192 → Fin 5504 → EReal) (g : Fin 2) (p : Fin 5504) (n n' : ℕ) (q : Prop) [Decidable q] (hq : q ↔ n < 8192) (hn : q → n' < 8192)
    (e : n' = n) (w : EReal) : (if h : q then w * D g ⟨n', hn h⟩ p else 0) = w * DN D g n p := by
  subst e
  unfold DN
  by_cases h : n' < 8192
  · rw [dif_pos (hq.mpr h), dif_pos h]
  · rw [dif_neg (fun x => h (hq.mp x)), dif_neg h, mul_zero]

theorem v75_at (g : Fin 2) (j : Fin 4) (s : Fin 8192) (f : Fin 1376) : val_main_v75 (F := Ideal) X WU CW CB WD CT (ix4 g j s f) = outH (DR X WU CW CB WD CT) CW g s (feat j f) := by
  unfold val_main_v75 val_main_v74 val_main_v73 val_main_v72 val_main_v67 val_main_v66 val_main_v61 val_main_v60 val_main_v7 val_main_v5 val_main_v4 val_main_v53 val_main_v52 val_main_v47 val_main_v46 val_main_v43 val_main_v38 val_main_v37 val_main_v23 val_main_v16 val_main_v14 val_main_v13 val_main_v21 val_main_v20 val_main_cst_13 val_main_cst_7 val_main_cst_3
  pointwise
  have hg := g.isLt
  have hj := j.isLt
  have hf := f.isLt
  have hs := s.isLt
  simp only [colf g j f, v36_at]
  unfold outH
  refine congrArg₂ (· + ·) (congrArg₂ (· + ·) ?_ ?_) ?_
  · exact dn_of _ g (feat j f) s.val s.val _ (iff_of_true (by omega) hs) (fun _ => hs) rfl _
  · exact dn_of _ g (feat j f) (s.val + 1) (2 + s.val - 1) _ (by omega) (fun h => h.1.2) (by omega) _
  · exact dn_of _ g (feat j f) (s.val + 2) (2 + s.val) _ (by omega) (fun h => h.1) (by omega) _

theorem red2 (A : Arr3 1 1 11008) (p : Fin 11008) : Ideal.hostReduceAdd reducesTo_S1x1x11008_S11008_d0_1 A 0 (ix1 p) = A (ix3 0 0 p) := by
  unfold Ideal.hostReduceAdd
  rw [zero_add]
  refine Finset.sum_eq_single_of_mem (ix3 0 0 p) ?_ ?_
  · rw [Finset.mem_filter]
    refine ⟨Finset.mem_univ _, ?_⟩
    funext b
    match b with
    | ⟨0, _⟩ => rfl
  · intro i hi hne
    rw [Finset.mem_filter] at hi
    exfalso
    apply hne
    have h2 := congrFun hi.2 (0 : Fin 1)
    funext b
    match b with
    | ⟨0, _⟩ => exact Subsingleton.elim (α := Fin 1) _ _
    | ⟨1, _⟩ => exact Subsingleton.elim (α := Fin 1) _ _
    | ⟨2, _⟩ => exact h2

theorem v42_at (f : Fin 11008) : val_main_v42 (F := Ideal) X WU CW CB WD CT (ix1 f) = ∑ s : Fin 8192, val_main_v36 (F := Ideal) X WU CW CB WD CT (ix3 0 s f) * HP X WU (s.val + 2) f := by
  unfold val_main_v42 val_main_v41 val_main_v40 val_main_v39 val_main_v22 val_main_cst_1 val_main_cst_2
  pointwise
  rw [red2]
  pointwise
  simp only [v2_at, Nat.add_comm]

theorem v51_at (f : Fin 11008) : val_main_v51 (F := Ideal) X WU CW CB WD CT (ix1 f) = ∑ s : Fin 8192, val_main_v36 (F := Ideal) X WU CW CB WD CT (ix3 0 s f) * HP X WU (s.val + 1) f := by
  unfold val_main_v51 val_main_v50 val_main_v49 val_main_v48 val_main_v15 val_main_cst_5 val_main_cst_6
  pointwise
  rw [red2]
  pointwise
  simp only [v2_at, Nat.add_comm]

theorem v65_at (f : Fin 11008) : val_main_v65 (F := Ideal) X WU CW CB WD CT (ix1 f) = ∑ s : Fin 8192, val_main_v36 (F := Ideal) X WU CW CB WD CT (ix3 0 s f) * HP X WU s.val f := by
  unfold val_main_v65 val_main_v64 val_main_v63 val_main_v62 val_main_v6 val_main_cst_11 val_main_cst_12
  pointwise
  rw [red2]
  pointwise
  simp only [v2_at]

theorem v59_at (f : Fin 11008) : val_main_v59 (F := Ideal) X WU CW CB WD CT (ix1 f) = ∑ s : Fin 8192, val_main_v36 (F := Ideal) X WU CW CB WD CT (ix3 0 s f) := by
  unfold val_main_v59 val_main_v58 val_main_v57 val_main_cst_10 val_main_cst_9
  pointwise
  rw [red2]
  pointwise

theorem shift_sum (D : Fin 2 → Fin 8192 → Fin 5504 → EReal) (g : Fin 2) (p : Fin 5504) (k : Fin 3) :
    ∑ s : Fin 8192, D g s p * HP X WU (s.val + k.val) (col g p) = outW D X WU g k p := by
  have hk := k.isLt
  obtain ⟨δ, hδ⟩ : ∃ δ : ℕ, δ = 2 - k.val := ⟨_, rfl⟩
  unfold outW
  rw [← hδ]
  have e1 : ∑ s : Fin 8192, D g s p * HP X WU (s.val + k.val) (col g p) = ∑ s ∈ Finset.range 8192, DN D g s p * HP X WU (s + k.val) (col g p) := by
    rw [Finset.sum_range]
    refine Finset.sum_congr rfl fun s _ => ?_
    unfold DN
    rw [dif_pos s.isLt]
  have e2 : ∑ s ∈ Finset.range 8192, DN D g (s + δ) p * HN X WU s (col g p) = ∑ s ∈ Finset.Ico (0 + δ) (8192 + δ), DN D g s p * HN X WU (s - δ) (col g p) := by
    rw [Finset.range_eq_Ico, ← Finset.sum_Ico_add' (fun s => DN D g s p * HN X WU (s - δ) (col g p)) 0 8192 δ]
    refine Finset.sum_congr rfl fun s _ => ?_
    rw [Nat.add_sub_cancel]
  rw [e1, e2, Finset.range_eq_Ico, ← Finset.sum_Ico_consecutive _ (Nat.zero_le δ) (show δ ≤ 8192 by omega),
    ← Finset.sum_Ico_consecutive _ (show 0 + δ ≤ 8192 by omega) (Nat.le_add_right 8192 δ)]
  have z1 : ∑ s ∈ Finset.Ico 0 δ, DN D g s p * HP X WU (s + k.val) (col g p) = 0 :=
    Finset.sum_eq_zero fun s hs => by
      have := (Finset.mem_Ico.mp hs).2
      unfold HP
      rw [if_pos (by omega), mul_zero]
  have z2 : ∑ s ∈ Finset.Ico 8192 (8192 + δ), DN D g s p * HN X WU (s - δ) (col g p) = 0 :=
    Finset.sum_eq_zero fun s hs => by
      have := (Finset.mem_Ico.mp hs).1
      unfold DN
      rw [dif_neg (by omega), zero_mul]
  rw [z1, z2, zero_add, add_zero, Nat.zero_add]
  refine Finset.sum_congr rfl fun s hs => ?_
  have h1 := (Finset.mem_Ico.mp hs).1
  have e : HP X WU (s + k.val) (col g p) = HN X WU (s - δ) (col g p) := by
    unfold HP
    rw [if_neg (by omega)]
    exact congrArg (fun n => HN X WU n (col g p)) (by omega)
  rw [e]

theorem v77_at (g : Fin 2) (j : Fin 4) (k : Fin 3) (f : Fin 1376) : val_main_v77 (F := Ideal) X WU CW CB WD CT (ix4 g j k f) = outW (DR X WU CW CB WD CT) X WU g k (feat j f) := by
  unfold val_main_v77 val_main_v76 val_main_v70 val_main_v69 val_main_v68 val_main_v56 val_main_v55 val_main_v54 val_main_v45 val_main_v44 val_main_cst_14 val_main_cst_8 val_main_cst_4
  pointwise
  rw [← shift_sum]
  have hg := g.isLt
  have hj := j.isLt
  have hf := f.isLt
  simp only [colf g j f, v42_at, v51_at, v65_at, v36_at]
  match k with
  | ⟨0, _⟩ =>
    refine (congrArg₂ (· + ·) (congrArg₂ (· + ·) (dif_neg (fun h => by have := h.1.1; simp at this)) (dif_neg (fun h => by have := h.1.1; simp at this))) (dif_pos ⟨by show 0 < 1; omega, by omega⟩)).trans ?_
    rw [add_zero, zero_add]
    rfl
  | ⟨1, _⟩ =>
    refine (congrArg₂ (· + ·) (congrArg₂ (· + ·) (dif_neg (fun h => by have := h.1.1; simp at this)) (dif_pos ⟨⟨by show 1 ≤ 1; omega, by show 1 - 1 < 1; omega⟩, by omega⟩)) (dif_neg (fun h => by have := h.1; simp at this))).trans ?_
    rw [add_zero, zero_add]
  | ⟨2, _⟩ =>
    refine (congrArg₂ (· + ·) (congrArg₂ (· + ·) (dif_pos ⟨⟨by show 2 ≤ 2; omega, by show 2 - 2 < 1; omega⟩, by omega⟩) (dif_neg (fun h => by have := h.1.2; simp at this))) (dif_neg (fun h => by have := h.1; simp at this))).trans ?_
    rw [add_zero, add_zero]

theorem v78_at (g : Fin 2) (j : Fin 4) (f : Fin 1376) : val_main_v78 (F := Ideal) X WU CW CB WD CT (ix4 g j 0 f) = outB (DR X WU CW CB WD CT) g (feat j f) := by
  unfold val_main_v78
  pointwise
  rw [v59_at]
  unfold outB
  rw [Finset.sum_range]
  refine Finset.sum_congr rfl fun s _ => ?_
  simp only [colf g j f, v36_at]
  unfold DN
  rw [dif_pos s.isLt]

end Cert.ReferenceIdeal.Rd
end
-- ==== Proof.Equal.lean ====
module

public import proofs.«01_k».proof.Proof.Final
public import proofs.«01_k».proof.Proof.RefRead
public import Mathlib.Analysis.SpecialFunctions.Trigonometric.Basic

@[expose] public section

set_option maxRecDepth 16384

noncomputable section

namespace Cert.Equal

open Idealize.ShloMosaic Idealize.ShloMosaic.Tactic Cert.Spec Cert.KernelIdeal.Blk Cert.ReferenceIdeal.Rd

/-- Being a real number: neither infinity. -/
def Fin' (x : EReal) : Prop := ∃ r : ℝ, x = (r : EReal)

theorem fin_zero : Fin' 0 := ⟨0, EReal.coe_zero.symm⟩

theorem fin_add {x y : EReal} (hx : Fin' x) (hy : Fin' y) : Fin' (x + y) := by
  obtain ⟨a, rfl⟩ := hx
  obtain ⟨b, rfl⟩ := hy
  exact ⟨a + b, (EReal.coe_add a b).symm⟩

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_sum {n : ℕ} (F : Fin n → EReal) (h : ∀ k, Fin' (F k)) : Fin' (∑ k, F k) :=
  Finset.sum_induction F Fin' (fun _ _ => fin_add) fin_zero fun k _ => h k

/-- The comparison that the precondition makes of one number: its magnitude is below infinity. -/
theorem fin_of_cmp (x : EReal) (h : Ideal.cmp .olt (max x (-x)) (Ideal.ofBits .f32 0x7F800000#32) = 1#1) : Fin' x := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact ⟨r, rfl⟩

theorem half_eq : half = ((1 / 2 : ℝ) : EReal) := by
  unfold half
  simp only [Ideal.ofBits, Ideal.ieee]
  have e1 : ((0x3F000000#32 : BitVec 32).extractLsb' 23 8).toNat = 126 := by decide
  have e2 : ((0x3F000000#32 : BitVec 32).extractLsb' 0 23).toNat = 0 := by decide
  have e3 : ((0x3F000000#32 : BitVec 32).extractLsb' (8 + 23) 1 == 1#1) = false := by decide
  rw [e1, e2, e3]
  norm_num

theorem logistic_real (x : ℝ) : 1 / 2 * Real.tanh (1 / 2 * x) + 1 / 2 = 1 / (1 + Real.exp (-x)) := by
  have e : Real.exp (-x) = Real.exp (-(1 / 2 * x)) * Real.exp (-(1 / 2 * x)) := by
    rw [← Real.exp_add]
    congr 1
    ring
  have e2 : Real.exp (1 / 2 * x) * Real.exp (-(1 / 2 * x)) = 1 := by
    rw [← Real.exp_add, add_neg_cancel, Real.exp_zero]
  have p1 := Real.exp_pos (1 / 2 * x)
  have p2 := Real.exp_pos (-(1 / 2 * x))
  rw [Real.tanh_eq_sinh_div_cosh, Real.sinh_eq, Real.cosh_eq, e]
  generalize Real.exp (1 / 2 * x) = a at *
  generalize Real.exp (-(1 / 2 * x)) = b at *
  have n1 : a + b ≠ 0 := by positivity
  have n2 : 1 + b * b ≠ 0 := by positivity
  field_simp
  linear_combination (2 * b) * e2

theorem sg_coe (x : ℝ) : sg (x : EReal) = ((1 / (1 + Real.exp (-x)) : ℝ) : EReal) := by
  unfold sg
  rw [half_eq, ← EReal.coe_mul, Ideal.tanh_coe, ← EReal.coe_mul, ← EReal.coe_add, logistic_real]

theorem lg_coe (x : ℝ) : lg (x : EReal) = ((1 / (1 + Real.exp (-x)) : ℝ) : EReal) := by
  unfold lg
  have hp : (1 + Real.exp (-x)) ≠ 0 := by have := Real.exp_pos (-x); positivity
  rw [← EReal.coe_neg, Ideal.exp_coe, ← EReal.coe_one, ← EReal.coe_add]
  unfold Ideal.div
  rw [if_neg (by rw [← EReal.coe_zero]; exact fun h => hp (EReal.coe_injective h)), ← EReal.coe_inv, ← EReal.coe_mul, one_div, one_mul]

/-- The two ways of writing the gate half's gradient agree on real numbers. -/
theorem gate_eq {d v g : EReal} (hd : Fin' d) (hv : Fin' v) (hg : Fin' g) :
    d * v * (sg g * (1 + g * (1 - sg g))) = d * v * lg g + g * (d * v) * (lg g * (1 - lg g)) := by
  obtain ⟨d, rfl⟩ := hd
  obtain ⟨v, rfl⟩ := hv
  obtain ⟨g, rfl⟩ := hg
  rw [sg_coe, lg_coe]
  generalize 1 / (1 + Real.exp (-g)) = q
  simp only [← EReal.coe_one, ← EReal.coe_mul, ← EReal.coe_sub, ← EReal.coe_add]
  congr 1
  ring

/-- The two ways of writing the value half's gradient agree on real numbers. -/
theorem value_eq {d g : EReal} (hg : Fin' g) : d * (g * sg g) = g * lg g * d := by
  obtain ⟨g, rfl⟩ := hg
  rw [sg_coe, lg_coe, mul_comm]

section
variable (X : Arr3 1 8192 2048) (WU : Arr2 2048 11008) (CW : Arr2 3 11008) (CB : Arr1 11008) (WD : Arr2 5504 2048) (CT : Arr3 1 8192 2048)

theorem fin_HP (hX : ∀ i, Fin' (X i)) (hU : ∀ i, Fin' (WU i)) (s : ℕ) (f : Fin 11008) : Fin' (HP X WU s f) := by
  unfold HP
  split
  · exact fin_zero
  · unfold HN
    split
    · exact fin_sum _ fun k => fin_mul (hX _) (hU _)
    · exact fin_zero

theorem fin_C (hX : ∀ i, Fin' (X i)) (hU : ∀ i, Fin' (WU i)) (hW : ∀ i, Fin' (CW i)) (hB : ∀ i, Fin' (CB i)) (s : Fin 8192) (f : Fin 11008) : Fin' (C X WU CW CB s f) :=
  fin_add (fin_add (fin_add (hB _) (fin_mul (hW _) (fin_HP X WU hX hU _ _))) (fin_mul (hW _) (fin_HP X WU hX hU _ _))) (fin_mul (hW _) (fin_HP X WU hX hU _ _))

theorem fin_DA (hD : ∀ i, Fin' (WD i)) (hT : ∀ i, Fin' (CT i)) (s : Fin 8192) (p : Fin 5504) : Fin' (DA WD CT s p) :=
  fin_sum _ fun _ => fin_mul (hT _) (hD _)

end

open Cert.KernelIdeal Idealize.ShloMosaic.TcCoe Idealize.SL.Sem in
/-- On finite arguments the kernel's gradient at the convolution's output is the reference's. -/
theorem DK_eq (m : (ℓ : Loc nD τ sig) → Buf (Elt Ideal) ℓ) (c : Dev nD)
    (hX : ∀ i, Fin' (aX m c i)) (hU : ∀ i, Fin' (aWU m c i)) (hW : ∀ i, Fin' (aCW m c i)) (hB : ∀ i, Fin' (aCB m c i)) (hD : ∀ i, Fin' (aWD m c i)) (hT : ∀ i, Fin' (aCT m c i)) :
    DK m c = DR (aX m c) (aWU m c) (aCW m c) (aCB m c) (aWD m c) (aCT m c) := by
  funext g s p
  unfold DK DR
  by_cases h : g = 0
  · rw [if_pos h, if_pos h]
    exact gate_eq (fin_DA _ _ hD hT _ _) (fin_C _ _ _ _ hX hU hW hB _ _) (fin_C _ _ _ _ hX hU hW hB _ _)
  · rw [if_neg h, if_neg h]
    exact value_eq (fin_C _ _ _ _ hX hU hW hB _ _)

section
open Cert.ReferenceIdeal.Read
variable (X : Arr3 1 8192 2048) (WU : Arr2 2048 11008) (CW : Arr2 3 11008) (CB : Arr1 11008) (WD : Arr2 5504 2048) (CT : Arr3 1 8192 2048)

theorem ref5 : F5 (DR X WU CW CB WD CT) CW = val_main_v75 (F := Ideal) X WU CW CB WD CT := by
  funext y
  refine Eq.trans ?_ (congrArg (val_main_v75 (F := Ideal) X WU CW CB WD CT) (show ix4 (y 0) (y 1) (y 2) (y 3) = y from ?_))
  · exact (v75_at X WU CW CB WD CT _ _ _ _).symm
  · funext b
    match b with
    | ⟨0, _⟩ => rfl
    | ⟨1, _⟩ => rfl
    | ⟨2, _⟩ => rfl
    | ⟨3, _⟩ => rfl

theorem ref6 : F6 (DR X WU CW CB WD CT) X WU = val_main_v77 (F := Ideal) X WU CW CB WD CT := by
  funext y
  refine Eq.trans ?_ (congrArg (val_main_v77 (F := Ideal) X WU CW CB WD CT) (show ix4 (y 0) (y 1) (y 2) (y 3) = y from ?_))
  · exact (v77_at X WU CW CB WD CT _ _ _ _).symm
  · funext b
    match b with
    | ⟨0, _⟩ => rfl
    | ⟨1, _⟩ => rfl
    | ⟨2, _⟩ => rfl
    | ⟨3, _⟩ => rfl

theorem ref7 : F7 (DR X WU CW CB WD CT) = val_main_v78 (F := Ideal) X WU CW CB WD CT := by
  funext y
  refine Eq.trans ?_ (congrArg (val_main_v78 (F := Ideal) X WU CW CB WD CT) (show ix4 (y 0) (y 1) 0 (y 3) = y from ?_))
  · exact (v78_at X WU CW CB WD CT _ _ _).symm
  · funext b
    match b with
    | ⟨0, _⟩ => rfl
    | ⟨1, _⟩ => rfl
    | ⟨2, _⟩ => exact Subsingleton.elim (α := Fin 1) _ _
    | ⟨3, _⟩ => rfl

end

end Cert.Equal

end
-- ==== Proof.Taken.lean ====
module

public import proofs.«01_k».proof.Defs
public import proofs.«01_k».proof.Proof.Equal
public import proofs.«01_k».proof.Proof.Gen.Kernel.Frame
public import proofs.«01_k».proof.Proof.Gen.KernelIdeal.Frame
public import proofs.«01_k».proof.Proof.Gen.ReferenceIdeal.Run

@[expose] public section

set_option maxRecDepth 16384

noncomputable section

namespace Cert.Taken

open Idealize.ShloMosaic Idealize.ShloMosaic.TcCoe Idealize.SL.Sem Cert.Spec Cert.Equal Cert.KernelIdeal.Blk

theorem pre_facts : Cert.Pre_finite.Facts where
  bcast_S_S1x8192x2048 := by decide
  bcast_S_S2048x11008 := by decide
  bcast_S_S3x11008 := by decide
  bcast_S_S11008 := by decide
  bcast_S_S5504x2048 := by decide

/-- An argument that passes the precondition's comparison is a real number at every place. -/
theorem fin_of_pre {S : Shape} (x : FVec Ideal S .f32) (b : Cert.Pre_finite.S_.BroadcastsInDim S (![] : Fin 0 → Fin S.rank))
    (h : cmpf .olt (Host.absf x) (broadcastInDim S ![] b (constant (F := Ideal) Cert.Pre_finite.S_ .f32 0x7F800000#32)) = fun _ => 1#1) (i : S.Idx) : Fin' (x i) :=
  fin_of_cmp (x i) (congrFun h i)

/-- The kernel over floating-point words runs, keeps its arguments and leaves every counter at zero. -/
theorem frame_k : Cert.quiescent_Kernel (hKernel := Cert.Kernel.Gen.facts) := fun m ρ _ => Cert.Kernel.Gen.frame m ρ

/-- The kernel at the extended reals runs, keeps its arguments and leaves every counter at zero. -/
theorem frame_i : Cert.quiescent_KernelIdeal (hKernelIdeal := Cert.KernelIdeal.Gen.facts) := fun m ρ _ => Cert.KernelIdeal.Gen.frame m ρ

/-- The same, under the precondition. -/
theorem frame_i_pre : Cert.quiescent_KernelIdeal_pre_finite (hKernelIdeal := Cert.KernelIdeal.Gen.facts) (hPre_finite := pre_facts) :=
  fun m ρ _ => Cert.KernelIdeal.Gen.frame m ρ

/-- The reference at the extended reals runs, keeps its arguments and leaves every counter at zero. -/
theorem frame_r : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same, under the precondition. -/
theorem frame_r_pre : Cert.quiescent_ReferenceIdeal_pre_finite (hReferenceIdeal := Cert.ReferenceIdeal.Gen.facts) (hPre_finite := pre_facts) := fun m ρ _ =>
  frame_r m ρ trivial

/-- On finite arguments the kernel and the reference end with the same three results. -/
theorem value : Cert.algebraic_KernelIdeal_ReferenceIdeal_pre_finite (hKernelIdeal := Cert.KernelIdeal.Gen.facts) (hReferenceIdeal := Cert.ReferenceIdeal.Gen.facts)
    (hPre_finite := pre_facts) := by
  intro m ρ m' ρ' hp ha
  have hD : ∀ c, DK m c = Cert.ReferenceIdeal.Rd.DR (aX m c) (aWU m c) (aCW m c) (aCB m c) (aWD m c) (aCT m c) := fun c =>
    DK_eq m c (fin_of_pre _ _ (hp c).1) (fin_of_pre _ _ (hp c).2.1) (fin_of_pre _ _ (hp c).2.2.1) (fin_of_pre _ _ (hp c).2.2.2.1)
      (fin_of_pre _ _ (hp c).2.2.2.2.1) (fin_of_pre _ _ (hp c).2.2.2.2.2)
  refine ⟨fun c => F5 (DK m c) (aCW m c), fun c => F6 (DK m c) (aX m c) (aWU m c), fun c => F7 (DK m c), ?_, ?_⟩
  · refine (θ_run Cert.KernelIdeal.defs _ _).mono (fun r h c => ?_) (Cert.KernelIdeal.Value.run_blocks (F := Ideal) m ρ)
    exact ⟨(h c).1.trans (final5 m c), (h c).2.1.trans (final6 m c), (h c).2.2.1.trans (final7 m c), (h c).2.2.2⟩
  · refine (θ_run Cert.ReferenceIdeal.defs _ _).mono (fun r h c => ?_) (Cert.ReferenceIdeal.Value.run (F := Ideal) m' ρ')
    obtain ⟨e0, e1, e2, e3, e4, e5⟩ := ha c
    refine ⟨(h c).1.trans ?_, (h c).2.1.trans ?_, (h c).2.2.1.trans ?_, (h c).2.2.2⟩
    · refine (Cert.ReferenceIdeal.Read.val_main_v75_eq (F := Ideal) m' c).trans ?_
      rw [e0, e1, e2, e3, e4, e5]
      exact (ref5 (aX m c) (aWU m c) (aCW m c) (aCB m c) (aWD m c) (aCT m c)).symm.trans (congrArg (fun D => F5 D (aCW m c)) (hD c).symm)
    · refine (Cert.ReferenceIdeal.Read.val_main_v77_eq (F := Ideal) m' c).trans ?_
      rw [e0, e1, e2, e3, e4, e5]
      exact (ref6 (aX m c) (aWU m c) (aCW m c) (aCB m c) (aWD m c) (aCT m c)).symm.trans (congrArg (fun D => F6 D (aX m c) (aWU m c)) (hD c).symm)
    · refine (Cert.ReferenceIdeal.Read.val_main_v78_eq (F := Ideal) m' c).trans ?_
      rw [e0, e1, e2, e3, e4, e5]
      exact (ref7 (aX m c) (aWU m c) (aCW m c) (aCB m c) (aWD m c) (aCT m c)).symm.trans (congrArg F7 (hD c).symm)

end Cert.Taken

end
-- ==== Proof.Sums.lean ====
module

public import proofs.«01_k».proof.Proof.Spec
public import Idealize.ShloMosaic.Lib.StableHlo.ReadAt
public import Idealize.ShloMosaic.Lib.Pipeline.Value
public import Idealize.ShloMosaic.Lib.Pipeline.ReadBack
public import Idealize.ShloMosaic.Lib.Pipeline.ValueKit.Geometry
public import Idealize.ShloMosaic.Lib.Pointwise
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.SelectCore

@[expose] public section

noncomputable section

namespace Cert.Sums

open Cert.Spec

theorem hz2 : ((![0, 0] : Fin 2 → ℕ)) = fun _ => 0 := by funext a; fin_cases a <;> rfl
theorem hz3 : ((![0, 0, 0] : Fin 3 → ℕ)) = fun _ => 0 := by funext a; fin_cases a <;> rfl

/-- A finite family continued by zeros to all natural numbers. -/
def ext {N : ℕ} (f : Fin N → EReal) (k : ℕ) : EReal := if h : k < N then f ⟨k, h⟩ else 0

/-- The sum of a family's first `s` members. -/
def upto {N : ℕ} (f : Fin N → EReal) (s : ℕ) : EReal := ∑ k ∈ Finset.range s, ext f k

theorem upto_zero {N : ℕ} (f : Fin N → EReal) : upto f 0 = 0 := Finset.sum_range_zero _

/-- One more block of members. -/
theorem upto_add {N : ℕ} (f : Fin N → EReal) (s b : ℕ) (h : s + b ≤ N) :
    upto f (s + b) = upto f s + ∑ r : Fin b, f ⟨s + r.val, Nat.lt_of_lt_of_le (Nat.add_lt_add_left r.isLt s) h⟩ := by
  unfold upto
  rw [Finset.sum_range_add, Finset.sum_range (fun x => ext f (s + x))]
  congr 1
  refine Finset.sum_congr rfl fun r _ => ?_
  exact dif_pos _

/-- The first block of members. -/
theorem upto_first {N : ℕ} (f : Fin N → EReal) (b : ℕ) (h : 0 + b ≤ N) :
    upto f b = ∑ r : Fin b, f ⟨0 + r.val, Nat.lt_of_lt_of_le (Nat.add_lt_add_left r.isLt 0) h⟩ := by
  exact (congrArg (upto f) (Nat.zero_add b).symm).trans ((upto_add f 0 b h).trans ((congrArg (· + _) (upto_zero f)).trans (zero_add _)))

/-- All the members. -/
theorem upto_all {N : ℕ} (f : Fin N → EReal) : upto f N = ∑ k, f k := by
  unfold upto
  rw [Finset.sum_range]
  refine Finset.sum_congr rfl fun r _ => ?_
  exact dif_pos _

/-- The sum of a family's block number `j` of `b` members. -/
def blk {N : ℕ} (f : Fin N → EReal) (b j : ℕ) : EReal := ∑ r ∈ Finset.range b, ext f (j * b + r)

/-- A sum over a block's members, written out. -/
theorem blk_eq {N : ℕ} (f : Fin N → EReal) (b j : ℕ) (g : Fin b → EReal) (h : ∀ r : Fin b, ∃ hk : j * b + r.val < N, g r = f ⟨j * b + r.val, hk⟩) :
    ∑ r, g r = blk f b j := by
  unfold blk
  rw [Finset.sum_range (fun r => ext f (j * b + r))]
  refine Finset.sum_congr rfl fun r _ => ?_
  obtain ⟨hk, e⟩ := h r
  rw [e]
  unfold ext
  rw [dif_pos hk]

theorem upto_blk {N : ℕ} (f : Fin N → EReal) (b j : ℕ) : upto f ((j + 1) * b) = upto f (j * b) + blk f b j := by
  unfold upto blk
  rw [Nat.succ_mul, Finset.sum_range_add]

/-- An accumulator over a grid's points: it starts anew at every `J`-th point, and takes one block more at each of the others below `L`. -/
theorem acc {N K : ℕ} (J L b : ℕ) (u : ∀ n, n < N → EReal) (f : ∀ n, n < N → Fin K → EReal)
    (hJ : ∀ n, ¬(n + 1) % J = 0 → (n + 1) % J = n % J + 1)
    (hf : ∀ n (h : n + 1 < N), ¬(n + 1) % J = 0 → f (n + 1) h = f n (Nat.lt_of_succ_lt h))
    (h0 : ∀ n h, n % J = 0 → u n h = blk (f n h) b (n % J))
    (hs : ∀ n (h : n + 1 < N), ¬(n + 1) % J = 0 → (n + 1) % J < L → u (n + 1) h = u n (Nat.lt_of_succ_lt h) + blk (f (n + 1) h) b ((n + 1) % J)) :
    ∀ n h, n % J < L → u n h = upto (f n h) ((n % J + 1) * b) := by
  have start : ∀ n h, n % J = 0 → u n h = upto (f n h) ((n % J + 1) * b) := by
    intro n h e
    rw [h0 n h e, upto_blk, e, Nat.zero_mul, upto_zero, zero_add]
  intro n
  induction n with
  | zero => exact fun h _ => start 0 h (Nat.zero_mod J)
  | succ n ih =>
    intro h hl
    by_cases e : (n + 1) % J = 0
    · exact start _ h e
    · have hj := hJ n e
      rw [hs n h e hl, ih (Nat.lt_of_succ_lt h) (by omega), hf n h e, hj]
      exact (upto_blk _ _ _).symm

end Cert.Sums

end
-- ==== Proof.GateFwd.lean ====
module

public import proofs.«01_k».proof.Proof.Sums
public import proofs.«01_k».proof.Proof.Gen.Kernel2Ideal.Value
public import proofs.«01_k».proof.Proof.Equal
public import proofs.«01_k».proof.Proof.Gen.Reference2Ideal.Run
public import proofs.«01_k».proof.Proof.Gen.Reference2Ideal.Read

@[expose] public section

set_option maxRecDepth 16384

noncomputable section

namespace Cert.Kernel2Ideal.Gate

open Cert.Kernel2Ideal Cert.Kernel2Ideal.Gen Idealize.ShloMosaic Idealize.ShloMosaic.TcCoe Idealize.SL.Sem Idealize.ShloMosaic.Tactic

/-! What one grid point of the gated up projection computes, as functions of the blocks it is given. -/

/-- The kernel's logistic function: half the hyperbolic tangent of half the argument, plus one half. -/
def sg (g : EReal) : EReal := Ideal.ofBits .f32 0x3F000000#32 * Ideal.tanh (Ideal.ofBits .f32 0x3F000000#32 * g) + Ideal.ofBits .f32 0x3F000000#32

/-- A column of a block shifted down by some rows: before its first row come the rows of another, eight rows long. -/
def shU (d : Fin 256 → EReal) (h : Fin 8 → EReal) (δ : ℕ) (r : Fin 256) : EReal :=
  if p : r.val + 8 - δ < 8 then h ⟨r.val + 8 - δ, p⟩ else if q : r.val + 8 - δ - 8 < 256 then d ⟨r.val + 8 - δ - 8, q⟩ else 0

section Spec
variable (x0 : Vec Ideal S256x2048 .bf16) (x1 : Vec Ideal S2x1x1376x2048 .bf16) (x2 : Vec Ideal S2x1x3x1376 .f32) (x3 : Vec Ideal S2x1x1x1376 .f32)

/-- The up projection: one row of the input against one row of the weights. -/
def hB (g : Fin 2) (r : Fin 256) (f : Fin 1376) : EReal := ∑ k : Fin 2048, x0 (ix2 r k) * x1 (ix4 g 0 f k)

/-- The convolution over time: three taps and a bias. -/
def cB (xs : Vec Ideal S2x8x1376 .f32) (g : Fin 2) (r : Fin 256) (f : Fin 1376) : EReal :=
  x3 (ix4 g 0 0 f) + x2 (ix4 g 0 0 f) * shU (fun r => hB x0 x1 g r f) (fun q => xs (ix3 g q f)) 2 r
    + x2 (ix4 g 0 1 f) * shU (fun r => hB x0 x1 g r f) (fun q => xs (ix3 g q f)) 1 r + x2 (ix4 g 0 2 f) * hB x0 x1 g r f

/-- The gated activation. -/
def aB (xs : Vec Ideal S2x8x1376 .f32) (r : Fin 256) (f : Fin 1376) : EReal :=
  cB x0 x1 x2 x3 xs 0 r f * sg (cB x0 x1 x2 x3 xs 0 r f) * cB x0 x1 x2 x3 xs 1 r f

/-- The block of the up projection. -/
def B4 : Vec Ideal S2x1x256x1376 .f32 := fun y => hB x0 x1 (y 0) (y 2) (y 3)

/-- The block of the convolution. -/
def B5 (xs : Vec Ideal S2x8x1376 .f32) : Vec Ideal S2x1x256x1376 .f32 := fun y => cB x0 x1 x2 x3 xs (y 0) (y 2) (y 3)

/-- The block of the gated activation. -/
def B6 (xs : Vec Ideal S2x8x1376 .f32) : Vec Ideal S1x256x1376 .bf16 := fun y => aB x0 x1 x2 x3 xs (y 1) (y 2)

/-- The rows kept for the next point: the block's last eight. -/
def BS : Vec Ideal S2x8x1376 .f32 := fun y => hB x0 x1 (y 0) ⟨248 + (y 1).val, by have := (y 1).isLt; change (y 1).val < 8 at this; omega⟩ (y 2)

theorem B4_at (g : Fin 2) (r : Fin 256) (f : Fin 1376) : B4 x0 x1 (ix4 g 0 r f) = hB x0 x1 g r f := rfl
theorem B5_at (xs : Vec Ideal S2x8x1376 .f32) (g : Fin 2) (r : Fin 256) (f : Fin 1376) : B5 x0 x1 x2 x3 xs (ix4 g 0 r f) = cB x0 x1 x2 x3 xs g r f := rfl
theorem B6_at (xs : Vec Ideal S2x8x1376 .f32) (r : Fin 256) (f : Fin 1376) : B6 x0 x1 x2 x3 xs (ix3 0 r f) = aB x0 x1 x2 x3 xs r f := rfl
theorem BS_at (g : Fin 2) (q : Fin 8) (f : Fin 1376) : BS x0 x1 (ix3 g q f) = hB x0 x1 g ⟨248 + q.val, by have := q.isLt; omega⟩ f := rfl

end Spec

theorem rot1 (r : Fin 256) : (8 + r.val + 264 - 1) % 264 = r.val + 8 - 1 := by have := r.isLt; omega
theorem rot2 (r : Fin 256) : (8 + r.val + 264 - 2) % 264 = r.val + 8 - 2 := by have := r.isLt; omega
theorem lt256_1 (r : Fin 256) : r.val + 8 - 1 - 8 < 256 := by have := r.isLt; omega
theorem lt256_2 (r : Fin 256) : r.val + 8 - 2 - 8 < 256 := by have := r.isLt; omega

theorem idx4 (x : S1x1x256x1376.Idx) : ∃ (r : Fin 256) (f : Fin 1376), x = ix4 0 0 r f :=
  ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

theorem idx6 (x : S1x256x1376.Idx) : ∃ (r : Fin 256) (f : Fin 1376), x = ix3 0 r f :=
  ⟨x 1, x 2, by
    funext a
    match a with
    | ⟨0, _⟩ => exact Subsingleton.elim (α := Fin 1) _ _
    | ⟨1, _⟩ => rfl
    | ⟨2, _⟩ => rfl⟩

theorem idxS (x : S1x8x1376.Idx) : ∃ (q : Fin 8) (f : Fin 1376), x = ix3 0 q f :=
  ⟨x 1, x 2, by
    funext a
    match a with
    | ⟨0, _⟩ => exact Subsingleton.elim (α := Fin 1) _ _
    | ⟨1, _⟩ => rfl
    | ⟨2, _⟩ => rfl⟩

section Pay
variable (v3 : Vec Ideal S256x2048 .bf16) (v5 : Vec Ideal S1x1x1376x2048 .bf16) (xs : Vec Ideal S1x8x1376 .f32)
  (b w0 w1 w2 : Vec Ideal S1x1x1x1376 .f32) (g : FVec Ideal S256x1376 .f32) (r : Fin 256) (f : Fin 1376) (q : Fin 8)

/-- The convolution of one half, from what the kernel loads for it. -/
def conv : EReal :=
  b (ix4 0 0 0 f) + w0 (ix4 0 0 0 f) * shU (fun r => ∑ k : Fin 2048, v3 (ix2 r k) * v5 (ix4 0 0 f k)) (fun q => xs (ix3 0 q f)) 2 r
    + w1 (ix4 0 0 0 f) * shU (fun r => ∑ k : Fin 2048, v3 (ix2 r k) * v5 (ix4 0 0 f k)) (fun q => xs (ix3 0 q f)) 1 r
    + w2 (ix4 0 0 0 f) * ∑ k : Fin 2048, v3 (ix2 r k) * v5 (ix4 0 0 f k)

theorem pay4_at : k0_pay4 v3 v5 (ix2 r f) = ∑ k : Fin 2048, v3 (ix2 r k) * v5 (ix4 0 0 f k) := by
  unfold_payloads; pointwise

theorem pay5_at : k0_pay5 v3 v5 (ix4 0 0 r f) = ∑ k : Fin 2048, v3 (ix2 r k) * v5 (ix4 0 0 f k) := by
  unfold_payloads; pointwise

theorem pay13_at : k0_pay13 (k0_pay3 v3) v5 (ix4 0 0 r f) = ∑ k : Fin 2048, v3 (ix2 r k) * v5 (ix4 0 0 f k) := by
  unfold_payloads; pointwise

theorem pay7_at : k0_pay7 v3 v5 (ix3 0 q f) = ∑ k : Fin 2048, v3 (ix2 ⟨248 + q.val, by have := q.isLt; omega⟩ k) * v5 (ix4 0 0 f k) := by
  unfold_payloads; pointwise

theorem pay15_at : k0_pay15 (k0_pay3 v3) v5 (ix3 0 q f) = ∑ k : Fin 2048, v3 (ix2 ⟨248 + q.val, by have := q.isLt; omega⟩ k) * v5 (ix4 0 0 f k) := by
  unfold_payloads; pointwise

theorem pay10_at : k0_pay10 (k0_pay4 v3 v5) (k0_pay6 v3 v5 xs) (k0_pay8 v3 v5 xs w0) (k0_pay9 b) w1 w2 (ix2 r f) = conv v3 v5 xs b w0 w1 w2 r f := by
  unfold_payloads; pointwise; simp only [rot1, rot2, conv, shU, lt256_1, lt256_2]; rfl

theorem pay11_at : k0_pay11 (k0_pay4 v3 v5) (k0_pay6 v3 v5 xs) (k0_pay8 v3 v5 xs w0) (k0_pay9 b) w1 w2 (ix4 0 0 r f) = conv v3 v5 xs b w0 w1 w2 r f := by
  unfold_payloads; pointwise; simp only [rot1, rot2, conv, shU, lt256_1, lt256_2]; rfl

theorem pay17_at : k0_pay17 (k0_pay12 (k0_pay3 v3) v5) (k0_pay14 (k0_pay3 v3) v5 xs) b w0 w1 w2 (ix4 0 0 r f) = conv v3 v5 xs b w0 w1 w2 r f := by
  unfold_payloads; pointwise; simp only [rot1, rot2, conv, shU, lt256_1, lt256_2]; rfl

theorem pay1_at : k0_pay1 (k0_pay18 g (k0_pay12 (k0_pay3 v3) v5) (k0_pay14 (k0_pay3 v3) v5 xs) b w0 w1 w2) (ix3 0 r f)
    = g (ix2 r f) * sg (g (ix2 r f)) * conv v3 v5 xs b w0 w1 w2 r f := by
  unfold_payloads; pointwise; simp only [rot1, rot2, conv, shU, lt256_1, lt256_2, sg]; rfl

end Pay

section Point
variable (c : Dev nD) (i : grid0.Coords)
  (arg2 : Memref sig .tc .vmem S256x2048 .bf16) (harg2 : arg2.IsWhole)
  (arg3 : Memref sig .tc .vmem S2x1x1376x2048 .bf16) (harg3 : arg3.IsWhole)
  (arg4 : Memref sig .tc .vmem S2x1x3x1376 .f32) (harg4 : arg4.IsWhole)
  (arg5 : Memref sig .tc .vmem S2x1x1x1376 .f32) (harg5 : arg5.IsWhole)
  (arg6 : Memref sig .tc .vmem S2x1x256x1376 .f32) (harg6 : arg6.IsWhole)
  (arg7 : Memref sig .tc .vmem S2x1x256x1376 .f32) (harg7 : arg7.IsWhole)
  (arg8 : Memref sig .tc .vmem S1x256x1376 .bf16) (harg8 : arg8.IsWhole)
  (arg9 : Memref sig .tc .vmem S2x8x1376 .f32) (harg9 : arg9.IsWhole)
  (x0 : Vec Ideal S256x2048 .bf16) (x1 : Vec Ideal S2x1x1376x2048 .bf16) (x2 : Vec Ideal S2x1x3x1376 .f32) (x3 : Vec Ideal S2x1x1x1376 .f32)
  (xs0 : Vec Ideal S2x8x1376 .f32)

/-- A later point leaves its block of the up projection. -/
theorem out0_B_4_eq (hc0 : ¬cond0_0 i) :
    out0_B_4 c i arg2 harg2 arg3 harg3 arg4 harg4 arg5 harg5 arg6 harg6 arg7 harg7 arg8 harg8 arg9 harg9 hc0 x0 x1 x2 x3 xs0 = B4 x0 x1 := by
  funext y
  unfold out0_B_4
  have hcov := cover0_B_4 c i arg2 harg2 arg3 harg3 arg4 harg4 arg5 harg5 arg6 harg6 arg7 harg7 arg8 harg8 arg9 harg9 hc0 x0 x1 x2 x3 xs0 y
  rw [View.read_writes_eq_canon _ _ _ (cover0_B_4 c i arg2 harg2 arg3 harg3 arg4 harg4 arg5 harg5 arg6 harg6 arg7 harg7 arg8 harg8 arg9 harg9 hc0 x0 x1 x2 x3 xs0)]
  revert hcov
  unfold kernelRun0_B; dsimp only; sl_unfold_words
  simp only [View.readAt_eq_ld, harg2.read_unread, harg3.read_unread, harg4.read_unread, harg5.read_unread, harg6.read_unread, harg7.read_unread, harg8.read_unread, harg9.read_unread]
  intro hcov
  refine View.canon_apply_of_pieces _ _ (View.PiecesOf.mem ?_) y hcov
  refine ⟨fun x => ?_, fun x => ?_, trivial⟩
  · obtain ⟨r, f, rfl⟩ := idx4 x
    refine Eq.trans ?_ (congrArg (B4 x0 x1) (a₁ := ix4 1 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm
  · obtain ⟨r, f, rfl⟩ := idx4 x
    refine Eq.trans ?_ (congrArg (B4 x0 x1) (a₁ := ix4 0 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm

/-- A later point leaves its block of the convolution. -/
theorem out0_B_5_eq (hc0 : ¬cond0_0 i) :
    out0_B_5 c i arg2 harg2 arg3 harg3 arg4 harg4 arg5 harg5 arg6 harg6 arg7 harg7 arg8 harg8 arg9 harg9 hc0 x0 x1 x2 x3 xs0 = B5 x0 x1 x2 x3 xs0 := by
  funext y
  unfold out0_B_5
  have hcov := cover0_B_5 c i arg2 harg2 arg3 harg3 arg4 harg4 arg5 harg5 arg6 harg6 arg7 harg7 arg8 harg8 arg9 harg9 hc0 x0 x1 x2 x3 xs0 y
  rw [View.read_writes_eq_canon _ _ _ (cover0_B_5 c i arg2 harg2 arg3 harg3 arg4 harg4 arg5 harg5 arg6 harg6 arg7 harg7 arg8 harg8 arg9 harg9 hc0 x0 x1 x2 x3 xs0)]
  revert hcov
  unfold kernelRun0_B; dsimp only; sl_unfold_words
  simp only [View.readAt_eq_ld, harg2.read_unread, harg3.read_unread, harg4.read_unread, harg5.read_unread, harg6.read_unread, harg7.read_unread, harg8.read_unread, harg9.read_unread]
  intro hcov
  refine View.canon_apply_of_pieces _ _ (View.PiecesOf.mem ?_) y hcov
  refine ⟨fun x => ?_, fun x => ?_, trivial⟩
  · obtain ⟨r, f, rfl⟩ := idx4 x
    refine Eq.trans ?_ (congrArg (B5 x0 x1 x2 x3 xs0) (a₁ := ix4 1 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm
  · obtain ⟨r, f, rfl⟩ := idx4 x
    refine Eq.trans ?_ (congrArg (B5 x0 x1 x2 x3 xs0) (a₁ := ix4 0 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm

/-- A later point leaves its block of the gated activation. -/
theorem out0_B_6_eq (hc0 : ¬cond0_0 i) :
    out0_B_6 c i arg2 harg2 arg3 harg3 arg4 harg4 arg5 harg5 arg6 harg6 arg7 harg7 arg8 harg8 arg9 harg9 hc0 x0 x1 x2 x3 xs0 = B6 x0 x1 x2 x3 xs0 := by
  funext y
  unfold out0_B_6
  have hcov := cover0_B_6 c i arg2 harg2 arg3 harg3 arg4 harg4 arg5 harg5 arg6 harg6 arg7 harg7 arg8 harg8 arg9 harg9 hc0 x0 x1 x2 x3 xs0 y
  rw [View.read_writes_eq_canon _ _ _ (cover0_B_6 c i arg2 harg2 arg3 harg3 arg4 harg4 arg5 harg5 arg6 harg6 arg7 harg7 arg8 harg8 arg9 harg9 hc0 x0 x1 x2 x3 xs0)]
  revert hcov
  unfold kernelRun0_B; dsimp only; sl_unfold_words
  simp only [View.readAt_eq_ld, harg2.read_unread, harg3.read_unread, harg4.read_unread, harg5.read_unread, harg6.read_unread, harg7.read_unread, harg8.read_unread, harg9.read_unread]
  intro hcov
  refine View.canon_apply_of_pieces _ _ (View.PiecesOf.mem ?_) y hcov
  refine ⟨fun x => ?_, trivial⟩
  · obtain ⟨r, f, rfl⟩ := idx6 x
    refine Eq.trans ?_ (congrArg (B6 x0 x1 x2 x3 xs0) (a₁ := ix3 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm

/-- A later point leaves its last rows. -/
theorem sout0_B_0_eq (hc0 : ¬cond0_0 i) :
    sout0_B_0 c i arg2 harg2 arg3 harg3 arg4 harg4 arg5 harg5 arg6 harg6 arg7 harg7 arg8 harg8 arg9 harg9 hc0 x0 x1 x2 x3 xs0 = BS x0 x1 := by
  funext y
  unfold sout0_B_0
  have hcov := scover0_B_0 c i arg2 harg2 arg3 harg3 arg4 harg4 arg5 harg5 arg6 harg6 arg7 harg7 arg8 harg8 arg9 harg9 hc0 x0 x1 x2 x3 xs0 y
  rw [View.read_writes_eq_canon _ _ _ (scover0_B_0 c i arg2 harg2 arg3 harg3 arg4 harg4 arg5 harg5 arg6 harg6 arg7 harg7 arg8 harg8 arg9 harg9 hc0 x0 x1 x2 x3 xs0)]
  revert hcov
  unfold kernelRun0_B; dsimp only; sl_unfold_words
  simp only [View.readAt_eq_ld, harg2.read_unread, harg3.read_unread, harg4.read_unread, harg5.read_unread, harg6.read_unread, harg7.read_unread, harg8.read_unread, harg9.read_unread]
  intro hcov
  refine View.canon_apply_of_pieces _ _ (View.PiecesOf.mem ?_) y hcov
  refine ⟨fun x => ?_, fun x => ?_, trivial⟩
  · obtain ⟨q, f, rfl⟩ := idxS x
    refine Eq.trans ?_ (congrArg (BS x0 x1) (a₁ := ix3 1 q f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm
  · obtain ⟨q, f, rfl⟩ := idxS x
    refine Eq.trans ?_ (congrArg (BS x0 x1) (a₁ := ix3 0 q f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm

/-- A column's first point leaves its block of the up projection. -/
theorem out0_A_4_eq (hc0 : cond0_0 i) :
    out0_A_4 c i arg2 harg2 arg3 harg3 arg4 harg4 arg5 harg5 arg6 harg6 arg7 harg7 arg8 harg8 arg9 harg9 hc0 x0 x1 x2 x3 = B4 x0 x1 := by
  funext y
  unfold out0_A_4
  have hcov := cover0_A_4 c i arg2 harg2 arg3 harg3 arg4 harg4 arg5 harg5 arg6 harg6 arg7 harg7 arg8 harg8 arg9 harg9 hc0 x0 x1 x2 x3 y
  rw [View.read_writes_eq_canon _ _ _ (cover0_A_4 c i arg2 harg2 arg3 harg3 arg4 harg4 arg5 harg5 arg6 harg6 arg7 harg7 arg8 harg8 arg9 harg9 hc0 x0 x1 x2 x3)]
  revert hcov
  unfold kernelRun0_A; dsimp only; sl_unfold_words
  simp (discharger := decide) only [↓ View.readCov_skip, ↓ View.readCov_fill, View.readAt_eq_ld, harg2.read_unread, harg3.read_unread, harg4.read_unread, harg5.read_unread, harg6.read_unread, harg7.read_unread, harg8.read_unread, harg9.read_unread]
  intro hcov
  refine View.canon_apply_of_pieces _ _ (View.PiecesOf.mem ?_) y hcov
  refine ⟨fun x => ?_, fun x => ?_, trivial⟩
  · obtain ⟨r, f, rfl⟩ := idx4 x
    refine Eq.trans ?_ (congrArg (B4 x0 x1) (a₁ := ix4 1 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm
  · obtain ⟨r, f, rfl⟩ := idx4 x
    refine Eq.trans ?_ (congrArg (B4 x0 x1) (a₁ := ix4 0 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm

/-- A column's first point leaves its block of the convolution. -/
theorem out0_A_5_eq (hc0 : cond0_0 i) :
    out0_A_5 c i arg2 harg2 arg3 harg3 arg4 harg4 arg5 harg5 arg6 harg6 arg7 harg7 arg8 harg8 arg9 harg9 hc0 x0 x1 x2 x3 = B5 x0 x1 x2 x3 (k0_pay2 (F := Ideal)) := by
  funext y
  unfold out0_A_5
  have hcov := cover0_A_5 c i arg2 harg2 arg3 harg3 arg4 harg4 arg5 harg5 arg6 harg6 arg7 harg7 arg8 harg8 arg9 harg9 hc0 x0 x1 x2 x3 y
  rw [View.read_writes_eq_canon _ _ _ (cover0_A_5 c i arg2 harg2 arg3 harg3 arg4 harg4 arg5 harg5 arg6 harg6 arg7 harg7 arg8 harg8 arg9 harg9 hc0 x0 x1 x2 x3)]
  revert hcov
  unfold kernelRun0_A; dsimp only; sl_unfold_words
  simp (discharger := decide) only [↓ View.readCov_skip, ↓ View.readCov_fill, View.readAt_eq_ld, harg2.read_unread, harg3.read_unread, harg4.read_unread, harg5.read_unread, harg6.read_unread, harg7.read_unread, harg8.read_unread, harg9.read_unread]
  intro hcov
  refine View.canon_apply_of_pieces _ _ (View.PiecesOf.mem ?_) y hcov
  refine ⟨fun x => ?_, fun x => ?_, trivial⟩
  · obtain ⟨r, f, rfl⟩ := idx4 x
    refine Eq.trans ?_ (congrArg (B5 x0 x1 x2 x3 (k0_pay2 (F := Ideal))) (a₁ := ix4 1 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm
  · obtain ⟨r, f, rfl⟩ := idx4 x
    refine Eq.trans ?_ (congrArg (B5 x0 x1 x2 x3 (k0_pay2 (F := Ideal))) (a₁ := ix4 0 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm

/-- A column's first point leaves its block of the gated activation. -/
theorem out0_A_6_eq (hc0 : cond0_0 i) :
    out0_A_6 c i arg2 harg2 arg3 harg3 arg4 harg4 arg5 harg5 arg6 harg6 arg7 harg7 arg8 harg8 arg9 harg9 hc0 x0 x1 x2 x3 = B6 x0 x1 x2 x3 (k0_pay2 (F := Ideal)) := by
  funext y
  unfold out0_A_6
  have hcov := cover0_A_6 c i arg2 harg2 arg3 harg3 arg4 harg4 arg5 harg5 arg6 harg6 arg7 harg7 arg8 harg8 arg9 harg9 hc0 x0 x1 x2 x3 y
  rw [View.read_writes_eq_canon _ _ _ (cover0_A_6 c i arg2 harg2 arg3 harg3 arg4 harg4 arg5 harg5 arg6 harg6 arg7 harg7 arg8 harg8 arg9 harg9 hc0 x0 x1 x2 x3)]
  revert hcov
  unfold kernelRun0_A; dsimp only; sl_unfold_words
  simp (discharger := decide) only [↓ View.readCov_skip, ↓ View.readCov_fill, View.readAt_eq_ld, harg2.read_unread, harg3.read_unread, harg4.read_unread, harg5.read_unread, harg6.read_unread, harg7.read_unread, harg8.read_unread, harg9.read_unread]
  intro hcov
  refine View.canon_apply_of_pieces _ _ (View.PiecesOf.mem ?_) y hcov
  refine ⟨fun x => ?_, trivial⟩
  · obtain ⟨r, f, rfl⟩ := idx6 x
    refine Eq.trans ?_ (congrArg (B6 x0 x1 x2 x3 (k0_pay2 (F := Ideal))) (a₁ := ix3 0 r f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm

/-- A column's first point leaves its last rows. -/
theorem sout0_A_0_eq (hc0 : cond0_0 i) :
    sout0_A_0 c i arg2 harg2 arg3 harg3 arg4 harg4 arg5 harg5 arg6 harg6 arg7 harg7 arg8 harg8 arg9 harg9 hc0 x0 x1 x2 x3 = BS x0 x1 := by
  funext y
  unfold sout0_A_0
  have hcov := scover0_A_0 c i arg2 harg2 arg3 harg3 arg4 harg4 arg5 harg5 arg6 harg6 arg7 harg7 arg8 harg8 arg9 harg9 hc0 x0 x1 x2 x3 y
  rw [View.read_writes_eq_canon _ _ _ (scover0_A_0 c i arg2 harg2 arg3 harg3 arg4 harg4 arg5 harg5 arg6 harg6 arg7 harg7 arg8 harg8 arg9 harg9 hc0 x0 x1 x2 x3)]
  revert hcov
  unfold kernelRun0_A; dsimp only; sl_unfold_words
  simp (discharger := decide) only [↓ View.readCov_skip, ↓ View.readCov_fill, View.readAt_eq_ld, harg2.read_unread, harg3.read_unread, harg4.read_unread, harg5.read_unread, harg6.read_unread, harg7.read_unread, harg8.read_unread, harg9.read_unread]
  intro _
  refine View.canon_append_of_piecesOf (BS x0 x1) [_] [_, _] ?_ y
    (View.cover_of_tiledL _ ![1, 8, 1376] (by sl_kernel_rfl) y)
  refine ⟨fun x => ?_, fun x => ?_, trivial⟩
  · obtain ⟨q, f, rfl⟩ := idxS x
    refine Eq.trans ?_ (congrArg (BS x0 x1) (a₁ := ix3 1 q f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm
  · obtain ⟨q, f, rfl⟩ := idxS x
    refine Eq.trans ?_ (congrArg (BS x0 x1) (a₁ := ix3 0 q f) ?_)
    · simp only [pay5_at, pay13_at, pay7_at, pay15_at, pay10_at, pay11_at, pay17_at, pay1_at, B4_at, B5_at, B6_at, BS_at, aB, cB, hB, conv]
      pointwise
    · funext a
      apply Fin.ext
      rw [ValueKit.rect_emb_unit_val]
      fin_cases a <;> first | rfl | exact (Nat.zero_add _).symm

end Point

section Fold
open Cert.Kernel2Ideal.Value Cert.Spec

theorem lt128 (t : Fin cfg0.N) : t.val < 128 := Nat.lt_of_lt_of_eq t.isLt N_0

/-- The chunk of features at a grid point. -/
def jt (t : Fin cfg0.N) : Fin 4 := ⟨t.val / 32, by have := lt128 t; omega⟩

/-- Row `r` of the block of rows at a grid point. -/
def row (t : Fin cfg0.N) (r : Fin 256) : Fin 8192 := ⟨t.val % 32 * 256 + r.val, by have := r.isLt; omega⟩

theorem widx0 : ∀ t : Fin cfg0.N, win0_0.index t (0 : Fin 2) = t.val % 32 ∧ win0_0.index t (1 : Fin 2) = 0 :=
  (by decide +kernel : ∀ t : Fin grid0.N, _)
theorem widx1 : ∀ t : Fin cfg0.N, win0_1.index t (0 : Fin 4) = 0 ∧ win0_1.index t (1 : Fin 4) = t.val / 32 ∧ win0_1.index t (2 : Fin 4) = 0 ∧ win0_1.index t (3 : Fin 4) = 0 :=
  (by decide +kernel : ∀ t : Fin grid0.N, _)
theorem widx2 : ∀ t : Fin cfg0.N, win0_2.index t (0 : Fin 4) = 0 ∧ win0_2.index t (1 : Fin 4) = t.val / 32 ∧ win0_2.index t (2 : Fin 4) = 0 ∧ win0_2.index t (3 : Fin 4) = 0 :=
  (by decide +kernel : ∀ t : Fin grid0.N, _)
theorem widx3 : ∀ t : Fin cfg0.N, win0_3.index t (0 : Fin 4) = 0 ∧ win0_3.index t (1 : Fin 4) = t.val / 32 ∧ win0_3.index t (2 : Fin 4) = 0 ∧ win0_3.index t (3 : Fin 4) = 0 :=
  (by decide +kernel : ∀ t : Fin grid0.N, _)
theorem widx4 : ∀ t : Fin cfg0.N, win0_4.index t (0 : Fin 4) = 0 ∧ win0_4.index t (1 : Fin 4) = t.val / 32 ∧ win0_4.index t (2 : Fin 4) = t.val % 32 ∧ win0_4.index t (3 : Fin 4) = 0 :=
  (by decide +kernel : ∀ t : Fin grid0.N, _)
theorem widx5 : ∀ t : Fin cfg0.N, win0_5.index t (0 : Fin 4) = 0 ∧ win0_5.index t (1 : Fin 4) = t.val / 32 ∧ win0_5.index t (2 : Fin 4) = t.val % 32 ∧ win0_5.index t (3 : Fin 4) = 0 :=
  (by decide +kernel : ∀ t : Fin grid0.N, _)
theorem widx6 : ∀ t : Fin cfg0.N, win0_6.index t (0 : Fin 3) = t.val / 32 ∧ win0_6.index t (1 : Fin 3) = t.val % 32 ∧ win0_6.index t (2 : Fin 3) = 0 :=
  (by decide +kernel : ∀ t : Fin grid0.N, _)

theorem emb0 (t : Fin cfg0.N) (r : Fin 256) (k : Fin 2048) : ((cfg0.win 0).blk t).view.emb (ix2 r k) = ix2 (row t r) k := by
  obtain ⟨e0, e1⟩ := widx0 t
  funext a; apply Fin.ext
  match a with
  | ⟨0, _⟩ => show win0_0.index t (0 : Fin 2) * 256 + 1 * r.val = (row t r).val; rw [e0]; simp [row]
  | ⟨1, _⟩ => show win0_0.index t (1 : Fin 2) * 2048 + 1 * k.val = k.val; rw [e1]; simp

theorem emb1 (t : Fin cfg0.N) (g : Fin 2) (z : Fin 1) (f : Fin 1376) (k : Fin 2048) : ((cfg0.win 1).blk t).view.emb (ix4 g z f k) = ix4 g (jt t) f k := by
  obtain ⟨e0, e1, e2, e3⟩ := widx1 t
  funext a; apply Fin.ext
  match a with
  | ⟨0, _⟩ => show win0_1.index t (0 : Fin 4) * 2 + 1 * g.val = g.val; rw [e0]; simp
  | ⟨1, _⟩ => show win0_1.index t (1 : Fin 4) * 1 + 1 * z.val = (jt t).val; rw [e1]; simp [jt]
  | ⟨2, _⟩ => show win0_1.index t (2 : Fin 4) * 1376 + 1 * f.val = f.val; rw [e2]; simp
  | ⟨3, _⟩ => show win0_1.index t (3 : Fin 4) * 2048 + 1 * k.val = k.val; rw [e3]; simp

theorem emb2 (t : Fin cfg0.N) (g : Fin 2) (z : Fin 1) (k : Fin 3) (f : Fin 1376) : ((cfg0.win 2).blk t).view.emb (ix4 g z k f) = ix4 g (jt t) k f := by
  obtain ⟨e0, e1, e2, e3⟩ := widx2 t
  funext a; apply Fin.ext
  match a with
  | ⟨0, _⟩ => show win0_2.index t (0 : Fin 4) * 2 + 1 * g.val = g.val; rw [e0]; simp
  | ⟨1, _⟩ => show win0_2.index t (1 : Fin 4) * 1 + 1 * z.val = (jt t).val; rw [e1]; simp [jt]
  | ⟨2, _⟩ => show win0_2.index t (2 : Fin 4) * 3 + 1 * k.val = k.val; rw [e2]; simp
  | ⟨3, _⟩ => show win0_2.index t (3 : Fin 4) * 1376 + 1 * f.val = f.val; rw [e3]; simp

theorem emb3 (t : Fin cfg0.N) (g : Fin 2) (z w : Fin 1) (f : Fin 1376) : ((cfg0.win 3).blk t).view.emb (ix4 g z w f) = ix4 g (jt t) w f := by
  obtain ⟨e0, e1, e2, e3⟩ := widx3 t
  funext a; apply Fin.ext
  match a with
  | ⟨0, _⟩ => show win0_3.index t (0 : Fin 4) * 2 + 1 * g.val = g.val; rw [e0]; simp
  | ⟨1, _⟩ => show win0_3.index t (1 : Fin 4) * 1 + 1 * z.val = (jt t).val; rw [e1]; simp [jt]
  | ⟨2, _⟩ => show win0_3.index t (2 : Fin 4) * 1 + 1 * w.val = w.val; rw [e2]; simp
  | ⟨3, _⟩ => show win0_3.index t (3 : Fin 4) * 1376 + 1 * f.val = f.val; rw [e3]; simp

theorem emb4 (t : Fin cfg0.N) (g : Fin 2) (z : Fin 1) (r : Fin 256) (f : Fin 1376) : ((cfg0.win 4).blk t).view.emb (ix4 g z r f) = ix4 g (jt t) (row t r) f := by
  obtain ⟨e0, e1, e2, e3⟩ := widx4 t
  funext a; apply Fin.ext
  match a with
  | ⟨0, _⟩ => show win0_4.index t (0 : Fin 4) * 2 + 1 * g.val = g.val; rw [e0]; simp
  | ⟨1, _⟩ => show win0_4.index t (1 : Fin 4) * 1 + 1 * z.val = (jt t).val; rw [e1]; simp [jt]
  | ⟨2, _⟩ => show win0_4.index t (2 : Fin 4) * 256 + 1 * r.val = (row t r).val; rw [e2]; simp [row]
  | ⟨3, _⟩ => show win0_4.index t (3 : Fin 4) * 1376 + 1 * f.val = f.val; rw [e3]; simp

theorem emb5 (t : Fin cfg0.N) (g : Fin 2) (z : Fin 1) (r : Fin 256) (f : Fin 1376) : ((cfg0.win 5).blk t).view.emb (ix4 g z r f) = ix4 g (jt t) (row t r) f := by
  obtain ⟨e0, e1, e2, e3⟩ := widx5 t
  funext a; apply Fin.ext
  match a with
  | ⟨0, _⟩ => show win0_5.index t (0 : Fin 4) * 2 + 1 * g.val = g.val; rw [e0]; simp
  | ⟨1, _⟩ => show win0_5.index t (1 : Fin 4) * 1 + 1 * z.val = (jt t).val; rw [e1]; simp [jt]
  | ⟨2, _⟩ => show win0_5.index t (2 : Fin 4) * 256 + 1 * r.val = (row t r).val; rw [e2]; simp [row]
  | ⟨3, _⟩ => show win0_5.index t (3 : Fin 4) * 1376 + 1 * f.val = f.val; rw [e3]; simp

theorem emb6 (t : Fin cfg0.N) (z : Fin 1) (r : Fin 256) (f : Fin 1376) : ((cfg0.win 6).blk t).view.emb (ix3 z r f) = ix3 (jt t) (row t r) f := by
  obtain ⟨e0, e1, e2⟩ := widx6 t
  funext a; apply Fin.ext
  match a with
  | ⟨0, _⟩ => show win0_6.index t (0 : Fin 3) * 1 + 1 * z.val = (jt t).val; rw [e0]; simp [jt]
  | ⟨1, _⟩ => show win0_6.index t (1 : Fin 3) * 256 + 1 * r.val = (row t r).val; rw [e1]; simp [row]
  | ⟨2, _⟩ => show win0_6.index t (2 : Fin 3) * 1376 + 1 * f.val = f.val; rw [e2]; simp

variable (m : (ℓ : Loc nD τ sig) → Buf (Elt Ideal) ℓ) (c : Dev nD)

/-- The layer's input. -/
abbrev aX : Arr3 1 8192 2048 := m ((c : Thread nD τ).loc main_arg0)
/-- The up projection's weights. -/
abbrev aWU : Arr2 2048 11008 := m ((c : Thread nD τ).loc main_arg1)
/-- The convolution's taps. -/
abbrev aCW : Arr2 3 11008 := m ((c : Thread nD τ).loc main_arg2)
/-- The convolution's bias. -/
abbrev aCB : Arr1 11008 := m ((c : Thread nD τ).loc main_arg3)

theorem V3 (s : Fin 8192) (k : Fin 2048) : V m c main_v3 (ix2 s k) = aX m c (ix3 0 s k) := by
  after_reads_at

theorem col_feat (g : Fin 2) (j : Fin 4) (f : Fin 1376) (h : (g.val * 4 + j.val) * 1376 + f.val < 11008) :
    (⟨(g.val * 4 + j.val) * 1376 + f.val, h⟩ : Fin 11008) = col g (feat j f) :=
  Fin.ext (by show (g.val * 4 + j.val) * 1376 + f.val = g.val * 5504 + (j.val * 1376 + f.val); omega)

theorem V8 (g : Fin 2) (j : Fin 4) (f : Fin 1376) (k : Fin 2048) : V m c main_v8 (ix4 g j f k) = aWU m c (ix2 k (col g (feat j f))) := by
  after_reads_at
  rw [col_feat]

theorem V9 (g : Fin 2) (j : Fin 4) (k : Fin 3) (f : Fin 1376) : V m c main_v9 (ix4 g j k f) = aCW m c (ix2 k (col g (feat j f))) := by
  after_reads_at
  rw [col_feat]

theorem cast_bias {α : Type} (v : S11008.Idx → α) (h1 : S11008.ShapeCasts S8x1x1376) (h2 : S8x1x1376.ShapeCasts S2x4x1x1376) (g : Fin 2) (j : Fin 4) (f : Fin 1376) :
    shapeCast S2x4x1x1376 (shapeCast S8x1x1376 v h1) h2 (ix4 g j 0 f) = v (ix1 (col g (feat j f))) := by
  have hg := g.isLt
  have hj := j.isLt
  have hf := f.isLt
  refine (shapeCast_apply _ h2 (ix4 g j 0 f) (ix3 ⟨g.val * 4 + j.val, by omega⟩ 0 f) ?_).trans (shapeCast_apply _ h1 _ (ix1 (col g (feat j f))) ?_)
  · rewrite [Shape.rowMajor_val_three, Shape.rowMajor_val_four]
    show ((g.val * 4 + j.val) * 1 + 0) * 1376 + f.val = ((g.val * 4 + j.val) * 1 + 0) * 1376 + f.val
    rfl
  · rewrite [Shape.rowMajor_val_one, Shape.rowMajor_val_three]
    show g.val * 5504 + (j.val * 1376 + f.val) = ((g.val * 4 + j.val) * 1 + 0) * 1376 + f.val
    omega

theorem V10 (g : Fin 2) (j : Fin 4) (f : Fin 1376) : V m c main_v10 (ix4 g j 0 f) = aCB m c (ix1 (col g (feat j f))) := by
  after_reads_simp
  clean_types
  exact cast_bias _ _ _ g j f

theorem rd0 (W : (b : Ref sig .tc) → Buf (Elt Ideal) ((c : Thread nD τ).loc b)) (t : Fin cfg0.N) (r : Fin 256) (k : Fin 2048) :
    ((cfg0.win 0).blk t).view.read (Elt Ideal) (W (Pipeline.arrRef spec0 0)) (ix2 r k) = W main_v3 (ix2 (row t r) k) := by
  show W main_v3 (((cfg0.win 0).blk t).view.emb (ix2 r k)) = _
  rw [emb0]

theorem rd1 (W : (b : Ref sig .tc) → Buf (Elt Ideal) ((c : Thread nD τ).loc b)) (t : Fin cfg0.N) (g : Fin 2) (f : Fin 1376) (k : Fin 2048) :
    ((cfg0.win 1).blk t).view.read (Elt Ideal) (W (Pipeline.arrRef spec0 1)) (ix4 g 0 f k) = W main_v8 (ix4 g (jt t) f k) := by
  show W main_v8 (((cfg0.win 1).blk t).view.emb (ix4 g 0 f k)) = _
  rw [emb1]

theorem rd2 (W : (b : Ref sig .tc) → Buf (Elt Ideal) ((c : Thread nD τ).loc b)) (t : Fin cfg0.N) (g : Fin 2) (k : Fin 3) (f : Fin 1376) :
    ((cfg0.win 2).blk t).view.read (Elt Ideal) (W (Pipeline.arrRef spec0 2)) (ix4 g 0 k f) = W main_v9 (ix4 g (jt t) k f) := by
  show W main_v9 (((cfg0.win 2).blk t).view.emb (ix4 g 0 k f)) = _
  rw [emb2]

theorem rd3 (W : (b : Ref sig .tc) → Buf (Elt Ideal) ((c : Thread nD τ).loc b)) (t : Fin cfg0.N) (g : Fin 2) (f : Fin 1376) :
    ((cfg0.win 3).blk t).view.read (Elt Ideal) (W (Pipeline.arrRef spec0 3)) (ix4 g 0 0 f) = W main_v10 (ix4 g (jt t) 0 f) := by
  show W main_v10 (((cfg0.win 3).blk t).view.emb (ix4 g 0 0 f)) = _
  rw [emb3]

theorem iblk0 (t : Fin cfg0.N) (r : Fin 256) (k : Fin 2048) : iblk m c 0 t (ix2 r k) = aX m c (ix3 0 (row t r) k) := by
  unfold iblk
  exact (rd0 c (V m c) t r k).trans (V3 m c _ _)

theorem iblk1 (t : Fin cfg0.N) (g : Fin 2) (f : Fin 1376) (k : Fin 2048) : iblk m c 1 t (ix4 g 0 f k) = aWU m c (ix2 k (col g (feat (jt t) f))) := by
  unfold iblk
  exact (rd1 c (V m c) t g f k).trans (V8 m c _ _ _ _)

theorem iblk2 (t : Fin cfg0.N) (g : Fin 2) (k : Fin 3) (f : Fin 1376) : iblk m c 2 t (ix4 g 0 k f) = aCW m c (ix2 k (col g (feat (jt t) f))) := by
  unfold iblk
  exact (rd2 c (V m c) t g k f).trans (V9 m c _ _ _ _)

theorem iblk3 (t : Fin cfg0.N) (g : Fin 2) (f : Fin 1376) : iblk m c 3 t (ix4 g 0 0 f) = aCB m c (ix1 (col g (feat (jt t) f))) := by
  unfold iblk
  exact (rd3 c (V m c) t g f).trans (V10 m c _ _ _)

theorem hB_blk (t : Fin cfg0.N) (g : Fin 2) (r : Fin 256) (f : Fin 1376) :
    hB (iblk m c 0 t) (iblk m c 1 t) g r f = H (aX m c) (aWU m c) (row t r) (col g (feat (jt t) f)) :=
  Finset.sum_congr rfl fun k _ => congrArg₂ (· * ·) (iblk0 m c t r k) (iblk1 m c t g f k)

theorem HP_add2 (X : Arr3 1 8192 2048) (WU : Arr2 2048 11008) (s : Fin 8192) (f : Fin 11008) : HP X WU (s.val + 2) f = H X WU s f := by
  unfold HP HN
  rw [if_neg (by omega), dif_pos (by have := s.isLt; omega)]
  rfl

/-- The rows kept in the scratch are those just before row `s0`: of the eight, the last two are read. -/
def Kept (j : Fin 4) (s0 : ℕ) (xs : Vec Ideal S2x8x1376 .f32) : Prop := ∀ (g : Fin 2) (q : Fin 8) (f : Fin 1376), 6 ≤ q.val →
  xs (ix3 g q f) = HP (aX m c) (aWU m c) (s0 + (q.val - 6)) (col g (feat j f))

theorem kept_zero (j : Fin 4) : Kept m c j 0 (k0_pay2 (F := Ideal)) := by
  intro g q f hq
  have h := q.isLt
  unfold HP
  rw [if_pos (by omega)]
  unfold_payloads
  pointwise

theorem kept_next (t : Fin cfg0.N) : Kept m c (jt t) (t.val % 32 * 256 + 256) (BS (iblk m c 0 t) (iblk m c 1 t)) := by
  intro g q f hq
  rw [BS_at, hB_blk, ← HP_add2]
  congr 1
  show t.val % 32 * 256 + (248 + q.val) + 2 = t.val % 32 * 256 + 256 + (q.val - 6)
  omega

theorem shU_eq (t : Fin cfg0.N) (xs : Vec Ideal S2x8x1376 .f32) (hk : Kept m c (jt t) (t.val % 32 * 256) xs) (g : Fin 2) (r : Fin 256) (f : Fin 1376)
    (δ : ℕ) (h1 : 1 ≤ δ) (h2 : δ ≤ 2) :
    shU (fun r => hB (iblk m c 0 t) (iblk m c 1 t) g r f) (fun q => xs (ix3 g q f)) δ r
      = HP (aX m c) (aWU m c) ((row t r).val + (2 - δ)) (col g (feat (jt t) f)) := by
  have hr := r.isLt
  unfold shU
  by_cases p : r.val + 8 - δ < 8
  · rw [dif_pos p]
    show xs (ix3 g ⟨r.val + 8 - δ, p⟩ f) = _
    rw [hk g ⟨r.val + 8 - δ, p⟩ f (by show 6 ≤ r.val + 8 - δ; omega)]
    congr 1
    show t.val % 32 * 256 + (r.val + 8 - δ - 6) = t.val % 32 * 256 + r.val + (2 - δ)
    omega
  · rw [dif_neg p, dif_pos (by omega)]
    refine (hB_blk m c t g _ f).trans ((HP_add2 _ _ _ _).symm.trans ?_)
    congr 1
    show t.val % 32 * 256 + (r.val + 8 - δ - 8) + 2 = t.val % 32 * 256 + r.val + (2 - δ)
    omega

theorem cB_blk (t : Fin cfg0.N) (xs : Vec Ideal S2x8x1376 .f32) (hk : Kept m c (jt t) (t.val % 32 * 256) xs) (g : Fin 2) (r : Fin 256) (f : Fin 1376) :
    cB (iblk m c 0 t) (iblk m c 1 t) (iblk m c 2 t) (iblk m c 3 t) xs g r f
      = C (aX m c) (aWU m c) (aCW m c) (aCB m c) (row t r) (col g (feat (jt t) f)) := by
  unfold cB C
  refine congrArg₂ (· + ·) (congrArg₂ (· + ·) (congrArg₂ (· + ·) (iblk3 m c t g f) ?_) ?_) ?_
  · exact congrArg₂ (· * ·) (iblk2 m c t g 0 f) (shU_eq m c t xs hk g r f 2 (by decide) (by decide))
  · exact congrArg₂ (· * ·) (iblk2 m c t g 1 f) (shU_eq m c t xs hk g r f 1 (by decide) (by decide))
  · exact congrArg₂ (· * ·) (iblk2 m c t g 2 f) ((hB_blk m c t g r f).trans (HP_add2 _ _ _ _).symm)

/-- The gated activation. -/
def act (X : Arr3 1 8192 2048) (WU : Arr2 2048 11008) (CW : Arr2 3 11008) (CB : Arr1 11008) (s : Fin 8192) (p : Fin 5504) : EReal :=
  C X WU CW CB s (col 0 p) * sg (C X WU CW CB s (col 0 p)) * C X WU CW CB s (col 1 p)

/-- What a grid point leaves: its blocks of the three outputs, and the rows kept for the next point. -/
structure At (t : Fin cfg0.N) (o : Vec Ideal S2x1x256x1376 .f32 × Vec Ideal S2x1x256x1376 .f32 × Vec Ideal S1x256x1376 .bf16 × Vec Ideal S2x8x1376 .f32) : Prop where
  h : ∀ (g : Fin 2) (r : Fin 256) (f : Fin 1376), o.1 (ix4 g 0 r f) = H (aX m c) (aWU m c) (row t r) (col g (feat (jt t) f))
  cv : ∀ (g : Fin 2) (r : Fin 256) (f : Fin 1376), o.2.1 (ix4 g 0 r f) = C (aX m c) (aWU m c) (aCW m c) (aCB m c) (row t r) (col g (feat (jt t) f))
  a : ∀ (r : Fin 256) (f : Fin 1376), o.2.2.1 (ix3 0 r f) = act (aX m c) (aWU m c) (aCW m c) (aCB m c) (row t r) (feat (jt t) f)
  kept : Kept m c (jt t) (t.val % 32 * 256 + 256) o.2.2.2

theorem at_of (t : Fin cfg0.N) (xs : Vec Ideal S2x8x1376 .f32) (hk : Kept m c (jt t) (t.val % 32 * 256) xs) :
    At m c t (B4 (iblk m c 0 t) (iblk m c 1 t), B5 (iblk m c 0 t) (iblk m c 1 t) (iblk m c 2 t) (iblk m c 3 t) xs,
      B6 (iblk m c 0 t) (iblk m c 1 t) (iblk m c 2 t) (iblk m c 3 t) xs, BS (iblk m c 0 t) (iblk m c 1 t)) where
  h g r f := (B4_at _ _ g r f).trans (hB_blk m c t g r f)
  cv g r f := (B5_at _ _ _ _ _ g r f).trans (cB_blk m c t xs hk g r f)
  a r f := by
    refine (B6_at _ _ _ _ _ r f).trans ?_
    unfold aB act
    rw [cB_blk m c t xs hk, cB_blk m c t xs hk]
  kept := kept_next m c t

theorem at_all : ∀ (n : ℕ) (hn : n < cfg0.N), At m c ⟨n, hn⟩ (outsAt0 m c n hn) := by
  intro n
  induction n with
  | zero =>
    intro hn
    rw [outsAt0_A m c ⟨0, hn⟩ (Nat.zero_mod 32), out0_A_4_eq, out0_A_5_eq, out0_A_6_eq, sout0_A_0_eq]
    exact at_of m c ⟨0, hn⟩ _ (kept_zero m c _)
  | succ n ih =>
    intro hn
    by_cases h0 : (n + 1) % 32 = 0
    · rw [outsAt0_A m c ⟨n + 1, hn⟩ h0, out0_A_4_eq, out0_A_5_eq, out0_A_6_eq, sout0_A_0_eq]
      refine at_of m c ⟨n + 1, hn⟩ _ ?_
      show Kept m c _ ((n + 1) % 32 * 256) _
      rw [h0]
      exact kept_zero m c _
    · rw [outsAt0_B m c ⟨n + 1, hn⟩ h0, out0_B_4_eq, out0_B_5_eq, out0_B_6_eq, sout0_B_0_eq]
      refine at_of m c ⟨n + 1, hn⟩ _ ?_
      have hk := (ih (Nat.lt_of_succ_lt hn)).kept
      have hj : jt ⟨n, Nat.lt_of_succ_lt hn⟩ = jt ⟨n + 1, hn⟩ := Fin.ext (by show n / 32 = (n + 1) / 32; omega)
      have hs : n % 32 * 256 + 256 = (n + 1) % 32 * 256 := by omega
      rw [hj] at hk
      change Kept m c _ (n % 32 * 256 + 256) _ at hk
      rw [hs] at hk
      exact hk

/-- The up projection, cut into halves and chunks. -/
def F4 (X : Arr3 1 8192 2048) (WU : Arr2 2048 11008) : Vec Ideal S2x4x8192x1376 .f32 := fun y => H X WU (y 2) (col (y 0) (feat (y 1) (y 3)))

/-- The convolution over time, cut into halves and chunks. -/
def F5 (X : Arr3 1 8192 2048) (WU : Arr2 2048 11008) (CW : Arr2 3 11008) (CB : Arr1 11008) : Vec Ideal S2x4x8192x1376 .f32 :=
  fun y => C X WU CW CB (y 2) (col (y 0) (feat (y 1) (y 3)))

/-- The gated activation, cut into chunks. -/
def F6 (X : Arr3 1 8192 2048) (WU : Arr2 2048 11008) (CW : Arr2 3 11008) (CB : Arr1 11008) : Vec Ideal S4x8192x1376 .bf16 :=
  fun y => act X WU CW CB (y 1) (feat (y 0) (y 2))

theorem blk4 (y : S2x1x256x1376.Idx) : ∃ (g : Fin 2) (r : Fin 256) (f : Fin 1376), y = ix4 g 0 r f :=
  ⟨y 0, y 2, y 3, by
    funext a
    match a with
    | ⟨0, _⟩ => rfl
    | ⟨1, _⟩ => exact Subsingleton.elim (α := Fin 1) _ _
    | ⟨2, _⟩ => rfl
    | ⟨3, _⟩ => rfl⟩

theorem flush4 (t : Fin cfg0.N) : (dats m 0 c).flushed 4 t = ((cfg0.win 4).blk t).view.read (Elt Ideal) (F4 (aX m c) (aWU m c)) := by
  rw [flushed4]
  have ha := (at_all m c t.val t.isLt).h
  generalize outsAt0 m c t.val t.isLt = o at ha
  funext y
  obtain ⟨g, r, f, rfl⟩ := blk4 y
  show o.1 (ix4 g 0 r f) = F4 (aX m c) (aWU m c) (((cfg0.win 4).blk t).view.emb (ix4 g 0 r f))
  rw [emb4, ha]
  rfl

theorem flush5 (t : Fin cfg0.N) : (dats m 0 c).flushed 5 t = ((cfg0.win 5).blk t).view.read (Elt Ideal) (F5 (aX m c) (aWU m c) (aCW m c) (aCB m c)) := by
  rw [flushed5]
  have ha := (at_all m c t.val t.isLt).cv
  generalize outsAt0 m c t.val t.isLt = o at ha
  funext y
  obtain ⟨g, r, f, rfl⟩ := blk4 y
  show o.2.1 (ix4 g 0 r f) = F5 (aX m c) (aWU m c) (aCW m c) (aCB m c) (((cfg0.win 5).blk t).view.emb (ix4 g 0 r f))
  rw [emb5, ha]
  rfl

theorem flush6 (t : Fin cfg0.N) : (dats m 0 c).flushed 6 t = ((cfg0.win 6).blk t).view.read (Elt Ideal) (F6 (aX m c) (aWU m c) (aCW m c) (aCB m c)) := by
  rw [flushed6]
  have ha := (at_all m c t.val t.isLt).a
  generalize outsAt0 m c t.val t.isLt = o at ha
  funext y
  obtain ⟨r, f, rfl⟩ := idx6 y
  show o.2.2.1 (ix3 0 r f) = F6 (aX m c) (aWU m c) (aCW m c) (aCB m c) (((cfg0.win 6).blk t).view.emb (ix3 0 r f))
  rw [emb6, ha]
  rfl

/-- The grid point of chunk `j` and block of rows `i`. -/
def pt (j : Fin 4) (i : Fin 32) : Fin cfg0.N :=
  ⟨j.val * 32 + i.val, Nat.lt_of_lt_of_eq (by have := j.isLt; have := i.isLt; omega : j.val * 32 + i.val < 128) N_0.symm⟩

theorem jt_pt (j : Fin 4) (i : Fin 32) : jt (pt j i) = j :=
  Fin.ext (by show (j.val * 32 + i.val) / 32 = j.val; have := i.isLt; omega)

theorem row_pt (j : Fin 4) (s : Fin 8192) (h : s.val / 256 < 32) (hr : s.val % 256 < 256) : row (pt j ⟨s.val / 256, h⟩) ⟨s.val % 256, hr⟩ = s :=
  Fin.ext (by show (j.val * 32 + s.val / 256) % 32 * 256 + s.val % 256 = s.val; omega)

theorem final4 : (dats m 0 c).arrAt 4 cfg0.N = F4 (aX m c) (aWU m c) := by
  refine (dats m 0 c).arrAt_eq_of_cover 4 _ (fun t _ => flush4 m c t) fun i => ?_
  obtain ⟨g, j, s, f, rfl⟩ : ∃ (g : Fin 2) (j : Fin 4) (s : Fin 8192) (f : Fin 1376), i = ix4 g j s f :=
    ⟨i 0, i 1, i 2, i 3, by funext a; match a with | ⟨0, _⟩ => rfl | ⟨1, _⟩ => rfl | ⟨2, _⟩ => rfl | ⟨3, _⟩ => rfl⟩
  have h0 := s.isLt
  have hk : s.val / 256 < 32 := by omega
  have hr : s.val % 256 < 256 := by omega
  refine ⟨pt j ⟨s.val / 256, hk⟩, flush0_4 _, ?_⟩
  have e : ((cfg0.win 4).blk (pt j ⟨s.val / 256, hk⟩)).view.emb (ix4 g 0 ⟨s.val % 256, hr⟩ f) = ix4 g j s f := by
    rw [emb4, jt_pt, row_pt]
  rw [← e]
  exact View.emb_mem_set _ _

theorem final5 : (dats m 0 c).arrAt 5 cfg0.N = F5 (aX m c) (aWU m c) (aCW m c) (aCB m c) := by
  refine (dats m 0 c).arrAt_eq_of_cover 5 _ (fun t _ => flush5 m c t) fun i => ?_
  obtain ⟨g, j, s, f, rfl⟩ : ∃ (g : Fin 2) (j : Fin 4) (s : Fin 8192) (f : Fin 1376), i = ix4 g j s f :=
    ⟨i 0, i 1, i 2, i 3, by funext a; match a with | ⟨0, _⟩ => rfl | ⟨1, _⟩ => rfl | ⟨2, _⟩ => rfl | ⟨3, _⟩ => rfl⟩
  have h0 := s.isLt
  have hk : s.val / 256 < 32 := by omega
  have hr : s.val % 256 < 256 := by omega
  refine ⟨pt j ⟨s.val / 256, hk⟩, flush0_5 _, ?_⟩
  have e : ((cfg0.win 5).blk (pt j ⟨s.val / 256, hk⟩)).view.emb (ix4 g 0 ⟨s.val % 256, hr⟩ f) = ix4 g j s f := by
    rw [emb5, jt_pt, row_pt]
  rw [← e]
  exact View.emb_mem_set _ _

theorem final6 : (dats m 0 c).arrAt 6 cfg0.N = F6 (aX m c) (aWU m c) (aCW m c) (aCB m c) := by
  refine (dats m 0 c).arrAt_eq_of_cover 6 _ (fun t _ => flush6 m c t) fun i => ?_
  obtain ⟨j, s, f, rfl⟩ : ∃ (j : Fin 4) (s : Fin 8192) (f : Fin 1376), i = ix3 j s f :=
    ⟨i 0, i 1, i 2, by funext a; match a with | ⟨0, _⟩ => rfl | ⟨1, _⟩ => rfl | ⟨2, _⟩ => rfl⟩
  have h0 := s.isLt
  have hk : s.val / 256 < 32 := by omega
  have hr : s.val % 256 < 256 := by omega
  refine ⟨pt j ⟨s.val / 256, hk⟩, flush0_6 _, ?_⟩
  have e : ((cfg0.win 6).blk (pt j ⟨s.val / 256, hk⟩)).view.emb (ix3 0 ⟨s.val % 256, hr⟩ f) = ix3 j s f := by
    rw [emb6, jt_pt, row_pt]
  rw [← e]
  exact View.emb_mem_set _ _

end Fold

end Cert.Kernel2Ideal.Gate

namespace Cert.Reference2Ideal.Gate

open Cert.Reference2Ideal Cert.Reference2Ideal.Gen Cert.Reference2Ideal.Read Idealize.ShloMosaic Idealize.ShloMosaic.TcCoe Cert.Spec

variable (X : Arr3 1 8192 2048) (WU : Arr2 2048 11008) (CW : Arr2 3 11008) (CB : Arr1 11008)

theorem sitofp_zero : (FloatOps.sitofp (F := Ideal) FTy.f32 (0#32 : BitVec 32) : EReal) = 0 := by
  show ((((0#32 : BitVec 32).toInt : ℝ)) : EReal) = 0
  simp

theorem v0_at (s : Fin 8192) (f : Fin 11008) : val_main_v0 (F := Ideal) X WU (ix3 0 s f) = H X WU s f := by
  unfold val_main_v0
  pointwise
  rfl

theorem v1_at (s : Fin 8194) (f : Fin 11008) : val_main_v1 (F := Ideal) X WU (ix3 0 s f) = HP X WU s.val f := by
  unfold val_main_v1 val_main_call0_v0 val_main_c
  pointwise
  have hs := s.isLt
  unfold HP HN
  by_cases h1 : s.val < 2
  · rw [dif_neg (by omega), if_pos h1, sitofp_zero]
  · rw [dif_pos (by omega), if_neg h1, dif_pos (show s.val - 2 < 8192 by omega)]
    exact v0_at X WU _ _

theorem v24_at (s : Fin 8192) (f : Fin 11008) : val_main_v24 (F := Ideal) X WU CW CB (ix3 0 s f) = C X WU CW CB s f := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2
  pointwise
  rw [v1_at, v1_at, v1_at]
  unfold C
  simp only [Nat.add_comm]

theorem col0 (p : Fin 5504) (h : p.val < 11008) : (⟨p.val, h⟩ : Fin 11008) = col 0 p := Fin.ext (by show p.val = 0 * 5504 + p.val; omega)

theorem col1 (p : Fin 5504) (h : 5504 + p.val < 11008) : (⟨5504 + p.val, h⟩ : Fin 11008) = col 1 p := Fin.ext (by show 5504 + p.val = 1 * 5504 + p.val; omega)

/-- The logistic function, as the reference writes it. -/
def lg (g : EReal) : EReal := Ideal.div 1 (1 + Ideal.exp (-g))

theorem half_eq : Ideal.ofBits .f32 0x3F000000#32 = ((1 / 2 : ℝ) : EReal) := Cert.Equal.half_eq

/-- The two ways of writing the logistic function agree, at the two infinities too. -/
theorem sg_eq_lg (g : EReal) : Cert.Kernel2Ideal.Gate.sg g = lg g := by
  induction g with
  | coe x => exact (Cert.Equal.sg_coe x).trans (Cert.Equal.lg_coe x).symm
  | top =>
    unfold Cert.Kernel2Ideal.Gate.sg lg
    rw [half_eq, EReal.coe_mul_top_of_pos (by norm_num), Ideal.tanh_top, mul_one, EReal.neg_top, Ideal.exp_bot, add_zero, ← EReal.coe_add]
    unfold Ideal.div
    norm_num
  | bot =>
    unfold Cert.Kernel2Ideal.Gate.sg lg
    rw [half_eq, EReal.coe_mul_bot_of_pos (by norm_num), Ideal.tanh_bot, EReal.neg_bot, Ideal.exp_top, mul_neg, mul_one, ← EReal.coe_neg, ← EReal.coe_add,
      EReal.add_top_of_ne_bot (by decide : (1 : EReal) ≠ ⊥)]
    unfold Ideal.div
    norm_num

theorem v28_at (s : Fin 8192) (p : Fin 5504) : val_main_v28 (F := Ideal) X WU CW CB (ix3 0 s p) = Cert.Kernel2Ideal.Gate.act X WU CW CB s p := by
  unfold val_main_v28 val_main_v27 val_main_v26 val_main_call1_v5 val_main_call1_v4 val_main_call1_v3 val_main_call1_v2 val_main_call1_v1 val_main_call1_v0 val_main_call1_cst val_main_call1_cst_0 val_main_v25
  pointwise
  rw [col0, col1, v24_at, v24_at]
  unfold Cert.Kernel2Ideal.Gate.act
  rw [sg_eq_lg]
  rfl

theorem colf (g : Fin 2) (j : Fin 4) (f : Fin 1376) (h : (g.val * 4 + j.val) * 1376 + f.val < 11008) :
    (⟨(g.val * 4 + j.val) * 1376 + f.val, h⟩ : Fin 11008) = col g (feat j f) :=
  Fin.ext (by show (g.val * 4 + j.val) * 1376 + f.val = g.val * 5504 + (j.val * 1376 + f.val); omega)

theorem idx_h (g : Fin 2) (j : Fin 4) (s : Fin 8192) (f : Fin 1376) : idx_main_v29 (idx_main_v30 (ix4 g j s f)) = ix3 0 s (col g (feat j f)) := by
  have hg := g.isLt
  have hj := j.isLt
  have hs := s.isLt
  have hf := f.isLt
  funext a; apply Fin.ext
  match a with
  | ⟨0, _⟩ => rfl
  | ⟨1, _⟩ => exact (show (((s.val * 2 + g.val) * 4 + j.val) * 1376 + f.val) / 11008 % 8192 = s.val by omega)
  | ⟨2, _⟩ => exact (show (((s.val * 2 + g.val) * 4 + j.val) * 1376 + f.val) % 11008 = g.val * 5504 + (j.val * 1376 + f.val) by omega)

theorem idx_c (g : Fin 2) (j : Fin 4) (s : Fin 8192) (f : Fin 1376) : idx_main_v31 (idx_main_v32 (ix4 g j s f)) = ix3 0 s (col g (feat j f)) :=
  idx_h g j s f

theorem idx_a (j : Fin 4) (s : Fin 8192) (f : Fin 1376) : idx_main_v33 (idx_main_v34 (ix3 j s f)) = ix3 0 s (feat j f) := by
  have hj := j.isLt
  have hs := s.isLt
  have hf := f.isLt
  funext a; apply Fin.ext
  match a with
  | ⟨0, _⟩ => rfl
  | ⟨1, _⟩ => exact (show ((s.val * 4 + j.val) * 1376 + f.val) / 5504 % 8192 = s.val by omega)
  | ⟨2, _⟩ => exact (show ((s.val * 4 + j.val) * 1376 + f.val) % 5504 = j.val * 1376 + f.val by omega)

theorem v30_eq : val_main_v30 (F := Ideal) X WU = Cert.Kernel2Ideal.Gate.F4 X WU := by
  funext y
  obtain ⟨g, j, s, f, rfl⟩ : ∃ (g : Fin 2) (j : Fin 4) (s : Fin 8192) (f : Fin 1376), y = ix4 g j s f :=
    ⟨y 0, y 1, y 2, y 3, by funext a; match a with | ⟨0, _⟩ => rfl | ⟨1, _⟩ => rfl | ⟨2, _⟩ => rfl | ⟨3, _⟩ => rfl⟩
  rw [val_main_v30_apply, val_main_v29_apply, idx_h, v0_at]
  rfl

theorem v32_eq : val_main_v32 (F := Ideal) X WU CW CB = Cert.Kernel2Ideal.Gate.F5 X WU CW CB := by
  funext y
  obtain ⟨g, j, s, f, rfl⟩ : ∃ (g : Fin 2) (j : Fin 4) (s : Fin 8192) (f : Fin 1376), y = ix4 g j s f :=
    ⟨y 0, y 1, y 2, y 3, by funext a; match a with | ⟨0, _⟩ => rfl | ⟨1, _⟩ => rfl | ⟨2, _⟩ => rfl | ⟨3, _⟩ => rfl⟩
  rw [val_main_v32_apply, val_main_v31_apply, idx_c, v24_at]
  rfl

theorem v35_eq : val_main_v35 (F := Ideal) X WU CW CB = Cert.Kernel2Ideal.Gate.F6 X WU CW CB := by
  funext y
  obtain ⟨j, s, f, rfl⟩ : ∃ (j : Fin 4) (s : Fin 8192) (f : Fin 1376), y = ix3 j s f :=
    ⟨y 0, y 1, y 2, by funext a; match a with | ⟨0, _⟩ => rfl | ⟨1, _⟩ => rfl | ⟨2, _⟩ => rfl⟩
  unfold val_main_v35
  pointwise
  rw [val_main_v34_apply, val_main_v33_apply, idx_a, v28_at]
  rfl

end Cert.Reference2Ideal.Gate

end
-- ==== Proof.DownFwd.lean ====
module

public import proofs.«01_k».proof.Proof.Sums
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Kernel6Ideal.Down

open Cert.Kernel6Ideal Cert.Kernel6Ideal.Gen Cert.Kernel6Ideal.Value Idealize.ShloMosaic Idealize.ShloMosaic.TcCoe Idealize.SL.Sem Idealize.ShloMosaic.Tactic Cert.Spec Cert.Sums

theorem lt32 (t : Fin cfg0.N) : t.val < 32 := Nat.lt_of_lt_of_eq t.isLt N_0

/-- The chunk of features at a grid point. -/
def jt (t : Fin cfg0.N) : Fin 4 := ⟨t.val % 4, Nat.mod_lt _ (by decide)⟩

/-- Row `r` of the block of rows at a grid point. -/
def row (t : Fin cfg0.N) (r : Fin 1024) : Fin 8192 := ⟨t.val / 4 * 1024 + r.val, by have := lt32 t; have := r.isLt; omega⟩

/-- Feature `f` of chunk `j`. -/
def ft (j : Fin 4) (f : Fin 1376) : Fin 5504 := ⟨j.val * 1376 + f.val, by have := j.isLt; have := f.isLt; omega⟩

theorem widx0 : ∀ t : Fin cfg0.N, win0_0.index t (0 : Fin 3) = t.val % 4 ∧ win0_0.index t (1 : Fin 3) = t.val / 4 ∧ win0_0.index t (2 : Fin 3) = 0 :=
  (by decide +kernel : ∀ t : Fin grid0.N, _)
theorem widx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
theorem widx2 : ∀ t : Fin cfg0.N, win0_2.index t (0 : Fin 2) = t.val / 4 ∧ win0_2.index t (1 : Fin 2) = 0 :=
  (by decide +kernel : ∀ t : Fin grid0.N, _)

theorem emb0 (t : Fin cfg0.N) (a0 : Fin 1) (a1 : Fin 1024) (a2 : Fin 1376) : ((cfg0.win 0).blk t).view.emb (ix3 a0 a1 a2) = ix3 (jt t) (row t a1) a2 := by
  obtain ⟨e0, e1, e2⟩ := widx0 t
  funext a; apply Fin.ext
  match a with
  | ⟨0, _⟩ => show win0_0.index t (0 : Fin 3) * 1 + 1 * a0.val = (jt t).val; rw [e0]; simp [jt]
  | ⟨1, _⟩ => show win0_0.index t (1 : Fin 3) * 1024 + 1 * a1.val = (row t a1).val; rw [e1]; simp [row]
  | ⟨2, _⟩ => show win0_0.index t (2 : Fin 3) * 1376 + 1 * a2.val = a2.val; rw [e2]; simp

theorem emb1 (t : Fin cfg0.N) (a0 : Fin 1) (a1 : Fin 1376) (a2 : Fin 2048) : ((cfg0.win 1).blk t).view.emb (ix3 a0 a1 a2) = ix3 (jt t) a1 a2 := by
  obtain ⟨e0, e1, e2⟩ := widx1 t
  funext a; apply Fin.ext
  match a with
  | ⟨0, _⟩ => show win0_1.index t (0 : Fin 3) * 1 + 1 * a0.val = (jt t).val; rw [e0]; simp [jt]
  | ⟨1, _⟩ => show win0_1.index t (1 : Fin 3) * 1376 + 1 * a1.val = a1.val; rw [e1]; simp
  | ⟨2, _⟩ => show win0_1.index t (2 : Fin 3) * 2048 + 1 * a2.val = a2.val; rw [e2]; simp

theorem emb2 (t : Fin cfg0.N) (a0 : Fin 1024) (a1 : Fin 2048) : ((cfg0.win 2).blk t).view.emb (ix2 a0 a1) = ix2 (row t a0) a1 := by
  obtain ⟨e0, e1⟩ := widx2 t
  funext a; apply Fin.ext
  match a with
  | ⟨0, _⟩ => show win0_2.index t (0 : Fin 2) * 1024 + 1 * a0.val = (row t a0).val; rw [e0]; simp [row]
  | ⟨1, _⟩ => show win0_2.index t (1 : Fin 2) * 2048 + 1 * a1.val = a1.val; rw [e1]; simp

variable (m : (ℓ : Loc nD τ sig) → Buf (Elt Ideal) ℓ) (c : Dev nD)

/-- The down projection's weights. -/
abbrev aWD : Arr2 5504 2048 := m ((c : Thread nD τ).loc main_arg1)
/-- The down projection's input. -/
abbrev aA : Arr3 1 8192 5504 := m ((c : Thread nD τ).loc main_arg0)

theorem V3 (j : Fin 4) (s : Fin 8192) (f : Fin 1376) : V m c main_v3 (ix3 j s f) = aA m c (ix3 0 s (ft j f)) := by
  after_reads_at
  rfl

theorem V5 (j : Fin 4) (f : Fin 1376) (n : Fin 2048) : V m c main_v5 (ix3 j f n) = aWD m c (ix2 (ft j f) n) := by
  after_reads_at
  rfl

theorem rd0 (W : (b : Ref sig .tc) → Buf (Elt Ideal) ((c : Thread nD τ).loc b)) (t : Fin cfg0.N) (r : Fin 1024) (f : Fin 1376) :
    ((cfg0.win 0).blk t).view.read (Elt Ideal) (W (Pipeline.arrRef spec0 0)) (ix3 0 r f) = W main_v3 (ix3 (jt t) (row t r) f) := by
  show W main_v3 (((cfg0.win 0).blk t).view.emb (ix3 0 r f)) = _
  rw [emb0]

theorem rd1 (W : (b : Ref sig .tc) → Buf (Elt Ideal) ((c : Thread nD τ).loc b)) (t : Fin cfg0.N) (f : Fin 1376) (n : Fin 2048) :
    ((cfg0.win 1).blk t).view.read (Elt Ideal) (W (Pipeline.arrRef spec0 1)) (ix3 0 f n) = W main_v5 (ix3 (jt t) f n) := by
  show W main_v5 (((cfg0.win 1).blk t).view.emb (ix3 0 f n)) = _
  rw [emb1]

theorem iblk0 (t : Fin cfg0.N) (r : Fin 1024) (f : Fin 1376) : iblk m c 0 t (ix3 0 r f) = aA m c (ix3 0 (row t r) (ft (jt t) f)) := by
  unfold iblk
  exact (rd0 c (V m c) t r f).trans (V3 m c _ _ _)

theorem iblk1 (t : Fin cfg0.N) (f : Fin 1376) (n : Fin 2048) : iblk m c 1 t (ix3 0 f n) = aWD m c (ix2 (ft (jt t) f) n) := by
  unfold iblk
  exact (rd1 c (V m c) t f n).trans (V5 m c _ _ _)

section Point

theorem pay1_at (v0 : Vec Ideal S1x1024x1376 .bf16) (v2 : Vec Ideal S1x1376x2048 .bf16) (r : Fin 1024) (n : Fin 2048) :
    k0_pay1 v0 v2 (ix2 r n) = ∑ k : Fin 1376, v0 (ix3 0 r k) * v2 (ix3 0 k n) := by
  unfold_payloads; pointwise

theorem pay2_at (v0 : Vec Ideal S1x1024x1376 .bf16) (v2 : Vec Ideal S1x1376x2048 .bf16) (v11 : Vec Ideal S1024x2048 .f32) (r : Fin 1024) (n : Fin 2048) :
    k0_pay2 v0 v2 v11 (ix2 r n) = v11 (ix2 r n) + ∑ k : Fin 1376, v0 (ix3 0 r k) * v2 (ix3 0 k n) := by
  unfold_payloads; pointwise

variable (i : grid0.Coords)
  (arg2 : Memref sig .tc .vmem S1x1024x1376 .bf16) (harg2 : arg2.IsWhole)
  (arg3 : Memref sig .tc .vmem S1x1376x2048 .bf16) (harg3 : arg3.IsWhole)
  (arg4 : Memref sig .tc .vmem S1024x2048 .f32) (harg4 : arg4.IsWhole)
  (x0 : Vec Ideal S1x1024x1376 .bf16) (x1 : Vec Ideal S1x1376x2048 .bf16) (xo : Vec Ideal S1024x2048 .f32)

/-- The first point of a block of rows leaves its product. -/
theorem out0_A_eq (hc0 : cond0_0 i) (hc1 : ¬cond0_1 i) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A; dsimp only; sl_unfold_words
  simp only [View.readAt_eq_ld, harg2.read_unread, harg3.read_unread, harg4.read_unread]
  rw [View.canon_unit_zero hz2, View.ld_unit_zero hz3, View.ld_unit_zero hz3]

/-- A later point of a block of rows adds its product. -/
theorem out0_B_eq (hc0 : ¬cond0_0 i) (hc1 : cond0_1 i) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B; dsimp only; sl_unfold_words
  simp only [View.readAt_eq_ld, harg2.read_unread, harg3.read_unread, harg4.read_unread]
  rw [View.canon_unit_zero hz2, View.ld_unit_zero hz3, View.ld_unit_zero hz3, View.ld_unit_zero hz2]

end Point

/-- A row's product with the weights, feature by feature. -/
def term (A : Arr3 1 8192 5504) (WD : Arr2 5504 2048) (s : Fin 8192) (n : Fin 2048) (k : Fin 5504) : EReal := A (ix3 0 s k) * WD (ix2 k n)

/-- The product of a grid point's blocks. -/
theorem pay1_blk (t : Fin cfg0.N) (r : Fin 1024) (n : Fin 2048) :
    k0_pay1 (iblk m c 0 t) (iblk m c 1 t) (ix2 r n) = ∑ k : Fin 1376, term (aA m c) (aWD m c) (row t r) n (ft (jt t) k) := by
  refine (pay1_at _ _ r n).trans (Finset.sum_congr rfl fun k _ => ?_)
  exact congrArg₂ (· * ·) (iblk0 m c t r k) (iblk1 m c t k n)

/-- The product of a grid point's blocks, added to what was there. -/
theorem pay2_blk (t : Fin cfg0.N) (o : Vec Ideal S1024x2048 .f32) (r : Fin 1024) (n : Fin 2048) :
    k0_pay2 (iblk m c 0 t) (iblk m c 1 t) o (ix2 r n) = o (ix2 r n) + ∑ k : Fin 1376, term (aA m c) (aWD m c) (row t r) n (ft (jt t) k) := by
  refine (pay2_at _ _ _ r n).trans (congrArg _ (Finset.sum_congr rfl fun k _ => ?_))
  exact congrArg₂ (· * ·) (iblk0 m c t r k) (iblk1 m c t k n)

/-- After a grid point the output's block holds the products over the chunks visited so far. -/
def At (t : Fin cfg0.N) (o : Vec Ideal S1024x2048 .f32) : Prop := ∀ (r : Fin 1024) (n : Fin 2048),
  o (ix2 r n) = upto (term (aA m c) (aWD m c) (row t r) n) ((t.val % 4 + 1) * 1376)

theorem at_all : ∀ (n : ℕ) (hn : n < cfg0.N), At m c ⟨n, hn⟩ (outsAt0 m c n hn) := by
  intro n
  induction n with
  | zero =>
    intro hn r k
    rw [outsAt0_A m c ⟨0, hn⟩ (Nat.zero_mod 4) (by show ¬1 ≤ 0 % 4; decide), out0_A_eq, pay1_blk]
    exact (upto_first _ 1376 (by decide)).symm
  | succ n ih =>
    intro hn r k
    have hN : n + 1 < 32 := Nat.lt_of_lt_of_eq hn N_0
    by_cases h0 : (n + 1) % 4 = 0
    · rw [outsAt0_A m c ⟨n + 1, hn⟩ h0 (by show ¬1 ≤ (n + 1) % 4; omega), out0_A_eq, pay1_blk]
      have hj : jt ⟨n + 1, hn⟩ = 0 := Fin.ext h0
      show _ = upto _ (((n + 1) % 4 + 1) * 1376)
      rw [h0, hj]
      exact (upto_first _ 1376 (by decide)).symm
    · rw [outsAt0_B m c ⟨n + 1, hn⟩ h0 (by show 1 ≤ (n + 1) % 4; omega), out0_B_eq, pay2_blk]
      have hr : row ⟨n, Nat.lt_of_succ_lt hn⟩ r = row ⟨n + 1, hn⟩ r := Fin.ext (by show n / 4 * 1024 + r.val = (n + 1) / 4 * 1024 + r.val; omega)
      have hi := ih (Nat.lt_of_succ_lt hn) r k
      rw [hr] at hi
      refine (congrArg (· + _) hi).trans ?_
      have hs : ((n + 1) % 4 + 1) * 1376 = (n % 4 + 1) * 1376 + 1376 := by omega
      show _ = upto _ (((n + 1) % 4 + 1) * 1376)
      rw [hs, upto_add _ _ _ (by omega)]
      congr 1
      refine Finset.sum_congr rfl fun q _ => congrArg _ (Fin.ext ?_)
      show (n + 1) % 4 * 1376 + q.val = (n % 4 + 1) * 1376 + q.val
      omega

/-- The down projection's output. -/
def F2 (A : Arr3 1 8192 5504) (WD : Arr2 5504 2048) : Vec Ideal S8192x2048 .f32 := fun y => ∑ k, term A WD (y 0) (y 1) k

theorem flush2 (t : Fin cfg0.N) (hf : (cfg0.win 2).flush t = true) :
    (dats m 0 c).flushed 2 t = ((cfg0.win 2).blk t).view.read (Elt Ideal) (F2 (aA m c) (aWD m c)) := by
  have hl := (flush0_2 t).mp hf
  rw [flushed2]
  have ha : At m c t (outsAt0 m c t.val t.isLt) := at_all m c t.val t.isLt
  unfold At at ha
  rw [hl] at ha
  generalize outsAt0 m c t.val t.isLt = o at ha
  funext y
  obtain ⟨y0, y1, rfl⟩ : ∃ (y0 : Fin 1024) (y1 : Fin 2048), y = ix2 y0 y1 :=
    ⟨y 0, y 1, by funext a; match a with | ⟨0, _⟩ => rfl | ⟨1, _⟩ => rfl⟩
  show o (ix2 y0 y1) = F2 (aA m c) (aWD m c) (((cfg0.win 2).blk t).view.emb (ix2 y0 y1))
  rw [emb2, ha]
  exact upto_all _

/-- The last grid point of a block of rows. -/
def pt (k : Fin 8) : Fin cfg0.N := ⟨k.val * 4 + 3, Nat.lt_of_lt_of_eq (by have := k.isLt; omega : k.val * 4 + 3 < 32) N_0.symm⟩

theorem final2 : (dats m 0 c).arrAt 2 cfg0.N = F2 (aA m c) (aWD m c) := by
  refine (dats m 0 c).arrAt_eq_of_cover 2 _ (fun t hf => flush2 m c t hf) fun i => ?_
  obtain ⟨y0, y1, rfl⟩ : ∃ (y0 : Fin 8192) (y1 : Fin 2048), i = ix2 y0 y1 :=
    ⟨i 0, i 1, by funext a; match a with | ⟨0, _⟩ => rfl | ⟨1, _⟩ => rfl⟩
  have h0 := y0.isLt
  have hk : y0.val / 1024 < 8 := by omega
  have hr : y0.val % 1024 < 1024 := by omega
  refine ⟨pt ⟨y0.val / 1024, hk⟩, (flush0_2 _).mpr (by show (y0.val / 1024 * 4 + 3) % 4 = 3; omega), ?_⟩
  have e : ((cfg0.win 2).blk (pt ⟨y0.val / 1024, hk⟩)).view.emb (ix2 ⟨y0.val % 1024, hr⟩ y1) = ix2 y0 y1 := by
    rw [emb2]
    congr 1
    exact Fin.ext (by show (y0.val / 1024 * 4 + 3) / 4 * 1024 + y0.val % 1024 = y0.val; omega)
  rw [← e]
  exact View.emb_mem_set _ _

end Cert.Kernel6Ideal.Down

namespace Cert.Reference6Ideal.Down

open Cert.Reference6Ideal Cert.Reference6Ideal.Gen Cert.Reference6Ideal.Read Idealize.ShloMosaic Idealize.ShloMosaic.TcCoe Cert.Spec

theorem v1_eq (A : Arr3 1 8192 5504) (WD : Arr2 5504 2048) : val_main_v1 (F := Ideal) A WD = Cert.Kernel6Ideal.Down.F2 A WD := by
  funext y
  obtain ⟨s, n, rfl⟩ : ∃ (s : Fin 8192) (n : Fin 2048), y = ix2 s n :=
    ⟨y 0, y 1, by funext a; match a with | ⟨0, _⟩ => rfl | ⟨1, _⟩ => rfl⟩
  rw [val_main_v1_apply, val_main_v0_apply]
  refine Finset.sum_congr rfl fun k _ => ?_
  have hs := s.isLt
  have hn := n.isLt
  have hl : lidx_main_v0 (idx_main_v1 (ix2 s n)) k = ix3 0 s k := by
    funext a; apply Fin.ext; match a with | ⟨0, _⟩ => rfl | ⟨1, _⟩ => exact (show (s.val * 2048 + n.val) / 2048 % 8192 = s.val by omega) | ⟨2, _⟩ => rfl
  have hr : ridx_main_v0 (idx_main_v1 (ix2 s n)) k = ix2 k n := by
    funext a; apply Fin.ext; match a with | ⟨0, _⟩ => rfl | ⟨1, _⟩ => exact (show (s.val * 2048 + n.val) % 2048 = n.val by omega)
  rw [hl, hr]
  rfl

end Cert.Reference6Ideal.Down

end
-- ==== Proof.DownDw.lean ====
module

public import proofs.«01_k».proof.Proof.Sums
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Kernel3Ideal.Dw

open Cert.Kernel3Ideal Cert.Kernel3Ideal.Gen Cert.Kernel3Ideal.Value Idealize.ShloMosaic Idealize.ShloMosaic.TcCoe Idealize.SL.Sem Idealize.ShloMosaic.Tactic Cert.Spec Cert.Sums

theorem lt32 (t : Fin cfg0.N) : t.val < 32 := Nat.lt_of_lt_of_eq t.isLt N_0

/-- The chunk of features at a grid point. -/
def jt (t : Fin cfg0.N) : Fin 4 := ⟨t.val / 8, by have := lt32 t; omega⟩

/-- Row `r` of the time block at a grid point. -/
def row (t : Fin cfg0.N) (r : Fin 2048) : Fin 8192 := ⟨t.val % 4 * 2048 + r.val, by have := r.isLt; omega⟩

/-- Column `n` of the block of columns at a grid point. -/
def cl (t : Fin cfg0.N) (n : Fin 1024) : Fin 2048 := ⟨t.val / 4 % 2 * 1024 + n.val, by have := n.isLt; omega⟩

/-- Feature `f` of chunk `j`. -/
def ft (j : Fin 4) (f : Fin 1376) : Fin 5504 := ⟨j.val * 1376 + f.val, by have := j.isLt; have := f.isLt; omega⟩

theorem widx0 : ∀ t : Fin cfg0.N, win0_0.index t (0 : Fin 3) = t.val / 8 ∧ win0_0.index t (1 : Fin 3) = t.val % 4 ∧ win0_0.index t (2 : Fin 3) = 0 :=
  (by decide +kernel : ∀ t : Fin grid0.N, _)
theorem widx1 : ∀ t : Fin cfg0.N, win0_1.index t (0 : Fin 3) = 0 ∧ win0_1.index t (1 : Fin 3) = t.val % 4 ∧ win0_1.index t (2 : Fin 3) = t.val / 4 % 2 :=
  (by decide +kernel : ∀ t : Fin grid0.N, _)
theorem widx2 : ∀ t : Fin cfg0.N, win0_2.index t (0 : Fin 3) = t.val / 8 ∧ win0_2.index t (1 : Fin 3) = 0 ∧ win0_2.index t (2 : Fin 3) = t.val / 4 % 2 :=
  (by decide +kernel : ∀ t : Fin grid0.N, _)

theorem emb0 (t : Fin cfg0.N) (a0 : Fin 1) (a1 : Fin 2048) (a2 : Fin 1376) : ((cfg0.win 0).blk t).view.emb (ix3 a0 a1 a2) = ix3 (jt t) (row t a1) a2 := by
  obtain ⟨e0, e1, e2⟩ := widx0 t
  funext a; apply Fin.ext
  match a with
  | ⟨0, _⟩ => show win0_0.index t (0 : Fin 3) * 1 + 1 * a0.val = (jt t).val; rw [e0]; simp [jt]
  | ⟨1, _⟩ => show win0_0.index t (1 : Fin 3) * 2048 + 1 * a1.val = (row t a1).val; rw [e1]; simp [row]
  | ⟨2, _⟩ => show win0_0.index t (2 : Fin 3) * 1376 + 1 * a2.val = a2.val; rw [e2]; simp

theorem emb1 (t : Fin cfg0.N) (a0 : Fin 1) (a1 : Fin 2048) (a2 : Fin 1024) : ((cfg0.win 1).blk t).view.emb (ix3 a0 a1 a2) = ix3 a0 (row t a1) (cl t a2) := by
  obtain ⟨e0, e1, e2⟩ := widx1 t
  funext a; apply Fin.ext
  match a with
  | ⟨0, _⟩ => show win0_1.index t (0 : Fin 3) * 1 + 1 * a0.val = a0.val; rw [e0]; simp
  | ⟨1, _⟩ => show win0_1.index t (1 : Fin 3) * 2048 + 1 * a1.val = (row t a1).val; rw [e1]; simp [row]
  | ⟨2, _⟩ => show win0_1.index t (2 : Fin 3) * 1024 + 1 * a2.val = (cl t a2).val; rw [e2]; simp [cl]

theorem emb2 (t : Fin cfg0.N) (a0 : Fin 1) (a1 : Fin 1376) (a2 : Fin 1024) : ((cfg0.win 2).blk t).view.emb (ix3 a0 a1 a2) = ix3 (jt t) a1 (cl t a2) := by
  obtain ⟨e0, e1, e2⟩ := widx2 t
  funext a; apply Fin.ext
  match a with
  | ⟨0, _⟩ => show win0_2.index t (0 : Fin 3) * 1 + 1 * a0.val = (jt t).val; rw [e0]; simp [jt]
  | ⟨1, _⟩ => show win0_2.index t (1 : Fin 3) * 1376 + 1 * a1.val = a1.val; rw [e1]; simp
  | ⟨2, _⟩ => show win0_2.index t (2 : Fin 3) * 1024 + 1 * a2.val = (cl t a2).val; rw [e2]; simp [cl]

variable (m : (ℓ : Loc nD τ sig) → Buf (Elt Ideal) ℓ) (c : Dev nD)

/-- The down projection's input. -/
abbrev aA : Arr3 1 8192 5504 := m ((c : Thread nD τ).loc main_arg0)
/-- The gradient at the down projection's output. -/
abbrev aCT : Arr3 1 8192 2048 := m ((c : Thread nD τ).loc main_arg2)

theorem V3 (j : Fin 4) (s : Fin 8192) (f : Fin 1376) : V m c main_v3 (ix3 j s f) = aA m c (ix3 0 s (ft j f)) := by
  after_reads_at
  rfl

theorem V4 (s : Fin 8192) (n : Fin 2048) : V m c main_v4 (ix3 0 s n) = aCT m c (ix3 0 s n) := by
  after_reads_at

theorem rd0 (W : (b : Ref sig .tc) → Buf (Elt Ideal) ((c : Thread nD τ).loc b)) (t : Fin cfg0.N) (r : Fin 2048) (f : Fin 1376) :
    ((cfg0.win 0).blk t).view.read (Elt Ideal) (W (Pipeline.arrRef spec0 0)) (ix3 0 r f) = W main_v3 (ix3 (jt t) (row t r) f) := by
  show W main_v3 (((cfg0.win 0).blk t).view.emb (ix3 0 r f)) = _
  rw [emb0]

theorem rd1 (W : (b : Ref sig .tc) → Buf (Elt Ideal) ((c : Thread nD τ).loc b)) (t : Fin cfg0.N) (r : Fin 2048) (n : Fin 1024) :
    ((cfg0.win 1).blk t).view.read (Elt Ideal) (W (Pipeline.arrRef spec0 1)) (ix3 0 r n) = W main_v4 (ix3 0 (row t r) (cl t n)) := by
  show W main_v4 (((cfg0.win 1).blk t).view.emb (ix3 0 r n)) = _
  rw [emb1]

theorem iblk0 (t : Fin cfg0.N) (r : Fin 2048) (f : Fin 1376) : iblk m c 0 t (ix3 0 r f) = aA m c (ix3 0 (row t r) (ft (jt t) f)) := by
  unfold iblk
  exact (rd0 c (V m c) t r f).trans (V3 m c _ _ _)

theorem iblk1 (t : Fin cfg0.N) (r : Fin 2048) (n : Fin 1024) : iblk m c 1 t (ix3 0 r n) = aCT m c (ix3 0 (row t r) (cl t n)) := by
  unfold iblk
  exact (rd1 c (V m c) t r n).trans (V4 m c _ _)

section Point

theorem pay2_at (v0 : Vec Ideal S1x2048x1376 .bf16) (v2 : Vec Ideal S1x2048x1024 .bf16) (f : Fin 1376) (n : Fin 1024) :
    k0_pay2 v0 v2 (ix2 f n) = ∑ k : Fin 2048, v0 (ix3 0 k f) * v2 (ix3 0 k n) := by
  unfold_payloads; pointwise

theorem pay3_at (v0 : Vec Ideal S1x2048x1376 .bf16) (v2 : Vec Ideal S1x2048x1024 .bf16) (v14 : Vec Ideal S1376x1024 .f32) (f : Fin 1376) (n : Fin 1024) :
    k0_pay3 v0 v2 v14 (ix2 f n) = v14 (ix2 f n) + ∑ k : Fin 2048, v0 (ix3 0 k f) * v2 (ix3 0 k n) := by
  unfold_payloads; pointwise

theorem pay4_at (v14 : Vec Ideal S1376x1024 .f32) (f : Fin 1376) (n : Fin 1024) : k0_pay4 v14 (ix3 0 f n) = v14 (ix2 f n) := by
  unfold_payloads; pointwise

variable (i : grid0.Coords)
  (arg4 : Memref sig .tc .vmem S1x2048x1376 .bf16) (harg4 : arg4.IsWhole)
  (arg5 : Memref sig .tc .vmem S1x2048x1024 .bf16) (harg5 : arg5.IsWhole)
  (arg6 : Memref sig .tc .vmem S1x1376x1024 .bf16) (harg6 : arg6.IsWhole)
  (arg7 : Memref sig .tc .vmem S1376x1024 .f32) (harg7 : arg7.IsWhole)
  (x0 : Vec Ideal S1x2048x1376 .bf16) (x1 : Vec Ideal S1x2048x1024 .bf16) (xs : Vec Ideal S1376x1024 .f32)

/-- The first time block leaves its product. -/
theorem sout0_A_eq (hc0 : cond0_0 i) (hc1 : ¬cond0_1 i) (hc2 : ¬cond0_2 i) :
    sout0_A_0 c i arg4 harg4 arg5 harg5 arg6 harg6 arg7 harg7 hc0 hc1 hc2 x0 x1 = k0_pay2 x0 x1 := by
  unfold sout0_A_0
  rw [View.read_writes_eq_canon _ _ _ (scover0_A_0 c i arg4 harg4 arg5 harg5 arg6 harg6 arg7 harg7 hc0 hc1 hc2 x0 x1)]
  unfold kernelRun0_A; dsimp only; sl_unfold_words
  simp only [View.readAt_eq_ld, harg4.read_unread, harg5.read_unread, harg6.read_unread, harg7.read_unread]
  rw [View.canon_unit_zero hz2, View.ld_unit_zero hz3, View.ld_unit_zero hz3]

/-- A middle time block adds its product. -/
theorem sout0_B_eq (hc0 : ¬cond0_0 i) (hc1 : cond0_1 i) (hc2 : ¬cond0_2 i) :
    sout0_B_0 c i arg4 harg4 arg5 harg5 arg6 harg6 arg7 harg7 hc0 hc1 hc2 x0 x1 xs = k0_pay3 x0 x1 xs := by
  unfold sout0_B_0
  rw [View.read_writes_eq_canon _ _ _ (scover0_B_0 c i arg4 harg4 arg5 harg5 arg6 harg6 arg7 harg7 hc0 hc1 hc2 x0 x1 xs)]
  unfold kernelRun0_B; dsimp only; sl_unfold_words
  simp only [View.readAt_eq_ld, harg4.read_unread, harg5.read_unread, harg6.read_unread, harg7.read_unread]
  rw [View.canon_unit_zero hz2, View.ld_unit_zero hz3, View.ld_unit_zero hz3, View.ld_unit_zero hz2]

/-- The last time block adds its product and writes the sum out. -/
theorem out0_C_eq (hc0 : ¬cond0_0 i) (hc1 : cond0_1 i) (hc2 : cond0_2 i) :
    out0_C_2 c i arg4 harg4 arg5 harg5 arg6 harg6 arg7 harg7 hc0 hc1 hc2 x0 x1 xs = k0_pay4 (k0_pay3 x0 x1 xs) := by
  unfold out0_C_2
  rw [View.read_writes_eq_canon _ _ _ (cover0_C_2 c i arg4 harg4 arg5 harg5 arg6 harg6 arg7 harg7 hc0 hc1 hc2 x0 x1 xs)]
  unfold kernelRun0_C; dsimp only; sl_unfold_words
  simp only [View.readAt_eq_ld, harg4.read_unread, harg5.read_unread, harg6.read_unread, harg7.read_unread]
  rw [View.canon_unit_zero hz3, View.ld_unit_zero hz3, View.ld_unit_zero hz3, View.ld_unit_zero hz2, View.readCov_unit_zero _ hz2]

end Point

/-- The products of one pair of columns, row by row. -/
def term (A : Arr3 1 8192 5504) (CT : Arr3 1 8192 2048) (p : Fin 5504) (n : Fin 2048) (k : Fin 8192) : EReal := A (ix3 0 k p) * CT (ix3 0 k n)

/-- The product of a grid point's blocks. -/
theorem pay2_blk (t : Fin cfg0.N) (f : Fin 1376) (n : Fin 1024) :
    k0_pay2 (iblk m c 0 t) (iblk m c 1 t) (ix2 f n) = ∑ k : Fin 2048, term (aA m c) (aCT m c) (ft (jt t) f) (cl t n) (row t k) := by
  refine (pay2_at _ _ f n).trans (Finset.sum_congr rfl fun k _ => ?_)
  exact congrArg₂ (· * ·) (iblk0 m c t k f) (iblk1 m c t k n)

/-- The product of a grid point's blocks, added to what was there. -/
theorem pay3_blk (t : Fin cfg0.N) (o : Vec Ideal S1376x1024 .f32) (f : Fin 1376) (n : Fin 1024) :
    k0_pay3 (iblk m c 0 t) (iblk m c 1 t) o (ix2 f n) = o (ix2 f n) + ∑ k : Fin 2048, term (aA m c) (aCT m c) (ft (jt t) f) (cl t n) (row t k) := by
  refine (pay3_at _ _ _ f n).trans (congrArg _ (Finset.sum_congr rfl fun k _ => ?_))
  exact congrArg₂ (· * ·) (iblk0 m c t k f) (iblk1 m c t k n)

/-- The accumulator holds the products over the time blocks up to the grid point's. -/
def At (t : Fin cfg0.N) (o : Vec Ideal S1376x1024 .f32) : Prop := ∀ (f : Fin 1376) (n : Fin 1024),
  o (ix2 f n) = upto (term (aA m c) (aCT m c) (ft (jt t) f) (cl t n)) ((t.val % 4 + 1) * 2048)

/-- One more time block added to the accumulator of the point before. -/
theorem at_step (n : ℕ) (hn : n + 1 < cfg0.N) (h0 : ¬(n + 1) % 4 = 0) (o : Vec Ideal S1376x1024 .f32) (hi : At m c ⟨n, Nat.lt_of_succ_lt hn⟩ o) :
    At m c ⟨n + 1, hn⟩ (k0_pay3 (iblk m c 0 ⟨n + 1, hn⟩) (iblk m c 1 ⟨n + 1, hn⟩) o) := by
  intro f k
  have hN : n + 1 < 32 := Nat.lt_of_lt_of_eq hn N_0
  have hj : jt ⟨n, Nat.lt_of_succ_lt hn⟩ = jt ⟨n + 1, hn⟩ := Fin.ext (by show n / 8 = (n + 1) / 8; omega)
  have hc : cl ⟨n, Nat.lt_of_succ_lt hn⟩ k = cl ⟨n + 1, hn⟩ k := Fin.ext (by show n / 4 % 2 * 1024 + k.val = (n + 1) / 4 % 2 * 1024 + k.val; omega)
  have hi' := hi f k
  rw [hj, hc] at hi'
  refine (pay3_blk m c _ o f k).trans ?_
  refine (congrArg (· + _) hi').trans ?_
  have hs : ((n + 1) % 4 + 1) * 2048 = (n % 4 + 1) * 2048 + 2048 := by omega
  show _ = upto _ (((n + 1) % 4 + 1) * 2048)
  rw [hs, upto_add _ _ _ (by omega)]
  congr 1
  refine Finset.sum_congr rfl fun q _ => congrArg _ (Fin.ext ?_)
  show (n + 1) % 4 * 2048 + q.val = (n % 4 + 1) * 2048 + q.val
  omega

theorem at_all : ∀ (n : ℕ) (hn : n < cfg0.N), ¬n % 4 = 3 → At m c ⟨n, hn⟩ (outsAt0 m c n hn).2 := by
  intro n
  induction n with
  | zero =>
    intro hn _ f k
    rw [outsAt0_A m c ⟨0, hn⟩ (Nat.zero_mod 4) (by show ¬1 ≤ 0 % 4; decide) (by show ¬0 % 4 = 3; decide)]
    dsimp only
    rw [sout0_A_eq, pay2_blk]
    exact (upto_first _ 2048 (by decide)).symm
  | succ n ih =>
    intro hn h3
    by_cases h0 : (n + 1) % 4 = 0
    · intro f k
      rw [outsAt0_A m c ⟨n + 1, hn⟩ h0 (by show ¬1 ≤ (n + 1) % 4; omega) h3]
      dsimp only
      rw [sout0_A_eq, pay2_blk]
      show _ = upto _ (((n + 1) % 4 + 1) * 2048)
      rw [h0]
      refine Eq.trans ?_ (upto_first _ 2048 (by decide)).symm
      refine Finset.sum_congr rfl fun q _ => congrArg _ (Fin.ext ?_)
      show (n + 1) % 4 * 2048 + q.val = 0 + q.val
      omega
    · rw [outsAt0_B m c ⟨n + 1, hn⟩ h0 (by show 1 ≤ (n + 1) % 4; omega) h3]
      dsimp only
      rw [sout0_B_eq]
      exact at_step m c n hn h0 _ (ih (Nat.lt_of_succ_lt hn) (by omega))

/-- What the last time block writes out. -/
theorem out_last (t : Fin cfg0.N) (hl : t.val % 4 = 3) (f : Fin 1376) (n : Fin 1024) :
    (outsAt0 m c t.val t.isLt).1 (ix3 0 f n) = ∑ k, term (aA m c) (aCT m c) (ft (jt t) f) (cl t n) k := by
  obtain ⟨v, hv⟩ := t
  cases v with
  | zero => exact absurd hl (by show ¬0 % 4 = 3; decide)
  | succ v =>
    have h3 : (v + 1) % 4 = 3 := hl
    rw [outsAt0_C m c ⟨v + 1, hv⟩ (by show ¬(v + 1) % 4 = 0; omega) (by show 1 ≤ (v + 1) % 4; omega) hl]
    dsimp only
    rw [out0_C_eq, pay4_at]
    refine (at_step m c v hv (by omega) _ (at_all m c v (Nat.lt_of_succ_lt hv) (by omega)) f n).trans ?_
    show upto _ (((v + 1) % 4 + 1) * 2048) = _
    rw [h3]
    exact upto_all _

/-- The gradient of the weights, cut into chunks of features. -/
def F2 (A : Arr3 1 8192 5504) (CT : Arr3 1 8192 2048) : Vec Ideal S4x1376x2048 .bf16 := fun y => ∑ k, term A CT (ft (y 0) (y 1)) (y 2) k

theorem flush2 (t : Fin cfg0.N) (hf : (cfg0.win 2).flush t = true) :
    (dats m 0 c).flushed 2 t = ((cfg0.win 2).blk t).view.read (Elt Ideal) (F2 (aA m c) (aCT m c)) := by
  have hl := (flush0_2 t).mp hf
  rw [flushed2]
  have ha := out_last m c t hl
  generalize outsAt0 m c t.val t.isLt = o at ha
  funext y
  obtain ⟨y0, y1, y2, rfl⟩ : ∃ (y0 : Fin 1) (y1 : Fin 1376) (y2 : Fin 1024), y = ix3 y0 y1 y2 :=
    ⟨y 0, y 1, y 2, by funext a; match a with | ⟨0, _⟩ => rfl | ⟨1, _⟩ => rfl | ⟨2, _⟩ => rfl⟩
  show o.1 (ix3 y0 y1 y2) = F2 (aA m c) (aCT m c) (((cfg0.win 2).blk t).view.emb (ix3 y0 y1 y2))
  rw [emb2, (Subsingleton.elim _ _ : y0 = 0), ha]
  rfl

/-- The last grid point of a chunk of features and a block of columns. -/
def pt (j : Fin 4) (k : Fin 2) : Fin cfg0.N := ⟨j.val * 8 + k.val * 4 + 3, Nat.lt_of_lt_of_eq (by have := j.isLt; have := k.isLt; omega : j.val * 8 + k.val * 4 + 3 < 32) N_0.symm⟩

theorem final : (dats m 0 c).arrAt 2 cfg0.N = F2 (aA m c) (aCT m c) := by
  refine (dats m 0 c).arrAt_eq_of_cover 2 _ (fun t hf => flush2 m c t hf) fun i => ?_
  obtain ⟨y0, y1, y2, rfl⟩ : ∃ (y0 : Fin 4) (y1 : Fin 1376) (y2 : Fin 2048), i = ix3 y0 y1 y2 :=
    ⟨i 0, i 1, i 2, by funext a; match a with | ⟨0, _⟩ => rfl | ⟨1, _⟩ => rfl | ⟨2, _⟩ => rfl⟩
  have h0 := y0.isLt
  have h2 := y2.isLt
  have hk : y2.val / 1024 < 2 := by omega
  have hr : y2.val % 1024 < 1024 := by omega
  refine ⟨pt y0 ⟨y2.val / 1024, hk⟩, (flush0_2 _).mpr (by show (y0.val * 8 + y2.val / 1024 * 4 + 3) % 4 = 3; omega), ?_⟩
  have e : ((cfg0.win 2).blk (pt y0 ⟨y2.val / 1024, hk⟩)).view.emb (ix3 0 y1 ⟨y2.val % 1024, hr⟩) = ix3 y0 y1 y2 := by
    rw [emb2]
    congr 1
    · exact Fin.ext (by show (y0.val * 8 + y2.val / 1024 * 4 + 3) / 8 = y0.val; omega)
    · exact Fin.ext (by show (y0.val * 8 + y2.val / 1024 * 4 + 3) / 4 % 2 * 1024 + y2.val % 1024 = y2.val; omega)
  rw [← e]
  exact View.emb_mem_set _ _

end Cert.Kernel3Ideal.Dw

namespace Cert.Reference3Ideal.Dw

open Cert.Reference3Ideal Cert.Reference3Ideal.Gen Cert.Reference3Ideal.Read Idealize.ShloMosaic Idealize.ShloMosaic.TcCoe Idealize.ShloMosaic.Tactic Cert.Spec

theorem v1_at (A : Arr3 1 8192 5504) (CT : Arr3 1 8192 2048) (p : Fin 5504) (n : Fin 2048) :
    val_main_v1 (F := Ideal) A CT (ix2 n p) = ∑ k : Fin 8192, CT (ix3 0 k n) * A (ix3 0 k p) := by
  unfold val_main_v1
  pointwise
  exact Fin.sum_univ_one _

theorem v4_eq (A : Arr3 1 8192 5504) (CT : Arr3 1 8192 2048) : val_main_v4 (F := Ideal) A CT = Cert.Kernel3Ideal.Dw.F2 A CT := by
  funext y
  obtain ⟨j, f, n, rfl⟩ : ∃ (j : Fin 4) (f : Fin 1376) (n : Fin 2048), y = ix3 j f n :=
    ⟨y 0, y 1, y 2, by funext a; match a with | ⟨0, _⟩ => rfl | ⟨1, _⟩ => rfl | ⟨2, _⟩ => rfl⟩
  show val_main_v3 (F := Ideal) A CT (ix3 j f n) = ∑ k, Cert.Kernel3Ideal.Dw.term A CT (Cert.Kernel3Ideal.Dw.ft j f) n k
  rw [val_main_v3_apply, val_main_v2_apply]
  have hf := f.isLt
  have hn := n.isLt
  have hi : idx_main_v2 (idx_main_v3 (ix3 j f n)) = ix2 n (Cert.Kernel3Ideal.Dw.ft j f) := by
    funext a; apply Fin.ext
    match a with
    | ⟨0, _⟩ => exact (show ((j.val * 1376 + f.val) * 2048 + n.val) % 2048 = n.val by omega)
    | ⟨1, _⟩ => exact (show ((j.val * 1376 + f.val) * 2048 + n.val) / 2048 = j.val * 1376 + f.val by omega)
  rw [hi, v1_at]
  exact Finset.sum_congr rfl fun k _ => mul_comm _ _

end Cert.Reference3Ideal.Dw

end
-- ==== Proof.UpDw.lean ====
module

public import proofs.«01_k».proof.Proof.Sums
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Kernel4Ideal.Dw

open Cert.Kernel4Ideal Cert.Kernel4Ideal.Gen Cert.Kernel4Ideal.Value Idealize.ShloMosaic Idealize.ShloMosaic.TcCoe Idealize.SL.Sem Idealize.ShloMosaic.Tactic Cert.Spec Cert.Sums

theorem lt64 (t : Fin cfg0.N) : t.val < 64 := Nat.lt_of_lt_of_eq t.isLt N_0

/-- The chunk of features at a grid point. -/
def jt (t : Fin cfg0.N) : Fin 8 := ⟨t.val / 8, by have := lt64 t; omega⟩

/-- Row `r` of the time block at a grid point. -/
def row (t : Fin cfg0.N) (r : Fin 2048) : Fin 8192 := ⟨t.val % 4 * 2048 + r.val, by have := r.isLt; omega⟩

/-- Column `n` of the block of columns at a grid point. -/
def cl (t : Fin cfg0.N) (n : Fin 1024) : Fin 2048 := ⟨t.val / 4 % 2 * 1024 + n.val, by have := n.isLt; omega⟩

/-- Feature `f` of chunk `j`. -/
def ft (j : Fin 8) (f : Fin 1376) : Fin 11008 := ⟨j.val * 1376 + f.val, by have := j.isLt; have := f.isLt; omega⟩

theorem widx0 : ∀ t : Fin cfg0.N, win0_0.index t (0 : Fin 3) = t.val / 8 ∧ win0_0.index t (1 : Fin 3) = t.val % 4 ∧ win0_0.index t (2 : Fin 3) = 0 :=
  (by decide +kernel : ∀ t : Fin grid0.N, _)
theorem widx1 : ∀ t : Fin cfg0.N, win0_1.index t (0 : Fin 3) = 0 ∧ win0_1.index t (1 : Fin 3) = t.val % 4 ∧ win0_1.index t (2 : Fin 3) = t.val / 4 % 2 :=
  (by decide +kernel : ∀ t : Fin grid0.N, _)
theorem widx2 : ∀ t : Fin cfg0.N, win0_2.index t (0 : Fin 3) = t.val / 8 ∧ win0_2.index t (1 : Fin 3) = 0 ∧ win0_2.index t (2 : Fin 3) = t.val / 4 % 2 :=
  (by decide +kernel : ∀ t : Fin grid0.N, _)

theorem emb0 (t : Fin cfg0.N) (a0 : Fin 1) (a1 : Fin 2048) (a2 : Fin 1376) : ((cfg0.win 0).blk t).view.emb (ix3 a0 a1 a2) = ix3 (jt t) (row t a1) a2 := by
  obtain ⟨e0, e1, e2⟩ := widx0 t
  funext a; apply Fin.ext
  match a with
  | ⟨0, _⟩ => show win0_0.index t (0 : Fin 3) * 1 + 1 * a0.val = (jt t).val; rw [e0]; simp [jt]
  | ⟨1, _⟩ => show win0_0.index t (1 : Fin 3) * 2048 + 1 * a1.val = (row t a1).val; rw [e1]; simp [row]
  | ⟨2, _⟩ => show win0_0.index t (2 : Fin 3) * 1376 + 1 * a2.val = a2.val; rw [e2]; simp

theorem emb1 (t : Fin cfg0.N) (a0 : Fin 1) (a1 : Fin 2048) (a2 : Fin 1024) : ((cfg0.win 1).blk t).view.emb (ix3 a0 a1 a2) = ix3 a0 (row t a1) (cl t a2) := by
  obtain ⟨e0, e1, e2⟩ := widx1 t
  funext a; apply Fin.ext
  match a with
  | ⟨0, _⟩ => show win0_1.index t (0 : Fin 3) * 1 + 1 * a0.val = a0.val; rw [e0]; simp
  | ⟨1, _⟩ => show win0_1.index t (1 : Fin 3) * 2048 + 1 * a1.val = (row t a1).val; rw [e1]; simp [row]
  | ⟨2, _⟩ => show win0_1.index t (2 : Fin 3) * 1024 + 1 * a2.val = (cl t a2).val; rw [e2]; simp [cl]

theorem emb2 (t : Fin cfg0.N) (a0 : Fin 1) (a1 : Fin 1376) (a2 : Fin 1024) : ((cfg0.win 2).blk t).view.emb (ix3 a0 a1 a2) = ix3 (jt t) a1 (cl t a2) := by
  obtain ⟨e0, e1, e2⟩ := widx2 t
  funext a; apply Fin.ext
  match a with
  | ⟨0, _⟩ => show win0_2.index t (0 : Fin 3) * 1 + 1 * a0.val = (jt t).val; rw [e0]; simp [jt]
  | ⟨1, _⟩ => show win0_2.index t (1 : Fin 3) * 1376 + 1 * a1.val = a1.val; rw [e1]; simp
  | ⟨2, _⟩ => show win0_2.index t (2 : Fin 3) * 1024 + 1 * a2.val = (cl t a2).val; rw [e2]; simp [cl]

variable (m : (ℓ : Loc nD τ sig) → Buf (Elt Ideal) ℓ) (c : Dev nD)

/-- The gradient at the up projection's output. -/
abbrev aDH : Arr3 1 8192 11008 := m ((c : Thread nD τ).loc main_arg2)
/-- The layer's input. -/
abbrev aX : Arr3 1 8192 2048 := m ((c : Thread nD τ).loc main_arg0)

theorem V3 (j : Fin 8) (s : Fin 8192) (f : Fin 1376) : V m c main_v3 (ix3 j s f) = aDH m c (ix3 0 s (ft j f)) := by
  after_reads_at
  rfl

theorem V4 (s : Fin 8192) (n : Fin 2048) : V m c main_v4 (ix3 0 s n) = aX m c (ix3 0 s n) := by
  after_reads_at

theorem rd0 (W : (b : Ref sig .tc) → Buf (Elt Ideal) ((c : Thread nD τ).loc b)) (t : Fin cfg0.N) (r : Fin 2048) (f : Fin 1376) :
    ((cfg0.win 0).blk t).view.read (Elt Ideal) (W (Pipeline.arrRef spec0 0)) (ix3 0 r f) = W main_v3 (ix3 (jt t) (row t r) f) := by
  show W main_v3 (((cfg0.win 0).blk t).view.emb (ix3 0 r f)) = _
  rw [emb0]

theorem rd1 (W : (b : Ref sig .tc) → Buf (Elt Ideal) ((c : Thread nD τ).loc b)) (t : Fin cfg0.N) (r : Fin 2048) (n : Fin 1024) :
    ((cfg0.win 1).blk t).view.read (Elt Ideal) (W (Pipeline.arrRef spec0 1)) (ix3 0 r n) = W main_v4 (ix3 0 (row t r) (cl t n)) := by
  show W main_v4 (((cfg0.win 1).blk t).view.emb (ix3 0 r n)) = _
  rw [emb1]

theorem iblk0 (t : Fin cfg0.N) (r : Fin 2048) (f : Fin 1376) : iblk m c 0 t (ix3 0 r f) = aDH m c (ix3 0 (row t r) (ft (jt t) f)) := by
  unfold iblk
  exact (rd0 c (V m c) t r f).trans (V3 m c _ _ _)

theorem iblk1 (t : Fin cfg0.N) (r : Fin 2048) (n : Fin 1024) : iblk m c 1 t (ix3 0 r n) = aX m c (ix3 0 (row t r) (cl t n)) := by
  unfold iblk
  exact (rd1 c (V m c) t r n).trans (V4 m c _ _)

section Point

theorem pay2_at (v0 : Vec Ideal S1x2048x1376 .bf16) (v2 : Vec Ideal S1x2048x1024 .bf16) (f : Fin 1376) (n : Fin 1024) :
    k0_pay2 v0 v2 (ix2 f n) = ∑ k : Fin 2048, v0 (ix3 0 k f) * v2 (ix3 0 k n) := by
  unfold_payloads; pointwise

theorem pay3_at (v0 : Vec Ideal S1x2048x1376 .bf16) (v2 : Vec Ideal S1x2048x1024 .bf16) (v14 : Vec Ideal S1376x1024 .f32) (f : Fin 1376) (n : Fin 1024) :
    k0_pay3 v0 v2 v14 (ix2 f n) = v14 (ix2 f n) + ∑ k : Fin 2048, v0 (ix3 0 k f) * v2 (ix3 0 k n) := by
  unfold_payloads; pointwise

theorem pay4_at (v14 : Vec Ideal S1376x1024 .f32) (f : Fin 1376) (n : Fin 1024) : k0_pay4 v14 (ix3 0 f n) = v14 (ix2 f n) := by
  unfold_payloads; pointwise

variable (i : grid0.Coords)
  (arg4 : Memref sig .tc .vmem S1x2048x1376 .bf16) (harg4 : arg4.IsWhole)
  (arg5 : Memref sig .tc .vmem S1x2048x1024 .bf16) (harg5 : arg5.IsWhole)
  (arg6 : Memref sig .tc .vmem S1x1376x1024 .bf16) (harg6 : arg6.IsWhole)
  (arg7 : Memref sig .tc .vmem S1376x1024 .f32) (harg7 : arg7.IsWhole)
  (x0 : Vec Ideal S1x2048x1376 .bf16) (x1 : Vec Ideal S1x2048x1024 .bf16) (xs : Vec Ideal S1376x1024 .f32)

/-- The first time block leaves its product. -/
theorem sout0_A_eq (hc0 : cond0_0 i) (hc1 : ¬cond0_1 i) (hc2 : ¬cond0_2 i) :
    sout0_A_0 c i arg4 harg4 arg5 harg5 arg6 harg6 arg7 harg7 hc0 hc1 hc2 x0 x1 = k0_pay2 x0 x1 := by
  unfold sout0_A_0
  rw [View.read_writes_eq_canon _ _ _ (scover0_A_0 c i arg4 harg4 arg5 harg5 arg6 harg6 arg7 harg7 hc0 hc1 hc2 x0 x1)]
  unfold kernelRun0_A; dsimp only; sl_unfold_words
  simp only [View.readAt_eq_ld, harg4.read_unread, harg5.read_unread, harg6.read_unread, harg7.read_unread]
  rw [View.canon_unit_zero hz2, View.ld_unit_zero hz3, View.ld_unit_zero hz3]

/-- A middle time block adds its product. -/
theorem sout0_B_eq (hc0 : ¬cond0_0 i) (hc1 : cond0_1 i) (hc2 : ¬cond0_2 i) :
    sout0_B_0 c i arg4 harg4 arg5 harg5 arg6 harg6 arg7 harg7 hc0 hc1 hc2 x0 x1 xs = k0_pay3 x0 x1 xs := by
  unfold sout0_B_0
  rw [View.read_writes_eq_canon _ _ _ (scover0_B_0 c i arg4 harg4 arg5 harg5 arg6 harg6 arg7 harg7 hc0 hc1 hc2 x0 x1 xs)]
  unfold kernelRun0_B; dsimp only; sl_unfold_words
  simp only [View.readAt_eq_ld, harg4.read_unread, harg5.read_unread, harg6.read_unread, harg7.read_unread]
  rw [View.canon_unit_zero hz2, View.ld_unit_zero hz3, View.ld_unit_zero hz3, View.ld_unit_zero hz2]

/-- The last time block adds its product and writes the sum out. -/
theorem out0_C_eq (hc0 : ¬cond0_0 i) (hc1 : cond0_1 i) (hc2 : cond0_2 i) :
    out0_C_2 c i arg4 harg4 arg5 harg5 arg6 harg6 arg7 harg7 hc0 hc1 hc2 x0 x1 xs = k0_pay4 (k0_pay3 x0 x1 xs) := by
  unfold out0_C_2
  rw [View.read_writes_eq_canon _ _ _ (cover0_C_2 c i arg4 harg4 arg5 harg5 arg6 harg6 arg7 harg7 hc0 hc1 hc2 x0 x1 xs)]
  unfold kernelRun0_C; dsimp only; sl_unfold_words
  simp only [View.readAt_eq_ld, harg4.read_unread, harg5.read_unread, harg6.read_unread, harg7.read_unread]
  rw [View.canon_unit_zero hz3, View.ld_unit_zero hz3, View.ld_unit_zero hz3, View.ld_unit_zero hz2, View.readCov_unit_zero _ hz2]

end Point

/-- The products of one pair of columns, row by row. -/
def term (DH : Arr3 1 8192 11008) (X : Arr3 1 8192 2048) (p : Fin 11008) (n : Fin 2048) (k : Fin 8192) : EReal := DH (ix3 0 k p) * X (ix3 0 k n)

/-- The product of a grid point's blocks. -/
theorem pay2_blk (t : Fin cfg0.N) (f : Fin 1376) (n : Fin 1024) :
    k0_pay2 (iblk m c 0 t) (iblk m c 1 t) (ix2 f n) = ∑ k : Fin 2048, term (aDH m c) (aX m c) (ft (jt t) f) (cl t n) (row t k) := by
  refine (pay2_at _ _ f n).trans (Finset.sum_congr rfl fun k _ => ?_)
  exact congrArg₂ (· * ·) (iblk0 m c t k f) (iblk1 m c t k n)

/-- The product of a grid point's blocks, added to what was there. -/
theorem pay3_blk (t : Fin cfg0.N) (o : Vec Ideal S1376x1024 .f32) (f : Fin 1376) (n : Fin 1024) :
    k0_pay3 (iblk m c 0 t) (iblk m c 1 t) o (ix2 f n) = o (ix2 f n) + ∑ k : Fin 2048, term (aDH m c) (aX m c) (ft (jt t) f) (cl t n) (row t k) := by
  refine (pay3_at _ _ _ f n).trans (congrArg _ (Finset.sum_congr rfl fun k _ => ?_))
  exact congrArg₂ (· * ·) (iblk0 m c t k f) (iblk1 m c t k n)

/-- The accumulator holds the products over the time blocks up to the grid point's. -/
def At (t : Fin cfg0.N) (o : Vec Ideal S1376x1024 .f32) : Prop := ∀ (f : Fin 1376) (n : Fin 1024),
  o (ix2 f n) = upto (term (aDH m c) (aX m c) (ft (jt t) f) (cl t n)) ((t.val % 4 + 1) * 2048)

/-- One more time block added to the accumulator of the point before. -/
theorem at_step (n : ℕ) (hn : n + 1 < cfg0.N) (h0 : ¬(n + 1) % 4 = 0) (o : Vec Ideal S1376x1024 .f32) (hi : At m c ⟨n, Nat.lt_of_succ_lt hn⟩ o) :
    At m c ⟨n + 1, hn⟩ (k0_pay3 (iblk m c 0 ⟨n + 1, hn⟩) (iblk m c 1 ⟨n + 1, hn⟩) o) := by
  intro f k
  have hN : n + 1 < 64 := Nat.lt_of_lt_of_eq hn N_0
  have hj : jt ⟨n, Nat.lt_of_succ_lt hn⟩ = jt ⟨n + 1, hn⟩ := Fin.ext (by show n / 8 = (n + 1) / 8; omega)
  have hc : cl ⟨n, Nat.lt_of_succ_lt hn⟩ k = cl ⟨n + 1, hn⟩ k := Fin.ext (by show n / 4 % 2 * 1024 + k.val = (n + 1) / 4 % 2 * 1024 + k.val; omega)
  have hi' := hi f k
  rw [hj, hc] at hi'
  refine (pay3_blk m c _ o f k).trans ?_
  refine (congrArg (· + _) hi').trans ?_
  have hs : ((n + 1) % 4 + 1) * 2048 = (n % 4 + 1) * 2048 + 2048 := by omega
  show _ = upto _ (((n + 1) % 4 + 1) * 2048)
  rw [hs, upto_add _ _ _ (by omega)]
  congr 1
  refine Finset.sum_congr rfl fun q _ => congrArg _ (Fin.ext ?_)
  show (n + 1) % 4 * 2048 + q.val = (n % 4 + 1) * 2048 + q.val
  omega

theorem at_all : ∀ (n : ℕ) (hn : n < cfg0.N), ¬n % 4 = 3 → At m c ⟨n, hn⟩ (outsAt0 m c n hn).2 := by
  intro n
  induction n with
  | zero =>
    intro hn _ f k
    rw [outsAt0_A m c ⟨0, hn⟩ (Nat.zero_mod 4) (by show ¬1 ≤ 0 % 4; decide) (by show ¬0 % 4 = 3; decide)]
    dsimp only
    rw [sout0_A_eq, pay2_blk]
    exact (upto_first _ 2048 (by decide)).symm
  | succ n ih =>
    intro hn h3
    by_cases h0 : (n + 1) % 4 = 0
    · intro f k
      rw [outsAt0_A m c ⟨n + 1, hn⟩ h0 (by show ¬1 ≤ (n + 1) % 4; omega) h3]
      dsimp only
      rw [sout0_A_eq, pay2_blk]
      show _ = upto _ (((n + 1) % 4 + 1) * 2048)
      rw [h0]
      refine Eq.trans ?_ (upto_first _ 2048 (by decide)).symm
      refine Finset.sum_congr rfl fun q _ => congrArg _ (Fin.ext ?_)
      show (n + 1) % 4 * 2048 + q.val = 0 + q.val
      omega
    · rw [outsAt0_B m c ⟨n + 1, hn⟩ h0 (by show 1 ≤ (n + 1) % 4; omega) h3]
      dsimp only
      rw [sout0_B_eq]
      exact at_step m c n hn h0 _ (ih (Nat.lt_of_succ_lt hn) (by omega))

/-- What the last time block writes out. -/
theorem out_last (t : Fin cfg0.N) (hl : t.val % 4 = 3) (f : Fin 1376) (n : Fin 1024) :
    (outsAt0 m c t.val t.isLt).1 (ix3 0 f n) = ∑ k, term (aDH m c) (aX m c) (ft (jt t) f) (cl t n) k := by
  obtain ⟨v, hv⟩ := t
  cases v with
  | zero => exact absurd hl (by show ¬0 % 4 = 3; decide)
  | succ v =>
    have h3 : (v + 1) % 4 = 3 := hl
    rw [outsAt0_C m c ⟨v + 1, hv⟩ (by show ¬(v + 1) % 4 = 0; omega) (by show 1 ≤ (v + 1) % 4; omega) hl]
    dsimp only
    rw [out0_C_eq, pay4_at]
    refine (at_step m c v hv (by omega) _ (at_all m c v (Nat.lt_of_succ_lt hv) (by omega)) f n).trans ?_
    show upto _ (((v + 1) % 4 + 1) * 2048) = _
    rw [h3]
    exact upto_all _

/-- The gradient of the weights, cut into chunks of features. -/
def F2 (DH : Arr3 1 8192 11008) (X : Arr3 1 8192 2048) : Vec Ideal S8x1376x2048 .bf16 := fun y => ∑ k, term DH X (ft (y 0) (y 1)) (y 2) k

theorem flush2 (t : Fin cfg0.N) (hf : (cfg0.win 2).flush t = true) :
    (dats m 0 c).flushed 2 t = ((cfg0.win 2).blk t).view.read (Elt Ideal) (F2 (aDH m c) (aX m c)) := by
  have hl := (flush0_2 t).mp hf
  rw [flushed2]
  have ha := out_last m c t hl
  generalize outsAt0 m c t.val t.isLt = o at ha
  funext y
  obtain ⟨y0, y1, y2, rfl⟩ : ∃ (y0 : Fin 1) (y1 : Fin 1376) (y2 : Fin 1024), y = ix3 y0 y1 y2 :=
    ⟨y 0, y 1, y 2, by funext a; match a with | ⟨0, _⟩ => rfl | ⟨1, _⟩ => rfl | ⟨2, _⟩ => rfl⟩
  show o.1 (ix3 y0 y1 y2) = F2 (aDH m c) (aX m c) (((cfg0.win 2).blk t).view.emb (ix3 y0 y1 y2))
  rw [emb2, (Subsingleton.elim _ _ : y0 = 0), ha]
  rfl

/-- The last grid point of a chunk of features and a block of columns. -/
def pt (j : Fin 8) (k : Fin 2) : Fin cfg0.N := ⟨j.val * 8 + k.val * 4 + 3, Nat.lt_of_lt_of_eq (by have := j.isLt; have := k.isLt; omega : j.val * 8 + k.val * 4 + 3 < 64) N_0.symm⟩

theorem final : (dats m 0 c).arrAt 2 cfg0.N = F2 (aDH m c) (aX m c) := by
  refine (dats m 0 c).arrAt_eq_of_cover 2 _ (fun t hf => flush2 m c t hf) fun i => ?_
  obtain ⟨y0, y1, y2, rfl⟩ : ∃ (y0 : Fin 8) (y1 : Fin 1376) (y2 : Fin 2048), i = ix3 y0 y1 y2 :=
    ⟨i 0, i 1, i 2, by funext a; match a with | ⟨0, _⟩ => rfl | ⟨1, _⟩ => rfl | ⟨2, _⟩ => rfl⟩
  have h0 := y0.isLt
  have h2 := y2.isLt
  have hk : y2.val / 1024 < 2 := by omega
  have hr : y2.val % 1024 < 1024 := by omega
  refine ⟨pt y0 ⟨y2.val / 1024, hk⟩, (flush0_2 _).mpr (by show (y0.val * 8 + y2.val / 1024 * 4 + 3) % 4 = 3; omega), ?_⟩
  have e : ((cfg0.win 2).blk (pt y0 ⟨y2.val / 1024, hk⟩)).view.emb (ix3 0 y1 ⟨y2.val % 1024, hr⟩) = ix3 y0 y1 y2 := by
    rw [emb2]
    congr 1
    · exact Fin.ext (by show (y0.val * 8 + y2.val / 1024 * 4 + 3) / 8 = y0.val; omega)
    · exact Fin.ext (by show (y0.val * 8 + y2.val / 1024 * 4 + 3) / 4 % 2 * 1024 + y2.val % 1024 = y2.val; omega)
  rw [← e]
  exact View.emb_mem_set _ _

end Cert.Kernel4Ideal.Dw

namespace Cert.Reference4Ideal.Dw

open Cert.Reference4Ideal Cert.Reference4Ideal.Gen Cert.Reference4Ideal.Read Idealize.ShloMosaic Idealize.ShloMosaic.TcCoe Idealize.ShloMosaic.Tactic Cert.Spec

theorem v1_at (X : Arr3 1 8192 2048) (DH : Arr3 1 8192 11008) (p : Fin 11008) (n : Fin 2048) :
    val_main_v1 (F := Ideal) X DH (ix2 p n) = ∑ k : Fin 8192, DH (ix3 0 k p) * X (ix3 0 k n) := by
  unfold val_main_v1
  pointwise
  exact Fin.sum_univ_one _

theorem v5_eq (X : Arr3 1 8192 2048) (DH : Arr3 1 8192 11008) : val_main_v5 (F := Ideal) X DH = Cert.Kernel4Ideal.Dw.F2 DH X := by
  funext y
  obtain ⟨j, f, n, rfl⟩ : ∃ (j : Fin 8) (f : Fin 1376) (n : Fin 2048), y = ix3 j f n :=
    ⟨y 0, y 1, y 2, by funext a; match a with | ⟨0, _⟩ => rfl | ⟨1, _⟩ => rfl | ⟨2, _⟩ => rfl⟩
  show val_main_v4 (F := Ideal) X DH (ix3 j f n) = ∑ k, Cert.Kernel4Ideal.Dw.term DH X (Cert.Kernel4Ideal.Dw.ft j f) n k
  rw [val_main_v4_apply, val_main_v3_apply, val_main_v2_apply]
  have hf := f.isLt
  have hn := n.isLt
  have hi : idx_main_v2 (idx_main_v3 (idx_main_v4 (ix3 j f n))) = ix2 (Cert.Kernel4Ideal.Dw.ft j f) n := by
    funext a; apply Fin.ext
    match a with
    | ⟨0, _⟩ => exact (show ((j.val * 1376 + f.val) * 2048 + n.val) / 2048 = j.val * 1376 + f.val by omega)
    | ⟨1, _⟩ => exact (show ((j.val * 1376 + f.val) * 2048 + n.val) % 2048 = n.val by omega)
  rw [hi, v1_at]
  rfl

end Cert.Reference4Ideal.Dw

end
-- ==== Proof.UpDx.lean ====
module

public import proofs.«01_k».proof.Proof.Sums
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

namespace Cert.Kernel5Ideal.Up

open Cert.Kernel5Ideal Cert.Kernel5Ideal.Gen Cert.Kernel5Ideal.Value Idealize.ShloMosaic Idealize.ShloMosaic.TcCoe Idealize.SL.Sem Idealize.ShloMosaic.Tactic Cert.Spec Cert.Sums

theorem lt64 (t : Fin cfg0.N) : t.val < 64 := Nat.lt_of_lt_of_eq t.isLt N_0

/-- The chunk of features at a grid point. -/
def jt (t : Fin cfg0.N) : Fin 8 := ⟨t.val % 8, Nat.mod_lt _ (by decide)⟩

/-- Row `r` of the block of rows at a grid point. -/
def row (t : Fin cfg0.N) (r : Fin 1024) : Fin 8192 := ⟨t.val / 8 * 1024 + r.val, by have := lt64 t; have := r.isLt; omega⟩

/-- Feature `f` of chunk `j`. -/
def ft (j : Fin 8) (f : Fin 1376) : Fin 11008 := ⟨j.val * 1376 + f.val, by have := j.isLt; have := f.isLt; omega⟩

theorem widx0 : ∀ t : Fin cfg0.N, win0_0.index t (0 : Fin 3) = t.val % 8 ∧ win0_0.index t (1 : Fin 3) = t.val / 8 ∧ win0_0.index t (2 : Fin 3) = 0 :=
  (by decide +kernel : ∀ t : Fin grid0.N, _)
theorem widx1 : ∀ t : Fin cfg0.N, win0_1.index t (0 : Fin 3) = t.val % 8 ∧ win0_1.index t (1 : Fin 3) = 0 ∧ win0_1.index t (2 : Fin 3) = 0 :=
  (by decide +kernel : ∀ t : Fin grid0.N, _)
theorem widx2 : ∀ t : Fin cfg0.N, win0_2.index t (0 : Fin 2) = t.val / 8 ∧ win0_2.index t (1 : Fin 2) = 0 :=
  (by decide +kernel : ∀ t : Fin grid0.N, _)

theorem emb0 (t : Fin cfg0.N) (a0 : Fin 1) (a1 : Fin 1024) (a2 : Fin 1376) : ((cfg0.win 0).blk t).view.emb (ix3 a0 a1 a2) = ix3 (jt t) (row t a1) a2 := by
  obtain ⟨e0, e1, e2⟩ := widx0 t
  funext a; apply Fin.ext
  match a with
  | ⟨0, _⟩ => show win0_0.index t (0 : Fin 3) * 1 + 1 * a0.val = (jt t).val; rw [e0]; simp [jt]
  | ⟨1, _⟩ => show win0_0.index t (1 : Fin 3) * 1024 + 1 * a1.val = (row t a1).val; rw [e1]; simp [row]
  | ⟨2, _⟩ => show win0_0.index t (2 : Fin 3) * 1376 + 1 * a2.val = a2.val; rw [e2]; simp

theorem emb1 (t : Fin cfg0.N) (a0 : Fin 1) (a1 : Fin 1376) (a2 : Fin 2048) : ((cfg0.win 1).blk t).view.emb (ix3 a0 a1 a2) = ix3 (jt t) a1 a2 := by
  obtain ⟨e0, e1, e2⟩ := widx1 t
  funext a; apply Fin.ext
  match a with
  | ⟨0, _⟩ => show win0_1.index t (0 : Fin 3) * 1 + 1 * a0.val = (jt t).val; rw [e0]; simp [jt]
  | ⟨1, _⟩ => show win0_1.index t (1 : Fin 3) * 1376 + 1 * a1.val = a1.val; rw [e1]; simp
  | ⟨2, _⟩ => show win0_1.index t (2 : Fin 3) * 2048 + 1 * a2.val = a2.val; rw [e2]; simp

theorem emb2 (t : Fin cfg0.N) (a0 : Fin 1024) (a1 : Fin 2048) : ((cfg0.win 2).blk t).view.emb (ix2 a0 a1) = ix2 (row t a0) a1 := by
  obtain ⟨e0, e1⟩ := widx2 t
  funext a; apply Fin.ext
  match a with
  | ⟨0, _⟩ => show win0_2.index t (0 : Fin 2) * 1024 + 1 * a0.val = (row t a0).val; rw [e0]; simp [row]
  | ⟨1, _⟩ => show win0_2.index t (1 : Fin 2) * 2048 + 1 * a1.val = a1.val; rw [e1]; simp

variable (m : (ℓ : Loc nD τ sig) → Buf (Elt Ideal) ℓ) (c : Dev nD)

/-- The up projection's weights. -/
abbrev aWU : Arr2 2048 11008 := m ((c : Thread nD τ).loc main_arg1)
/-- The gradient at the up projection's output. -/
abbrev aDH : Arr3 1 8192 11008 := m ((c : Thread nD τ).loc main_arg2)

theorem V3 (j : Fin 8) (s : Fin 8192) (f : Fin 1376) : V m c main_v3 (ix3 j s f) = aDH m c (ix3 0 s (ft j f)) := by
  after_reads_at
  rfl

theorem V6 (j : Fin 8) (f : Fin 1376) (n : Fin 2048) : V m c main_v6 (ix3 j f n) = aWU m c (ix2 n (ft j f)) := by
  after_reads_at
  rfl

theorem rd0 (W : (b : Ref sig .tc) → Buf (Elt Ideal) ((c : Thread nD τ).loc b)) (t : Fin cfg0.N) (r : Fin 1024) (f : Fin 1376) :
    ((cfg0.win 0).blk t).view.read (Elt Ideal) (W (Pipeline.arrRef spec0 0)) (ix3 0 r f) = W main_v3 (ix3 (jt t) (row t r) f) := by
  show W main_v3 (((cfg0.win 0).blk t).view.emb (ix3 0 r f)) = _
  rw [emb0]

theorem rd1 (W : (b : Ref sig .tc) → Buf (Elt Ideal) ((c : Thread nD τ).loc b)) (t : Fin cfg0.N) (f : Fin 1376) (n : Fin 2048) :
    ((cfg0.win 1).blk t).view.read (Elt Ideal) (W (Pipeline.arrRef spec0 1)) (ix3 0 f n) = W main_v6 (ix3 (jt t) f n) := by
  show W main_v6 (((cfg0.win 1).blk t).view.emb (ix3 0 f n)) = _
  rw [emb1]

theorem iblk0 (t : Fin cfg0.N) (r : Fin 1024) (f : Fin 1376) : iblk m c 0 t (ix3 0 r f) = aDH m c (ix3 0 (row t r) (ft (jt t) f)) := by
  unfold iblk
  exact (rd0 c (V m c) t r f).trans (V3 m c _ _ _)

theorem iblk1 (t : Fin cfg0.N) (f : Fin 1376) (n : Fin 2048) : iblk m c 1 t (ix3 0 f n) = aWU m c (ix2 n (ft (jt t) f)) := by
  unfold iblk
  exact (rd1 c (V m c) t f n).trans (V6 m c _ _ _)

section Point

theorem pay1_at (v0 : Vec Ideal S1x1024x1376 .bf16) (v2 : Vec Ideal S1x1376x2048 .bf16) (r : Fin 1024) (n : Fin 2048) :
    k0_pay1 v0 v2 (ix2 r n) = ∑ k : Fin 1376, v0 (ix3 0 r k) * v2 (ix3 0 k n) := by
  unfold_payloads; pointwise

theorem pay2_at (v0 : Vec Ideal S1x1024x1376 .bf16) (v2 : Vec Ideal S1x1376x2048 .bf16) (v11 : Vec Ideal S1024x2048 .f32) (r : Fin 1024) (n : Fin 2048) :
    k0_pay2 v0 v2 v11 (ix2 r n) = v11 (ix2 r n) + ∑ k : Fin 1376, v0 (ix3 0 r k) * v2 (ix3 0 k n) := by
  unfold_payloads; pointwise

variable (i : grid0.Coords)
  (arg2 : Memref sig .tc .vmem S1x1024x1376 .bf16) (harg2 : arg2.IsWhole)
  (arg3 : Memref sig .tc .vmem S1x1376x2048 .bf16) (harg3 : arg3.IsWhole)
  (arg4 : Memref sig .tc .vmem S1024x2048 .f32) (harg4 : arg4.IsWhole)
  (x0 : Vec Ideal S1x1024x1376 .bf16) (x1 : Vec Ideal S1x1376x2048 .bf16) (xo : Vec Ideal S1024x2048 .f32)

/-- The first point of a block of rows leaves its product. -/
theorem out0_A_eq (hc0 : cond0_0 i) (hc1 : ¬cond0_1 i) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A; dsimp only; sl_unfold_words
  simp only [View.readAt_eq_ld, harg2.read_unread, harg3.read_unread, harg4.read_unread]
  rw [View.canon_unit_zero hz2, View.ld_unit_zero hz3, View.ld_unit_zero hz3]

/-- A later point of a block of rows adds its product. -/
theorem out0_B_eq (hc0 : ¬cond0_0 i) (hc1 : cond0_1 i) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B; dsimp only; sl_unfold_words
  simp only [View.readAt_eq_ld, harg2.read_unread, harg3.read_unread, harg4.read_unread]
  rw [View.canon_unit_zero hz2, View.ld_unit_zero hz3, View.ld_unit_zero hz3, View.ld_unit_zero hz2]

end Point

/-- A row's product with the weights, feature by feature. -/
def term (DH : Arr3 1 8192 11008) (WU : Arr2 2048 11008) (s : Fin 8192) (n : Fin 2048) (k : Fin 11008) : EReal := DH (ix3 0 s k) * WU (ix2 n k)

/-- The product of a grid point's blocks. -/
theorem pay1_blk (t : Fin cfg0.N) (r : Fin 1024) (n : Fin 2048) :
    k0_pay1 (iblk m c 0 t) (iblk m c 1 t) (ix2 r n) = ∑ k : Fin 1376, term (aDH m c) (aWU m c) (row t r) n (ft (jt t) k) := by
  refine (pay1_at _ _ r n).trans (Finset.sum_congr rfl fun k _ => ?_)
  exact congrArg₂ (· * ·) (iblk0 m c t r k) (iblk1 m c t k n)

/-- The product of a grid point's blocks, added to what was there. -/
theorem pay2_blk (t : Fin cfg0.N) (o : Vec Ideal S1024x2048 .f32) (r : Fin 1024) (n : Fin 2048) :
    k0_pay2 (iblk m c 0 t) (iblk m c 1 t) o (ix2 r n) = o (ix2 r n) + ∑ k : Fin 1376, term (aDH m c) (aWU m c) (row t r) n (ft (jt t) k) := by
  refine (pay2_at _ _ _ r n).trans (congrArg _ (Finset.sum_congr rfl fun k _ => ?_))
  exact congrArg₂ (· * ·) (iblk0 m c t r k) (iblk1 m c t k n)

/-- After a grid point the output's block holds the products over the chunks visited so far. -/
def At (t : Fin cfg0.N) (o : Vec Ideal S1024x2048 .f32) : Prop := ∀ (r : Fin 1024) (n : Fin 2048),
  o (ix2 r n) = upto (term (aDH m c) (aWU m c) (row t r) n) ((t.val % 8 + 1) * 1376)

theorem at_all : ∀ (n : ℕ) (hn : n < cfg0.N), At m c ⟨n, hn⟩ (outsAt0 m c n hn) := by
  intro n
  induction n with
  | zero =>
    intro hn r k
    rw [outsAt0_A m c ⟨0, hn⟩ (Nat.zero_mod 8) (by show ¬1 ≤ 0 % 8; decide), out0_A_eq, pay1_blk]
    exact (upto_first _ 1376 (by decide)).symm
  | succ n ih =>
    intro hn r k
    have hN : n + 1 < 64 := Nat.lt_of_lt_of_eq hn N_0
    by_cases h0 : (n + 1) % 8 = 0
    · rw [outsAt0_A m c ⟨n + 1, hn⟩ h0 (by show ¬1 ≤ (n + 1) % 8; omega), out0_A_eq, pay1_blk]
      have hj : jt ⟨n + 1, hn⟩ = 0 := Fin.ext h0
      show _ = upto _ (((n + 1) % 8 + 1) * 1376)
      rw [h0, hj]
      exact (upto_first _ 1376 (by decide)).symm
    · rw [outsAt0_B m c ⟨n + 1, hn⟩ h0 (by show 1 ≤ (n + 1) % 8; omega), out0_B_eq, pay2_blk]
      have hr : row ⟨n, Nat.lt_of_succ_lt hn⟩ r = row ⟨n + 1, hn⟩ r := Fin.ext (by show n / 8 * 1024 + r.val = (n + 1) / 8 * 1024 + r.val; omega)
      have hi := ih (Nat.lt_of_succ_lt hn) r k
      rw [hr] at hi
      refine (congrArg (· + _) hi).trans ?_
      have hs : ((n + 1) % 8 + 1) * 1376 = (n % 8 + 1) * 1376 + 1376 := by omega
      show _ = upto _ (((n + 1) % 8 + 1) * 1376)
      rw [hs, upto_add _ _ _ (by omega)]
      congr 1
      refine Finset.sum_congr rfl fun q _ => congrArg _ (Fin.ext ?_)
      show (n + 1) % 8 * 1376 + q.val = (n % 8 + 1) * 1376 + q.val
      omega

/-- The gradient at the layer's input. -/
def F2 (DH : Arr3 1 8192 11008) (WU : Arr2 2048 11008) : Vec Ideal S8192x2048 .f32 := fun y => ∑ k, term DH WU (y 0) (y 1) k

theorem flush2 (t : Fin cfg0.N) (hf : (cfg0.win 2).flush t = true) :
    (dats m 0 c).flushed 2 t = ((cfg0.win 2).blk t).view.read (Elt Ideal) (F2 (aDH m c) (aWU m c)) := by
  have hl := (flush0_2 t).mp hf
  rw [flushed2]
  have ha : At m c t (outsAt0 m c t.val t.isLt) := at_all m c t.val t.isLt
  unfold At at ha
  rw [hl] at ha
  generalize outsAt0 m c t.val t.isLt = o at ha
  funext y
  obtain ⟨y0, y1, rfl⟩ : ∃ (y0 : Fin 1024) (y1 : Fin 2048), y = ix2 y0 y1 :=
    ⟨y 0, y 1, by funext a; match a with | ⟨0, _⟩ => rfl | ⟨1, _⟩ => rfl⟩
  show o (ix2 y0 y1) = F2 (aDH m c) (aWU m c) (((cfg0.win 2).blk t).view.emb (ix2 y0 y1))
  rw [emb2, ha]
  exact upto_all _

/-- The last grid point of a block of rows. -/
def pt (k : Fin 8) : Fin cfg0.N := ⟨k.val * 8 + 7, Nat.lt_of_lt_of_eq (by have := k.isLt; omega : k.val * 8 + 7 < 64) N_0.symm⟩

theorem final2 : (dats m 0 c).arrAt 2 cfg0.N = F2 (aDH m c) (aWU m c) := by
  refine (dats m 0 c).arrAt_eq_of_cover 2 _ (fun t hf => flush2 m c t hf) fun i => ?_
  obtain ⟨y0, y1, rfl⟩ : ∃ (y0 : Fin 8192) (y1 : Fin 2048), i = ix2 y0 y1 :=
    ⟨i 0, i 1, by funext a; match a with | ⟨0, _⟩ => rfl | ⟨1, _⟩ => rfl⟩
  have h0 := y0.isLt
  have hk : y0.val / 1024 < 8 := by omega
  have hr : y0.val % 1024 < 1024 := by omega
  refine ⟨pt ⟨y0.val / 1024, hk⟩, (flush0_2 _).mpr (by show (y0.val / 1024 * 8 + 7) % 8 = 7; omega), ?_⟩
  have e : ((cfg0.win 2).blk (pt ⟨y0.val / 1024, hk⟩)).view.emb (ix2 ⟨y0.val % 1024, hr⟩ y1) = ix2 y0 y1 := by
    rw [emb2]
    congr 1
    exact Fin.ext (by show (y0.val / 1024 * 8 + 7) / 8 * 1024 + y0.val % 1024 = y0.val; omega)
  rw [← e]
  exact View.emb_mem_set _ _

end Cert.Kernel5Ideal.Up

namespace Cert.Reference5Ideal.Up

open Cert.Reference5Ideal Cert.Reference5Ideal.Gen Cert.Reference5Ideal.Read Idealize.ShloMosaic Idealize.ShloMosaic.TcCoe Cert.Spec

theorem v2_eq (WU : Arr2 2048 11008) (DH : Arr3 1 8192 11008) : val_main_v2 (F := Ideal) WU DH = Cert.Kernel5Ideal.Up.F2 DH WU := by
  funext y
  obtain ⟨s, n, rfl⟩ : ∃ (s : Fin 8192) (n : Fin 2048), y = ix2 s n :=
    ⟨y 0, y 1, by funext a; match a with | ⟨0, _⟩ => rfl | ⟨1, _⟩ => rfl⟩
  rw [val_main_v2_apply, val_main_v1_apply]
  refine Finset.sum_congr rfl fun k _ => ?_
  have hs := s.isLt
  have hn := n.isLt
  have hl : lidx_main_v1 (idx_main_v2 (ix2 s n)) k = ix3 0 s k := by
    funext a; apply Fin.ext; match a with | ⟨0, _⟩ => rfl | ⟨1, _⟩ => exact (show (s.val * 2048 + n.val) / 2048 % 8192 = s.val by omega) | ⟨2, _⟩ => rfl
  have hr : ridx_main_v1 (idx_main_v2 (ix2 s n)) k = ix2 n k := by
    funext a; apply Fin.ext; match a with | ⟨0, _⟩ => exact (show (s.val * 2048 + n.val) % 2048 = n.val by omega) | ⟨1, _⟩ => rfl
  rw [hl, hr]
  rfl

end Cert.Reference5Ideal.Up

end
-- ==== Proof.Others.lean ====
module

public import proofs.«01_k».proof.Defs
public import proofs.«01_k».proof.Proof.GateFwd
public import proofs.«01_k».proof.Proof.DownFwd
public import proofs.«01_k».proof.Proof.DownDw
public import proofs.«01_k».proof.Proof.UpDw
public import proofs.«01_k».proof.Proof.UpDx
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame

@[expose] public section

set_option maxRecDepth 16384

noncomputable section

namespace Cert.Others

open Idealize.ShloMosaic Idealize.ShloMosaic.TcCoe Idealize.SL.Sem Cert.Spec

/-! The forward calls of the feed-forward layer, and the products of its backward pass: each runs, keeps its arguments, and ends as its reference does. -/

/-- The kernel of the gated up projection, over floating-point words. -/
theorem frame_k2 : Cert.quiescent_Kernel2 (hKernel2 := Cert.Kernel2.Gen.facts) := fun m ρ _ => Cert.Kernel2.Gen.frame m ρ

/-- The kernel of the gated up projection, at the extended reals. -/
theorem frame_i2 : Cert.quiescent_Kernel2Ideal (hKernel2Ideal := Cert.Kernel2Ideal.Gen.facts) := fun m ρ _ => Cert.Kernel2Ideal.Gen.frame m ρ

/-- The reference of the gated up projection, at the extended reals. -/
theorem frame_r2 : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The kernel of the gradient of the down projection's weights, over floating-point words. -/
theorem frame_k3 : Cert.quiescent_Kernel3 (hKernel3 := Cert.Kernel3.Gen.facts) := fun m ρ _ => Cert.Kernel3.Gen.frame m ρ

/-- The kernel of the gradient of the down projection's weights, at the extended reals. -/
theorem frame_i3 : Cert.quiescent_Kernel3Ideal (hKernel3Ideal := Cert.Kernel3Ideal.Gen.facts) := fun m ρ _ => Cert.Kernel3Ideal.Gen.frame m ρ

/-- The reference of the gradient of the down projection's weights, at the extended reals. -/
theorem frame_r3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel of the gradient of the up projection's weights, over floating-point words. -/
theorem frame_k4 : Cert.quiescent_Kernel4 (hKernel4 := Cert.Kernel4.Gen.facts) := fun m ρ _ => Cert.Kernel4.Gen.frame m ρ

/-- The kernel of the gradient of the up projection's weights, at the extended reals. -/
theorem frame_i4 : Cert.quiescent_Kernel4Ideal (hKernel4Ideal := Cert.Kernel4Ideal.Gen.facts) := fun m ρ _ => Cert.Kernel4Ideal.Gen.frame m ρ

/-- The reference of the gradient of the up projection's weights, at the extended reals. -/
theorem frame_r4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel of the gradient of the layer's input, over floating-point words. -/
theorem frame_k5 : Cert.quiescent_Kernel5 (hKernel5 := Cert.Kernel5.Gen.facts) := fun m ρ _ => Cert.Kernel5.Gen.frame m ρ

/-- The kernel of the gradient of the layer's input, at the extended reals. -/
theorem frame_i5 : Cert.quiescent_Kernel5Ideal (hKernel5Ideal := Cert.Kernel5Ideal.Gen.facts) := fun m ρ _ => Cert.Kernel5Ideal.Gen.frame m ρ

/-- The reference of the gradient of the layer's input, at the extended reals. -/
theorem frame_r5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel of the down projection, over floating-point words. -/
theorem frame_k6 : Cert.quiescent_Kernel6 (hKernel6 := Cert.Kernel6.Gen.facts) := fun m ρ _ => Cert.Kernel6.Gen.frame m ρ

/-- The kernel of the down projection, at the extended reals. -/
theorem frame_i6 : Cert.quiescent_Kernel6Ideal (hKernel6Ideal := Cert.Kernel6Ideal.Gen.facts) := fun m ρ _ => Cert.Kernel6Ideal.Gen.frame m ρ

/-- The reference of the down projection, at the extended reals. -/
theorem frame_r6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

section
open Cert.Kernel3Ideal.Dw

/-- The kernel and the reference of the gradient of the down projection's weights end with the same result. -/
theorem value3 : Cert.algebraic_Kernel3Ideal_Reference3Ideal (hKernel3Ideal := Cert.Kernel3Ideal.Gen.facts) (hReference3Ideal := Cert.Reference3Ideal.Gen.facts) := by
  intro m ρ m' ρ' _ ha
  refine ⟨fun c => F2 (aA m c) (aCT m c), ?_, ?_⟩
  · refine (θ_run Cert.Kernel3Ideal.defs _ _).mono (fun r h c => ?_) (Cert.Kernel3Ideal.Value.run_blocks (F := Ideal) m ρ)
    exact ⟨(h c).1.trans (final m c), (h c).2⟩
  · refine (θ_run Cert.Reference3Ideal.defs _ _).mono (fun r h c => ?_) (Cert.Reference3Ideal.Value.run (F := Ideal) m' ρ')
    obtain ⟨e0, e1, e2⟩ := ha c
    refine ⟨(h c).1.trans ?_, (h c).2⟩
    rw [e0, e2]
    exact (Cert.Reference3Ideal.Read.val_main_v4_eq (F := Ideal) _ _).trans (Cert.Reference3Ideal.Dw.v4_eq _ _)

end

section
open Cert.Kernel4Ideal.Dw

/-- The kernel and the reference of the gradient of the up projection's weights end with the same result. -/
theorem value4 : Cert.algebraic_Kernel4Ideal_Reference4Ideal (hKernel4Ideal := Cert.Kernel4Ideal.Gen.facts) (hReference4Ideal := Cert.Reference4Ideal.Gen.facts) := by
  intro m ρ m' ρ' _ ha
  refine ⟨fun c => F2 (aDH m c) (aX m c), ?_, ?_⟩
  · refine (θ_run Cert.Kernel4Ideal.defs _ _).mono (fun r h c => ?_) (Cert.Kernel4Ideal.Value.run_blocks (F := Ideal) m ρ)
    exact ⟨(h c).1.trans (final m c), (h c).2⟩
  · refine (θ_run Cert.Reference4Ideal.defs _ _).mono (fun r h c => ?_) (Cert.Reference4Ideal.Value.run (F := Ideal) m' ρ')
    obtain ⟨e0, e1, e2⟩ := ha c
    refine ⟨(h c).1.trans ?_, (h c).2⟩
    rw [e0, e2]
    exact (Cert.Reference4Ideal.Read.val_main_v5_eq (F := Ideal) _ _).trans (Cert.Reference4Ideal.Dw.v5_eq _ _)

end

section
open Cert.Kernel5Ideal.Up

/-- The kernel and the reference of the gradient of the layer's input end with the same result. -/
theorem value5 : Cert.algebraic_Kernel5Ideal_Reference5Ideal (hKernel5Ideal := Cert.Kernel5Ideal.Gen.facts) (hReference5Ideal := Cert.Reference5Ideal.Gen.facts) := by
  intro m ρ m' ρ' _ ha
  refine ⟨fun c => F2 (aDH m c) (aWU m c), ?_, ?_⟩
  · refine (θ_run Cert.Kernel5Ideal.defs _ _).mono (fun r h c => ?_) (Cert.Kernel5Ideal.Value.run_blocks (F := Ideal) m ρ)
    exact ⟨(h c).1.trans (final2 m c), (h c).2⟩
  · refine (θ_run Cert.Reference5Ideal.defs _ _).mono (fun r h c => ?_) (Cert.Reference5Ideal.Value.run (F := Ideal) m' ρ')
    obtain ⟨e0, e1, e2⟩ := ha c
    refine ⟨(h c).1.trans ?_, (h c).2⟩
    rw [e1, e2]
    exact (Cert.Reference5Ideal.Read.val_main_v2_eq (F := Ideal) _ _).trans (Cert.Reference5Ideal.Up.v2_eq _ _)

end

section
open Cert.Kernel6Ideal.Down

/-- The kernel and the reference of the down projection end with the same result. -/
theorem value6 : Cert.algebraic_Kernel6Ideal_Reference6Ideal (hKernel6Ideal := Cert.Kernel6Ideal.Gen.facts) (hReference6Ideal := Cert.Reference6Ideal.Gen.facts) := by
  intro m ρ m' ρ' _ ha
  refine ⟨fun c => F2 (aA m c) (aWD m c), ?_, ?_⟩
  · refine (θ_run Cert.Kernel6Ideal.defs _ _).mono (fun r h c => ?_) (Cert.Kernel6Ideal.Value.run_blocks (F := Ideal) m ρ)
    exact ⟨(h c).1.trans (final2 m c), (h c).2⟩
  · refine (θ_run Cert.Reference6Ideal.defs _ _).mono (fun r h c => ?_) (Cert.Reference6Ideal.Value.run (F := Ideal) m' ρ')
    obtain ⟨e0, e1⟩ := ha c
    refine ⟨(h c).1.trans ?_, (h c).2⟩
    rw [e0, e1]
    exact (Cert.Reference6Ideal.Read.val_main_v1_eq (F := Ideal) _ _).trans (Cert.Reference6Ideal.Down.v1_eq _ _)

end

section
open Cert.Kernel2Ideal.Gate

/-- The kernel and the reference of the gated up projection end with the same three results. -/
theorem value2 : Cert.algebraic_Kernel2Ideal_Reference2Ideal (hKernel2Ideal := Cert.Kernel2Ideal.Gen.facts) (hReference2Ideal := Cert.Reference2Ideal.Gen.facts) := by
  intro m ρ m' ρ' _ ha
  refine ⟨fun c => F4 (aX m c) (aWU m c), fun c => F5 (aX m c) (aWU m c) (aCW m c) (aCB m c), fun c => F6 (aX m c) (aWU m c) (aCW m c) (aCB m c), ?_, ?_⟩
  · refine (θ_run Cert.Kernel2Ideal.defs _ _).mono (fun r h c => ?_) (Cert.Kernel2Ideal.Value.run_blocks (F := Ideal) m ρ)
    exact ⟨(h c).1.trans (final4 m c), (h c).2.1.trans (final5 m c), (h c).2.2.1.trans (final6 m c), (h c).2.2.2⟩
  · refine (θ_run Cert.Reference2Ideal.defs _ _).mono (fun r h c => ?_) (Cert.Reference2Ideal.Value.run (F := Ideal) m' ρ')
    obtain ⟨e0, e1, e2, e3⟩ := ha c
    refine ⟨(h c).1.trans ?_, (h c).2.1.trans ?_, (h c).2.2.1.trans ?_, (h c).2.2.2⟩
    · rw [e0, e1]
      exact (Cert.Reference2Ideal.Read.val_main_v30_eq (F := Ideal) _ _).trans (Cert.Reference2Ideal.Gate.v30_eq _ _)
    · rw [e0, e1, e2, e3]
      exact (Cert.Reference2Ideal.Read.val_main_v32_eq (F := Ideal) _ _ _ _).trans (Cert.Reference2Ideal.Gate.v32_eq _ _ _ _)
    · refine (Cert.Reference2Ideal.Read.val_main_v35_eq (F := Ideal) m' c).trans ?_
      rw [e0, e1, e2, e3]
      exact Cert.Reference2Ideal.Gate.v35_eq _ _ _ _

end

end Cert.Others

end
-- ==== Proof.QkvFwd.lean ====
module

public import proofs.«01_k».proof.Proof.Sums
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace Cert.Kernel7Ideal.Qkv

open Cert.Kernel7Ideal Cert.Kernel7Ideal.Gen Cert.Kernel7Ideal.Value Idealize.ShloMosaic Idealize.ShloMosaic.TcCoe Idealize.SL.Sem Idealize.ShloMosaic.Tactic Cert.Spec Cert.Sums

theorem lt128 (t : Fin cfg0.N) : t.val < 128 := Nat.lt_of_lt_of_eq t.isLt N_0

/-- The chunk of features at a grid point. -/
def jt (t : Fin cfg0.N) : Fin 8 := ⟨t.val / 16, by have := lt128 t; omega⟩

/-- Row `r` of the block of rows at a grid point. -/
def row (t : Fin cfg0.N) (r : Fin 512) : Fin 8192 := ⟨t.val % 16 * 512 + r.val, by have := r.isLt; omega⟩

/-- Feature `f` of chunk `j`. -/
def ft (j : Fin 8) (f : Fin 768) : Fin 6144 := ⟨j.val * 768 + f.val, by have := j.isLt; have := f.isLt; omega⟩

theorem widx0 : ∀ t : Fin cfg0.N, win0_0.index t (0 : Fin 2) = t.val % 16 ∧ win0_0.index t (1 : Fin 2) = 0 :=
  (by decide +kernel : ∀ t : Fin grid0.N, _)
theorem widx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
theorem widx2 : ∀ t : Fin cfg0.N, win0_2.index t (0 : Fin 2) = t.val % 16 ∧ win0_2.index t (1 : Fin 2) = t.val / 16 :=
  (by decide +kernel : ∀ t : Fin grid0.N, _)

theorem emb0 (t : Fin cfg0.N) (a0 : Fin 512) (a1 : Fin 2048) : ((cfg0.win 0).blk t).view.emb (ix2 a0 a1) = ix2 (row t a0) a1 := by
  obtain ⟨e0, e1⟩ := widx0 t
  funext a; apply Fin.ext
  match a with
  | ⟨0, _⟩ => show win0_0.index t (0 : Fin 2) * 512 + 1 * a0.val = (row t a0).val; rw [e0]; simp [row]
  | ⟨1, _⟩ => show win0_0.index t (1 : Fin 2) * 2048 + 1 * a1.val = a1.val; rw [e1]; simp

theorem emb1 (t : Fin cfg0.N) (a0 : Fin 1) (a1 : Fin 2048) (a2 : Fin 768) : ((cfg0.win 1).blk t).view.emb (ix3 a0 a1 a2) = ix3 (jt t) a1 a2 := by
  obtain ⟨e0, e1, e2⟩ := widx1 t
  funext a; apply Fin.ext
  match a with
  | ⟨0, _⟩ => show win0_1.index t (0 : Fin 3) * 1 + 1 * a0.val = (jt t).val; rw [e0]; simp [jt]
  | ⟨1, _⟩ => show win0_1.index t (1 : Fin 3) * 2048 + 1 * a1.val = a1.val; rw [e1]; simp
  | ⟨2, _⟩ => show win0_1.index t (2 : Fin 3) * 768 + 1 * a2.val = a2.val; rw [e2]; simp

theorem emb2 (t : Fin cfg0.N) (a0 : Fin 512) (a1 : Fin 768) : ((cfg0.win 2).blk t).view.emb (ix2 a0 a1) = ix2 (row t a0) (ft (jt t) a1) := by
  obtain ⟨e0, e1⟩ := widx2 t
  funext a; apply Fin.ext
  match a with
  | ⟨0, _⟩ => show win0_2.index t (0 : Fin 2) * 512 + 1 * a0.val = (row t a0).val; rw [e0]; simp [row]
  | ⟨1, _⟩ => show win0_2.index t (1 : Fin 2) * 768 + 1 * a1.val = (ft (jt t) a1).val; rw [e1]; simp [ft, jt]

variable (m : (ℓ : Loc nD τ sig) → Buf (Elt Ideal) ℓ) (c : Dev nD)

/-- The layer's input. -/
abbrev aX : Arr3 1 8192 2048 := m ((c : Thread nD τ).loc main_arg0)
/-- The projection's weights. -/
abbrev aW : Arr2 2048 6144 := m ((c : Thread nD τ).loc main_arg1)

theorem V1 (s : Fin 8192) (k : Fin 2048) : V m c main_v1 (ix2 s k) = aX m c (ix3 0 s k) := by
  after_reads_at

theorem V4 (j : Fin 8) (k : Fin 2048) (f : Fin 768) : V m c main_v4 (ix3 j k f) = aW m c (ix2 k (ft j f)) := by
  after_reads_at
  rfl

theorem rd0 (W : (b : Ref sig .tc) → Buf (Elt Ideal) ((c : Thread nD τ).loc b)) (t : Fin cfg0.N) (r : Fin 512) (k : Fin 2048) :
    ((cfg0.win 0).blk t).view.read (Elt Ideal) (W (Pipeline.arrRef spec0 0)) (ix2 r k) = W main_v1 (ix2 (row t r) k) := by
  show W main_v1 (((cfg0.win 0).blk t).view.emb (ix2 r k)) = _
  rw [emb0]

theorem rd1 (W : (b : Ref sig .tc) → Buf (Elt Ideal) ((c : Thread nD τ).loc b)) (t : Fin cfg0.N) (k : Fin 2048) (f : Fin 768) :
    ((cfg0.win 1).blk t).view.read (Elt Ideal) (W (Pipeline.arrRef spec0 1)) (ix3 0 k f) = W main_v4 (ix3 (jt t) k f) := by
  show W main_v4 (((cfg0.win 1).blk t).view.emb (ix3 0 k f)) = _
  rw [emb1]

theorem iblk0 (t : Fin cfg0.N) (r : Fin 512) (k : Fin 2048) : iblk m c 0 t (ix2 r k) = aX m c (ix3 0 (row t r) k) := by
  unfold iblk
  exact (rd0 c (V m c) t r k).trans (V1 m c _ _)

theorem iblk1 (t : Fin cfg0.N) (k : Fin 2048) (f : Fin 768) : iblk m c 1 t (ix3 0 k f) = aW m c (ix2 k (ft (jt t) f)) := by
  unfold iblk
  exact (rd1 c (V m c) t k f).trans (V4 m c _ _ _)

theorem pay1_at (v0 : Vec Ideal S512x2048 .bf16) (v2 : Vec Ideal S1x2048x768 .bf16) (r : Fin 512) (f : Fin 768) :
    k0_pay1 v0 v2 (ix2 r f) = ∑ k : Fin 2048, v0 (ix2 r k) * v2 (ix3 0 k f) := by
  unfold_payloads; pointwise

theorem out0_eq (x0 : Vec Ideal S512x2048 .bf16) (x1 : Vec Ideal S1x2048x768 .bf16) : out0_2 x0 x1 = k0_pay1 x0 x1 := by
  unfold out0_2
  rw [View.canon_unit_zero hz2, View.ld_unit_zero hz2, View.ld_unit_zero hz3]

/-- The projection. -/
def F2 (X : Arr3 1 8192 2048) (W : Arr2 2048 6144) : Vec Ideal S8192x6144 .bf16 := fun y => ∑ k, X (ix3 0 (y 0) k) * W (ix2 k (y 1))

theorem flush2 (t : Fin cfg0.N) : (dats m 0 c).flushed 2 t = ((cfg0.win 2).blk t).view.read (Elt Ideal) (F2 (aX m c) (aW m c)) := by
  rw [flushed2, out0_eq]
  funext y
  obtain ⟨y0, y1, rfl⟩ : ∃ (y0 : Fin 512) (y1 : Fin 768), y = ix2 y0 y1 :=
    ⟨y 0, y 1, by funext a; match a with | ⟨0, _⟩ => rfl | ⟨1, _⟩ => rfl⟩
  show k0_pay1 (iblk m c 0 t) (iblk m c 1 t) (ix2 y0 y1) = F2 (aX m c) (aW m c) (((cfg0.win 2).blk t).view.emb (ix2 y0 y1))
  rw [emb2, pay1_at]
  exact Finset.sum_congr rfl fun k _ => congrArg₂ (· * ·) (iblk0 m c t y0 k) (iblk1 m c t k y1)

/-- The grid point of a chunk of features and a block of rows. -/
def pt (j : Fin 8) (k : Fin 16) : Fin cfg0.N := ⟨j.val * 16 + k.val, Nat.lt_of_lt_of_eq (by have := j.isLt; have := k.isLt; omega : j.val * 16 + k.val < 128) N_0.symm⟩

theorem final2 : (dats m 0 c).arrAt 2 cfg0.N = F2 (aX m c) (aW m c) := by
  refine (dats m 0 c).arrAt_eq_of_cover 2 _ (fun t _ => flush2 m c t) fun i => ?_
  obtain ⟨y0, y1, rfl⟩ : ∃ (y0 : Fin 8192) (y1 : Fin 6144), i = ix2 y0 y1 :=
    ⟨i 0, i 1, by funext a; match a with | ⟨0, _⟩ => rfl | ⟨1, _⟩ => rfl⟩
  have h0 := y0.isLt
  have h1 := y1.isLt
  have hj : y1.val / 768 < 8 := by omega
  have hf : y1.val % 768 < 768 := by omega
  have hk : y0.val / 512 < 16 := by omega
  have hr : y0.val % 512 < 512 := by omega
  refine ⟨pt ⟨y1.val / 768, hj⟩ ⟨y0.val / 512, hk⟩, flush0_2 _, ?_⟩
  have e : ((cfg0.win 2).blk (pt ⟨y1.val / 768, hj⟩ ⟨y0.val / 512, hk⟩)).view.emb (ix2 ⟨y0.val % 512, hr⟩ ⟨y1.val % 768, hf⟩) = ix2 y0 y1 := by
    rw [emb2]
    congr 1
    · exact Fin.ext (by show (y1.val / 768 * 16 + y0.val / 512) % 16 * 512 + y0.val % 512 = y0.val; omega)
    · exact Fin.ext (by show (y1.val / 768 * 16 + y0.val / 512) / 16 * 768 + y1.val % 768 = y1.val; omega)
  rw [← e]
  exact View.emb_mem_set _ _

end Cert.Kernel7Ideal.Qkv

namespace Cert.Reference7Ideal.Qkv

open Cert.Reference7Ideal Cert.Reference7Ideal.Gen Cert.Reference7Ideal.Read Idealize.ShloMosaic Idealize.ShloMosaic.TcCoe Cert.Spec

theorem v2_eq (X : Arr3 1 8192 2048) (W : Arr2 2048 6144) : val_main_v2 (F := Ideal) X W = Cert.Kernel7Ideal.Qkv.F2 X W := by
  funext y
  obtain ⟨s, n, rfl⟩ : ∃ (s : Fin 8192) (n : Fin 6144), y = ix2 s n :=
    ⟨y 0, y 1, by funext a; match a with | ⟨0, _⟩ => rfl | ⟨1, _⟩ => rfl⟩
  show val_main_v1 (F := Ideal) X W (ix2 s n) = _
  rw [val_main_v1_apply, val_main_v0_apply]
  refine Finset.sum_congr rfl fun k _ => ?_
  have hs := s.isLt
  have hn := n.isLt
  have hl : lidx_main_v0 (idx_main_v1 (ix2 s n)) k = ix3 0 s k := by
    funext a; apply Fin.ext; match a with | ⟨0, _⟩ => rfl | ⟨1, _⟩ => exact (show (s.val * 6144 + n.val) / 6144 % 8192 = s.val by omega) | ⟨2, _⟩ => rfl
  have hr : ridx_main_v0 (idx_main_v1 (ix2 s n)) k = ix2 k n := by
    funext a; apply Fin.ext; match a with | ⟨0, _⟩ => rfl | ⟨1, _⟩ => exact (show (s.val * 6144 + n.val) % 6144 = n.val by omega)
  rw [hl, hr]
  rfl

end Cert.Reference7Ideal.Qkv

end
-- ==== Proof.WoFwd.lean ====
module

public import proofs.«01_k».proof.Proof.Sums
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.Kernel8Ideal.Wo

open Cert.Kernel8Ideal Cert.Kernel8Ideal.Gen Cert.Kernel8Ideal.Value Idealize.ShloMosaic Idealize.ShloMosaic.TcCoe Idealize.SL.Sem Idealize.ShloMosaic.Tactic Cert.Spec Cert.Sums

theorem lt16 (t : Fin cfg0.N) : t.val < 16 := Nat.lt_of_lt_of_eq t.isLt N_0

/-- Row `r` of the block of rows at a grid point. -/
def row (t : Fin cfg0.N) (r : Fin 512) : Fin 8192 := ⟨t.val * 512 + r.val, by have := lt16 t; have := r.isLt; omega⟩

theorem widx0 : ∀ t : Fin cfg0.N, win0_0.index t (0 : Fin 2) = t.val ∧ win0_0.index t (1 : Fin 2) = 0 :=
  (by decide +kernel : ∀ t : Fin grid0.N, _)
theorem widx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem widx2 : ∀ t : Fin cfg0.N, win0_2.index t (0 : Fin 3) = 0 ∧ win0_2.index t (1 : Fin 3) = t.val ∧ win0_2.index t (2 : Fin 3) = 0 :=
  (by decide +kernel : ∀ t : Fin grid0.N, _)

theorem emb0 (t : Fin cfg0.N) (a0 : Fin 512) (a1 : Fin 2048) : ((cfg0.win 0).blk t).view.emb (ix2 a0 a1) = ix2 (row t a0) a1 := by
  obtain ⟨e0, e1⟩ := widx0 t
  funext a; apply Fin.ext
  match a with
  | ⟨0, _⟩ => show win0_0.index t (0 : Fin 2) * 512 + 1 * a0.val = (row t a0).val; rw [e0]; simp [row]
  | ⟨1, _⟩ => show win0_0.index t (1 : Fin 2) * 2048 + 1 * a1.val = a1.val; rw [e1]; simp

theorem emb1 (t : Fin cfg0.N) (a0 : Fin 1) (a1 : Fin 2048) (a2 : Fin 2048) : ((cfg0.win 1).blk t).view.emb (ix3 a0 a1 a2) = ix3 a0 a1 a2 := by
  obtain ⟨e0, e1, e2⟩ := widx1 t
  funext a; apply Fin.ext
  match a with
  | ⟨0, _⟩ => show win0_1.index t (0 : Fin 3) * 1 + 1 * a0.val = a0.val; rw [e0]; simp
  | ⟨1, _⟩ => show win0_1.index t (1 : Fin 3) * 2048 + 1 * a1.val = a1.val; rw [e1]; simp
  | ⟨2, _⟩ => show win0_1.index t (2 : Fin 3) * 2048 + 1 * a2.val = a2.val; rw [e2]; simp

theorem emb2 (t : Fin cfg0.N) (a0 : Fin 1) (a1 : Fin 512) (a2 : Fin 2048) : ((cfg0.win 2).blk t).view.emb (ix3 a0 a1 a2) = ix3 a0 (row t a1) a2 := by
  obtain ⟨e0, e1, e2⟩ := widx2 t
  funext a; apply Fin.ext
  match a with
  | ⟨0, _⟩ => show win0_2.index t (0 : Fin 3) * 1 + 1 * a0.val = a0.val; rw [e0]; simp
  | ⟨1, _⟩ => show win0_2.index t (1 : Fin 3) * 512 + 1 * a1.val = (row t a1).val; rw [e1]; simp [row]
  | ⟨2, _⟩ => show win0_2.index t (2 : Fin 3) * 2048 + 1 * a2.val = a2.val; rw [e2]; simp

variable (m : (ℓ : Loc nD τ sig) → Buf (Elt Ideal) ℓ) (c : Dev nD)

/-- The attention's output. -/
abbrev aO : Arr3 1 8192 2048 := m ((c : Thread nD τ).loc main_arg0)
/-- The projection's weights. -/
abbrev aW : Arr2 2048 2048 := m ((c : Thread nD τ).loc main_arg1)

theorem V1 (s : Fin 8192) (k : Fin 2048) : V m c main_v1 (ix2 s k) = aO m c (ix3 0 s k) := by
  after_reads_at

theorem V3 (p : Fin 2048) (q : Fin 2048) : V m c main_v3 (ix3 0 p q) = aW m c (ix2 p q) := by
  after_reads_at

theorem rd0 (W : (b : Ref sig .tc) → Buf (Elt Ideal) ((c : Thread nD τ).loc b)) (t : Fin cfg0.N) (r : Fin 512) (k : Fin 2048) :
    ((cfg0.win 0).blk t).view.read (Elt Ideal) (W (Pipeline.arrRef spec0 0)) (ix2 r k) = W main_v1 (ix2 (row t r) k) := by
  show W main_v1 (((cfg0.win 0).blk t).view.emb (ix2 r k)) = _
  rw [emb0]

theorem rd1 (W : (b : Ref sig .tc) → Buf (Elt Ideal) ((c : Thread nD τ).loc b)) (t : Fin cfg0.N) (k : Fin 2048) (f : Fin 2048) :
    ((cfg0.win 1).blk t).view.read (Elt Ideal) (W (Pipeline.arrRef spec0 1)) (ix3 0 k f) = W main_v3 (ix3 0 k f) := by
  show W main_v3 (((cfg0.win 1).blk t).view.emb (ix3 0 k f)) = _
  rw [emb1]

theorem iblk0 (t : Fin cfg0.N) (r : Fin 512) (k : Fin 2048) : iblk m c 0 t (ix2 r k) = aO m c (ix3 0 (row t r) k) := by
  unfold iblk
  exact (rd0 c (V m c) t r k).trans (V1 m c _ _)

theorem iblk1 (t : Fin cfg0.N) (k : Fin 2048) (f : Fin 2048) : iblk m c 1 t (ix3 0 k f) = aW m c (ix2 k f) := by
  unfold iblk
  exact (rd1 c (V m c) t k f).trans (V3 m c _ _)

theorem pay1_at (v0 : Vec Ideal S512x2048 .bf16) (v2 : Vec Ideal S1x2048x2048 .bf16) (r : Fin 512) (f : Fin 2048) :
    k0_pay1 v0 v2 (ix3 0 r f) = ∑ k : Fin 2048, v0 (ix2 r k) * v2 (ix3 0 k f) := by
  unfold_payloads; pointwise

theorem out0_eq (x0 : Vec Ideal S512x2048 .bf16) (x1 : Vec Ideal S1x2048x2048 .bf16) : out0_2 x0 x1 = k0_pay1 x0 x1 := by
  unfold out0_2
  rw [View.canon_unit_zero hz3, View.ld_unit_zero hz2, View.ld_unit_zero hz3]

/-- The projection. -/
def F2 (O : Arr3 1 8192 2048) (W : Arr2 2048 2048) : Vec Ideal S1x8192x2048 .f32 := fun y => ∑ k, O (ix3 0 (y 1) k) * W (ix2 k (y 2))

theorem flush2 (t : Fin cfg0.N) : (dats m 0 c).flushed 2 t = ((cfg0.win 2).blk t).view.read (Elt Ideal) (F2 (aO m c) (aW m c)) := by
  rw [flushed2, out0_eq]
  funext y
  obtain ⟨z, y0, y1, rfl⟩ : ∃ (z : Fin 1) (y0 : Fin 512) (y1 : Fin 2048), y = ix3 z y0 y1 :=
    ⟨y 0, y 1, y 2, by funext a; match a with | ⟨0, _⟩ => rfl | ⟨1, _⟩ => rfl | ⟨2, _⟩ => rfl⟩
  rw [(Subsingleton.elim _ _ : z = 0)]
  show k0_pay1 (iblk m c 0 t) (iblk m c 1 t) (ix3 0 y0 y1) = F2 (aO m c) (aW m c) (((cfg0.win 2).blk t).view.emb (ix3 0 y0 y1))
  rw [emb2, pay1_at]
  exact Finset.sum_congr rfl fun k _ => congrArg₂ (· * ·) (iblk0 m c t y0 k) (iblk1 m c t k y1)

/-- The grid point of a block of rows. -/
def pt (k : Fin 16) : Fin cfg0.N := ⟨k.val, Nat.lt_of_lt_of_eq k.isLt N_0.symm⟩

theorem final2 : (dats m 0 c).arrAt 2 cfg0.N = F2 (aO m c) (aW m c) := by
  refine (dats m 0 c).arrAt_eq_of_cover 2 _ (fun t _ => flush2 m c t) fun i => ?_
  obtain ⟨z, y0, y1, rfl⟩ : ∃ (z : Fin 1) (y0 : Fin 8192) (y1 : Fin 2048), i = ix3 z y0 y1 :=
    ⟨i 0, i 1, i 2, by funext a; match a with | ⟨0, _⟩ => rfl | ⟨1, _⟩ => rfl | ⟨2, _⟩ => rfl⟩
  have h0 := y0.isLt
  have hk : y0.val / 512 < 16 := by omega
  have hr : y0.val % 512 < 512 := by omega
  refine ⟨pt ⟨y0.val / 512, hk⟩, flush0_2 _, ?_⟩
  have e : ((cfg0.win 2).blk (pt ⟨y0.val / 512, hk⟩)).view.emb (ix3 z ⟨y0.val % 512, hr⟩ y1) = ix3 z y0 y1 := by
    rw [emb2]
    congr 1
    exact Fin.ext (by show y0.val / 512 * 512 + y0.val % 512 = y0.val; omega)
  rw [← e]
  exact View.emb_mem_set _ _

end Cert.Kernel8Ideal.Wo

namespace Cert.Reference8Ideal.Wo

open Cert.Reference8Ideal Cert.Reference8Ideal.Gen Cert.Reference8Ideal.Read Idealize.ShloMosaic Idealize.ShloMosaic.TcCoe Cert.Spec

theorem v0_eq (O : Arr3 1 8192 2048) (W : Arr2 2048 2048) : val_main_v0 (F := Ideal) O W = Cert.Kernel8Ideal.Wo.F2 O W := by
  funext y
  obtain ⟨z, s, p, rfl⟩ : ∃ (z : Fin 1) (s : Fin 8192) (p : Fin 2048), y = ix3 z s p :=
    ⟨y 0, y 1, y 2, by funext a; match a with | ⟨0, _⟩ => rfl | ⟨1, _⟩ => rfl | ⟨2, _⟩ => rfl⟩
  rw [val_main_v0_apply, (Subsingleton.elim _ _ : z = 0)]
  refine Finset.sum_congr rfl fun k _ => ?_
  have hl : lidx_main_v0 (ix3 0 s p) k = ix3 0 s k := by
    funext a; apply Fin.ext; match a with | ⟨0, _⟩ => rfl | ⟨1, _⟩ => rfl | ⟨2, _⟩ => rfl
  have hr : ridx_main_v0 (ix3 0 s p) k = ix2 k p := by
    funext a; apply Fin.ext; match a with | ⟨0, _⟩ => rfl | ⟨1, _⟩ => rfl
  rw [hl, hr]
  rfl

end Cert.Reference8Ideal.Wo

end
-- ==== Proof.WoDx.lean ====
module

public import proofs.«01_k».proof.Proof.Sums
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

namespace Cert.Kernel9Ideal.Wo

open Cert.Kernel9Ideal Cert.Kernel9Ideal.Gen Cert.Kernel9Ideal.Value Idealize.ShloMosaic Idealize.ShloMosaic.TcCoe Idealize.SL.Sem Idealize.ShloMosaic.Tactic Cert.Spec Cert.Sums

theorem lt16 (t : Fin cfg0.N) : t.val < 16 := Nat.lt_of_lt_of_eq t.isLt N_0

/-- Row `r` of the block of rows at a grid point. -/
def row (t : Fin cfg0.N) (r : Fin 512) : Fin 8192 := ⟨t.val * 512 + r.val, by have := lt16 t; have := r.isLt; omega⟩

theorem widx0 : ∀ t : Fin cfg0.N, win0_0.index t (0 : Fin 2) = t.val ∧ win0_0.index t (1 : Fin 2) = 0 :=
  (by decide +kernel : ∀ t : Fin grid0.N, _)
theorem widx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem widx2 : ∀ t : Fin cfg0.N, win0_2.index t (0 : Fin 3) = 0 ∧ win0_2.index t (1 : Fin 3) = t.val ∧ win0_2.index t (2 : Fin 3) = 0 :=
  (by decide +kernel : ∀ t : Fin grid0.N, _)

theorem emb0 (t : Fin cfg0.N) (a0 : Fin 512) (a1 : Fin 2048) : ((cfg0.win 0).blk t).view.emb (ix2 a0 a1) = ix2 (row t a0) a1 := by
  obtain ⟨e0, e1⟩ := widx0 t
  funext a; apply Fin.ext
  match a with
  | ⟨0, _⟩ => show win0_0.index t (0 : Fin 2) * 512 + 1 * a0.val = (row t a0).val; rw [e0]; simp [row]
  | ⟨1, _⟩ => show win0_0.index t (1 : Fin 2) * 2048 + 1 * a1.val = a1.val; rw [e1]; simp

theorem emb1 (t : Fin cfg0.N) (a0 : Fin 1) (a1 : Fin 2048) (a2 : Fin 2048) : ((cfg0.win 1).blk t).view.emb (ix3 a0 a1 a2) = ix3 a0 a1 a2 := by
  obtain ⟨e0, e1, e2⟩ := widx1 t
  funext a; apply Fin.ext
  match a with
  | ⟨0, _⟩ => show win0_1.index t (0 : Fin 3) * 1 + 1 * a0.val = a0.val; rw [e0]; simp
  | ⟨1, _⟩ => show win0_1.index t (1 : Fin 3) * 2048 + 1 * a1.val = a1.val; rw [e1]; simp
  | ⟨2, _⟩ => show win0_1.index t (2 : Fin 3) * 2048 + 1 * a2.val = a2.val; rw [e2]; simp

theorem emb2 (t : Fin cfg0.N) (a0 : Fin 1) (a1 : Fin 512) (a2 : Fin 2048) : ((cfg0.win 2).blk t).view.emb (ix3 a0 a1 a2) = ix3 a0 (row t a1) a2 := by
  obtain ⟨e0, e1, e2⟩ := widx2 t
  funext a; apply Fin.ext
  match a with
  | ⟨0, _⟩ => show win0_2.index t (0 : Fin 3) * 1 + 1 * a0.val = a0.val; rw [e0]; simp
  | ⟨1, _⟩ => show win0_2.index t (1 : Fin 3) * 512 + 1 * a1.val = (row t a1).val; rw [e1]; simp [row]
  | ⟨2, _⟩ => show win0_2.index t (2 : Fin 3) * 2048 + 1 * a2.val = a2.val; rw [e2]; simp

variable (m : (ℓ : Loc nD τ sig) → Buf (Elt Ideal) ℓ) (c : Dev nD)

/-- The gradient at the projection's output. -/
abbrev aCT : Arr3 1 8192 2048 := m ((c : Thread nD τ).loc main_arg2)
/-- The projection's weights. -/
abbrev aW : Arr2 2048 2048 := m ((c : Thread nD τ).loc main_arg1)

theorem V1 (s : Fin 8192) (k : Fin 2048) : V m c main_v1 (ix2 s k) = aCT m c (ix3 0 s k) := by
  after_reads_at

theorem V3 (p : Fin 2048) (q : Fin 2048) : V m c main_v3 (ix3 0 p q) = aW m c (ix2 p q) := by
  after_reads_at

theorem rd0 (W : (b : Ref sig .tc) → Buf (Elt Ideal) ((c : Thread nD τ).loc b)) (t : Fin cfg0.N) (r : Fin 512) (k : Fin 2048) :
    ((cfg0.win 0).blk t).view.read (Elt Ideal) (W (Pipeline.arrRef spec0 0)) (ix2 r k) = W main_v1 (ix2 (row t r) k) := by
  show W main_v1 (((cfg0.win 0).blk t).view.emb (ix2 r k)) = _
  rw [emb0]

theorem rd1 (W : (b : Ref sig .tc) → Buf (Elt Ideal) ((c : Thread nD τ).loc b)) (t : Fin cfg0.N) (k : Fin 2048) (f : Fin 2048) :
    ((cfg0.win 1).blk t).view.read (Elt Ideal) (W (Pipeline.arrRef spec0 1)) (ix3 0 k f) = W main_v3 (ix3 0 k f) := by
  show W main_v3 (((cfg0.win 1).blk t).view.emb (ix3 0 k f)) = _
  rw [emb1]

theorem iblk0 (t : Fin cfg0.N) (r : Fin 512) (k : Fin 2048) : iblk m c 0 t (ix2 r k) = aCT m c (ix3 0 (row t r) k) := by
  unfold iblk
  exact (rd0 c (V m c) t r k).trans (V1 m c _ _)

theorem iblk1 (t : Fin cfg0.N) (k : Fin 2048) (f : Fin 2048) : iblk m c 1 t (ix3 0 k f) = aW m c (ix2 k f) := by
  unfold iblk
  exact (rd1 c (V m c) t k f).trans (V3 m c _ _)

theorem pay1_at (v0 : Vec Ideal S512x2048 .bf16) (v2 : Vec Ideal S1x2048x2048 .bf16) (r : Fin 512) (f : Fin 2048) :
    k0_pay1 v0 v2 (ix3 0 r f) = ∑ k : Fin 2048, v0 (ix2 r k) * v2 (ix3 0 f k) := by
  unfold_payloads; pointwise

theorem out0_eq (x0 : Vec Ideal S512x2048 .bf16) (x1 : Vec Ideal S1x2048x2048 .bf16) : out0_2 x0 x1 = k0_pay1 x0 x1 := by
  unfold out0_2
  rw [View.canon_unit_zero hz3, View.ld_unit_zero hz2, View.ld_unit_zero hz3]

/-- The gradient at the attention's output. -/
def F2 (CT : Arr3 1 8192 2048) (W : Arr2 2048 2048) : Vec Ideal S1x8192x2048 .bf16 := fun y => ∑ k, CT (ix3 0 (y 1) k) * W (ix2 (y 2) k)

theorem flush2 (t : Fin cfg0.N) : (dats m 0 c).flushed 2 t = ((cfg0.win 2).blk t).view.read (Elt Ideal) (F2 (aCT m c) (aW m c)) := by
  rw [flushed2, out0_eq]
  funext y
  obtain ⟨z, y0, y1, rfl⟩ : ∃ (z : Fin 1) (y0 : Fin 512) (y1 : Fin 2048), y = ix3 z y0 y1 :=
    ⟨y 0, y 1, y 2, by funext a; match a with | ⟨0, _⟩ => rfl | ⟨1, _⟩ => rfl | ⟨2, _⟩ => rfl⟩
  rw [(Subsingleton.elim _ _ : z = 0)]
  show k0_pay1 (iblk m c 0 t) (iblk m c 1 t) (ix3 0 y0 y1) = F2 (aCT m c) (aW m c) (((cfg0.win 2).blk t).view.emb (ix3 0 y0 y1))
  rw [emb2, pay1_at]
  exact Finset.sum_congr rfl fun k _ => congrArg₂ (· * ·) (iblk0 m c t y0 k) (iblk1 m c t y1 k)

/-- The grid point of a block of rows. -/
def pt (k : Fin 16) : Fin cfg0.N := ⟨k.val, Nat.lt_of_lt_of_eq k.isLt N_0.symm⟩

theorem final2 : (dats m 0 c).arrAt 2 cfg0.N = F2 (aCT m c) (aW m c) := by
  refine (dats m 0 c).arrAt_eq_of_cover 2 _ (fun t _ => flush2 m c t) fun i => ?_
  obtain ⟨z, y0, y1, rfl⟩ : ∃ (z : Fin 1) (y0 : Fin 8192) (y1 : Fin 2048), i = ix3 z y0 y1 :=
    ⟨i 0, i 1, i 2, by funext a; match a with | ⟨0, _⟩ => rfl | ⟨1, _⟩ => rfl | ⟨2, _⟩ => rfl⟩
  have h0 := y0.isLt
  have hk : y0.val / 512 < 16 := by omega
  have hr : y0.val % 512 < 512 := by omega
  refine ⟨pt ⟨y0.val / 512, hk⟩, flush0_2 _, ?_⟩
  have e : ((cfg0.win 2).blk (pt ⟨y0.val / 512, hk⟩)).view.emb (ix3 z ⟨y0.val % 512, hr⟩ y1) = ix3 z y0 y1 := by
    rw [emb2]
    congr 1
    exact Fin.ext (by show y0.val / 512 * 512 + y0.val % 512 = y0.val; omega)
  rw [← e]
  exact View.emb_mem_set _ _

end Cert.Kernel9Ideal.Wo

namespace Cert.Reference9Ideal.Wo

open Cert.Reference9Ideal Cert.Reference9Ideal.Gen Cert.Reference9Ideal.Read Idealize.ShloMosaic Idealize.ShloMosaic.TcCoe Cert.Spec

theorem v2_eq (W : Arr2 2048 2048) (CT : Arr3 1 8192 2048) : val_main_v2 (F := Ideal) W CT = Cert.Kernel9Ideal.Wo.F2 CT W := by
  funext y
  obtain ⟨z, s, p, rfl⟩ : ∃ (z : Fin 1) (s : Fin 8192) (p : Fin 2048), y = ix3 z s p :=
    ⟨y 0, y 1, y 2, by funext a; match a with | ⟨0, _⟩ => rfl | ⟨1, _⟩ => rfl | ⟨2, _⟩ => rfl⟩
  show val_main_v1 (F := Ideal) W CT (ix3 z s p) = _
  rw [val_main_v1_apply, (Subsingleton.elim _ _ : z = 0)]
  refine Finset.sum_congr rfl fun k _ => ?_
  have hl : lidx_main_v1 (ix3 0 s p) k = ix3 0 s k := by
    funext a; apply Fin.ext; match a with | ⟨0, _⟩ => rfl | ⟨1, _⟩ => rfl | ⟨2, _⟩ => rfl
  have hr : ridx_main_v1 (ix3 0 s p) k = ix2 p k := by
    funext a; apply Fin.ext; match a with | ⟨0, _⟩ => rfl | ⟨1, _⟩ => rfl
  rw [hl, hr]
  rfl

end Cert.Reference9Ideal.Wo

end
-- ==== Proof.WoDw.lean ====
module

public import proofs.«01_k».proof.Proof.Sums
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

namespace Cert.Kernel10Ideal.Wo

open Cert.Kernel10Ideal Cert.Kernel10Ideal.Gen Cert.Kernel10Ideal.Value Idealize.ShloMosaic Idealize.ShloMosaic.TcCoe Idealize.SL.Sem Idealize.ShloMosaic.Tactic Cert.Spec Cert.Sums

theorem lt16 (t : Fin cfg0.N) : t.val < 16 := Nat.lt_of_lt_of_eq t.isLt N_0

/-- Row `r` of the time block at a grid point. -/
def row (t : Fin cfg0.N) (r : Fin 2048) : Fin 8192 := ⟨t.val % 4 * 2048 + r.val, by have := r.isLt; omega⟩

/-- Input feature `p` of the block of columns at a grid point. -/
def cl (t : Fin cfg0.N) (p : Fin 1024) : Fin 2048 := ⟨t.val / 8 * 1024 + p.val, by have := lt16 t; have := p.isLt; omega⟩

/-- Output feature `f` of the block of columns at a grid point. -/
def ft (t : Fin cfg0.N) (f : Fin 1024) : Fin 2048 := ⟨t.val / 4 % 2 * 1024 + f.val, by have := f.isLt; omega⟩

theorem widx0 : ∀ t : Fin cfg0.N, win0_0.index t (0 : Fin 3) = 0 ∧ win0_0.index t (1 : Fin 3) = t.val % 4 ∧ win0_0.index t (2 : Fin 3) = t.val / 8 :=
  (by decide +kernel : ∀ t : Fin grid0.N, _)
theorem widx1 : ∀ t : Fin cfg0.N, win0_1.index t (0 : Fin 3) = 0 ∧ win0_1.index t (1 : Fin 3) = t.val % 4 ∧ win0_1.index t (2 : Fin 3) = t.val / 4 % 2 :=
  (by decide +kernel : ∀ t : Fin grid0.N, _)
theorem widx2 : ∀ t : Fin cfg0.N, win0_2.index t (0 : Fin 3) = 0 ∧ win0_2.index t (1 : Fin 3) = t.val / 8 ∧ win0_2.index t (2 : Fin 3) = t.val / 4 % 2 :=
  (by decide +kernel : ∀ t : Fin grid0.N, _)

theorem emb0 (t : Fin cfg0.N) (a0 : Fin 1) (a1 : Fin 2048) (a2 : Fin 1024) : ((cfg0.win 0).blk t).view.emb (ix3 a0 a1 a2) = ix3 a0 (row t a1) (cl t a2) := by
  obtain ⟨e0, e1, e2⟩ := widx0 t
  funext a; apply Fin.ext
  match a with
  | ⟨0, _⟩ => show win0_0.index t (0 : Fin 3) * 1 + 1 * a0.val = a0.val; rw [e0]; simp
  | ⟨1, _⟩ => show win0_0.index t (1 : Fin 3) * 2048 + 1 * a1.val = (row t a1).val; rw [e1]; simp [row]
  | ⟨2, _⟩ => show win0_0.index t (2 : Fin 3) * 1024 + 1 * a2.val = (cl t a2).val; rw [e2]; simp [cl]

theorem emb1 (t : Fin cfg0.N) (a0 : Fin 1) (a1 : Fin 2048) (a2 : Fin 1024) : ((cfg0.win 1).blk t).view.emb (ix3 a0 a1 a2) = ix3 a0 (row t a1) (ft t a2) := by
  obtain ⟨e0, e1, e2⟩ := widx1 t
  funext a; apply Fin.ext
  match a with
  | ⟨0, _⟩ => show win0_1.index t (0 : Fin 3) * 1 + 1 * a0.val = a0.val; rw [e0]; simp
  | ⟨1, _⟩ => show win0_1.index t (1 : Fin 3) * 2048 + 1 * a1.val = (row t a1).val; rw [e1]; simp [row]
  | ⟨2, _⟩ => show win0_1.index t (2 : Fin 3) * 1024 + 1 * a2.val = (ft t a2).val; rw [e2]; simp [ft]

theorem emb2 (t : Fin cfg0.N) (a0 : Fin 1) (a1 : Fin 1024) (a2 : Fin 1024) : ((cfg0.win 2).blk t).view.emb (ix3 a0 a1 a2) = ix3 a0 (cl t a1) (ft t a2) := by
  obtain ⟨e0, e1, e2⟩ := widx2 t
  funext a; apply Fin.ext
  match a with
  | ⟨0, _⟩ => show win0_2.index t (0 : Fin 3) * 1 + 1 * a0.val = a0.val; rw [e0]; simp
  | ⟨1, _⟩ => show win0_2.index t (1 : Fin 3) * 1024 + 1 * a1.val = (cl t a1).val; rw [e1]; simp [cl]
  | ⟨2, _⟩ => show win0_2.index t (2 : Fin 3) * 1024 + 1 * a2.val = (ft t a2).val; rw [e2]; simp [ft]

variable (m : (ℓ : Loc nD τ sig) → Buf (Elt Ideal) ℓ) (c : Dev nD)

/-- The attention's output. -/
abbrev aO : Arr3 1 8192 2048 := m ((c : Thread nD τ).loc main_arg0)
/-- The gradient at the projection's output. -/
abbrev aCT : Arr3 1 8192 2048 := m ((c : Thread nD τ).loc main_arg2)

theorem V0 (s : Fin 8192) (p : Fin 2048) : V m c main_v0 (ix3 0 s p) = aO m c (ix3 0 s p) := by
  after_reads_at

theorem V1 (s : Fin 8192) (f : Fin 2048) : V m c main_v1 (ix3 0 s f) = aCT m c (ix3 0 s f) := by
  after_reads_at

theorem rd0 (W : (b : Ref sig .tc) → Buf (Elt Ideal) ((c : Thread nD τ).loc b)) (t : Fin cfg0.N) (r : Fin 2048) (p : Fin 1024) :
    ((cfg0.win 0).blk t).view.read (Elt Ideal) (W (Pipeline.arrRef spec0 0)) (ix3 0 r p) = W main_v0 (ix3 0 (row t r) (cl t p)) := by
  show W main_v0 (((cfg0.win 0).blk t).view.emb (ix3 0 r p)) = _
  rw [emb0]

theorem rd1 (W : (b : Ref sig .tc) → Buf (Elt Ideal) ((c : Thread nD τ).loc b)) (t : Fin cfg0.N) (r : Fin 2048) (f : Fin 1024) :
    ((cfg0.win 1).blk t).view.read (Elt Ideal) (W (Pipeline.arrRef spec0 1)) (ix3 0 r f) = W main_v1 (ix3 0 (row t r) (ft t f)) := by
  show W main_v1 (((cfg0.win 1).blk t).view.emb (ix3 0 r f)) = _
  rw [emb1]

theorem iblk0 (t : Fin cfg0.N) (r : Fin 2048) (p : Fin 1024) : iblk m c 0 t (ix3 0 r p) = aO m c (ix3 0 (row t r) (cl t p)) := by
  unfold iblk
  exact (rd0 c (V m c) t r p).trans (V0 m c _ _)

theorem iblk1 (t : Fin cfg0.N) (r : Fin 2048) (f : Fin 1024) : iblk m c 1 t (ix3 0 r f) = aCT m c (ix3 0 (row t r) (ft t f)) := by
  unfold iblk
  exact (rd1 c (V m c) t r f).trans (V1 m c _ _)

section Point

theorem pay2_at (v0 : Vec Ideal S1x2048x1024 .bf16) (v2 : Vec Ideal S1x2048x1024 .bf16) (p : Fin 1024) (f : Fin 1024) :
    k0_pay2 v0 v2 (ix2 p f) = ∑ k : Fin 2048, v0 (ix3 0 k p) * v2 (ix3 0 k f) := by
  unfold_payloads; pointwise

theorem pay3_at (v0 : Vec Ideal S1x2048x1024 .bf16) (v2 : Vec Ideal S1x2048x1024 .bf16) (v14 : Vec Ideal S1024x1024 .f32) (p : Fin 1024) (f : Fin 1024) :
    k0_pay3 v0 v2 v14 (ix2 p f) = v14 (ix2 p f) + ∑ k : Fin 2048, v0 (ix3 0 k p) * v2 (ix3 0 k f) := by
  unfold_payloads; pointwise

theorem pay4_at (v14 : Vec Ideal S1024x1024 .f32) (p : Fin 1024) (f : Fin 1024) : k0_pay4 v14 (ix3 0 p f) = v14 (ix2 p f) := by
  unfold_payloads; pointwise

variable (i : grid0.Coords)
  (arg4 : Memref sig .tc .vmem S1x2048x1024 .bf16) (harg4 : arg4.IsWhole)
  (arg5 : Memref sig .tc .vmem S1x2048x1024 .bf16) (harg5 : arg5.IsWhole)
  (arg6 : Memref sig .tc .vmem S1x1024x1024 .bf16) (harg6 : arg6.IsWhole)
  (arg7 : Memref sig .tc .vmem S1024x1024 .f32) (harg7 : arg7.IsWhole)
  (x0 : Vec Ideal S1x2048x1024 .bf16) (x1 : Vec Ideal S1x2048x1024 .bf16) (xs : Vec Ideal S1024x1024 .f32)

/-- The first time block leaves its product. -/
theorem sout0_A_eq (hc0 : cond0_0 i) (hc1 : ¬cond0_1 i) (hc2 : ¬cond0_2 i) :
    sout0_A_0 c i arg4 harg4 arg5 harg5 arg6 harg6 arg7 harg7 hc0 hc1 hc2 x0 x1 = k0_pay2 x0 x1 := by
  unfold sout0_A_0
  rw [View.read_writes_eq_canon _ _ _ (scover0_A_0 c i arg4 harg4 arg5 harg5 arg6 harg6 arg7 harg7 hc0 hc1 hc2 x0 x1)]
  unfold kernelRun0_A; dsimp only; sl_unfold_words
  simp only [View.readAt_eq_ld, harg4.read_unread, harg5.read_unread, harg6.read_unread, harg7.read_unread]
  rw [View.canon_unit_zero hz2, View.ld_unit_zero hz3, View.ld_unit_zero hz3]

/-- A middle time block adds its product. -/
theorem sout0_B_eq (hc0 : ¬cond0_0 i) (hc1 : cond0_1 i) (hc2 : ¬cond0_2 i) :
    sout0_B_0 c i arg4 harg4 arg5 harg5 arg6 harg6 arg7 harg7 hc0 hc1 hc2 x0 x1 xs = k0_pay3 x0 x1 xs := by
  unfold sout0_B_0
  rw [View.read_writes_eq_canon _ _ _ (scover0_B_0 c i arg4 harg4 arg5 harg5 arg6 harg6 arg7 harg7 hc0 hc1 hc2 x0 x1 xs)]
  unfold kernelRun0_B; dsimp only; sl_unfold_words
  simp only [View.readAt_eq_ld, harg4.read_unread, harg5.read_unread, harg6.read_unread, harg7.read_unread]
  rw [View.canon_unit_zero hz2, View.ld_unit_zero hz3, View.ld_unit_zero hz3, View.ld_unit_zero hz2]

/-- The last time block adds its product and writes the sum out. -/
theorem out0_C_eq (hc0 : ¬cond0_0 i) (hc1 : cond0_1 i) (hc2 : cond0_2 i) :
    out0_C_2 c i arg4 harg4 arg5 harg5 arg6 harg6 arg7 harg7 hc0 hc1 hc2 x0 x1 xs = k0_pay4 (k0_pay3 x0 x1 xs) := by
  unfold out0_C_2
  rw [View.read_writes_eq_canon _ _ _ (cover0_C_2 c i arg4 harg4 arg5 harg5 arg6 harg6 arg7 harg7 hc0 hc1 hc2 x0 x1 xs)]
  unfold kernelRun0_C; dsimp only; sl_unfold_words
  simp only [View.readAt_eq_ld, harg4.read_unread, harg5.read_unread, harg6.read_unread, harg7.read_unread]
  rw [View.canon_unit_zero hz3, View.ld_unit_zero hz3, View.ld_unit_zero hz3, View.ld_unit_zero hz2, View.readCov_unit_zero _ hz2]

end Point

/-- The products of one pair of columns, row by row. -/
def term (O : Arr3 1 8192 2048) (CT : Arr3 1 8192 2048) (p : Fin 2048) (f : Fin 2048) (k : Fin 8192) : EReal := O (ix3 0 k p) * CT (ix3 0 k f)

/-- The products that a grid point's entry sums. -/
abbrev tm (t : Fin cfg0.N) (p : Fin 1024) (f : Fin 1024) : Fin 8192 → EReal := term (aO m c) (aCT m c) (cl t p) (ft t f)

/-- The product of a grid point's blocks. -/
theorem pay2_blk (t : Fin cfg0.N) (p : Fin 1024) (f : Fin 1024) : k0_pay2 (iblk m c 0 t) (iblk m c 1 t) (ix2 p f) = blk (tm m c t p f) 2048 (t.val % 4) := by
  refine (pay2_at _ _ p f).trans (blk_eq _ _ _ _ fun k => ⟨(row t k).isLt, ?_⟩)
  exact congrArg₂ (· * ·) (iblk0 m c t k p) (iblk1 m c t k f)

/-- The product of a grid point's blocks, added to what was there. -/
theorem pay3_blk (t : Fin cfg0.N) (o : Vec Ideal S1024x1024 .f32) (p : Fin 1024) (f : Fin 1024) :
    k0_pay3 (iblk m c 0 t) (iblk m c 1 t) o (ix2 p f) = o (ix2 p f) + blk (tm m c t p f) 2048 (t.val % 4) := by
  refine (pay3_at _ _ _ p f).trans (congrArg _ (blk_eq _ _ _ _ fun k => ⟨(row t k).isLt, ?_⟩))
  exact congrArg₂ (· * ·) (iblk0 m c t k p) (iblk1 m c t k f)

theorem tm_step (n : ℕ) (hn : n + 1 < cfg0.N) (h : ¬(n + 1) % 4 = 0) (p : Fin 1024) (f : Fin 1024) :
    tm m c ⟨n + 1, hn⟩ p f = tm m c ⟨n, Nat.lt_of_succ_lt hn⟩ p f := by
  refine congrArg₂ (term (aO m c) (aCT m c)) (Fin.ext ?_) (Fin.ext ?_)
  · show (n + 1) / 8 * 1024 + p.val = n / 8 * 1024 + p.val; omega
  · show (n + 1) / 4 % 2 * 1024 + f.val = n / 4 % 2 * 1024 + f.val; omega

/-- The accumulator holds the products over the time blocks up to the grid point's. -/
theorem at_all (p : Fin 1024) (f : Fin 1024) : ∀ (n : ℕ) (hn : n < cfg0.N), n % 4 < 3 →
    (outsAt0 m c n hn).2 (ix2 p f) = upto (tm m c ⟨n, hn⟩ p f) ((n % 4 + 1) * 2048) := by
  refine acc 4 3 2048 (fun n hn => (outsAt0 m c n hn).2 (ix2 p f)) (fun n hn => tm m c ⟨n, hn⟩ p f)
    (fun n h => by omega) (fun n hn h => tm_step m c n hn h p f) (fun n hn h => ?_) (fun n hn h hl => ?_)
  · show (outsAt0 m c n hn).2 (ix2 p f) = _
    rw [outsAt0_A m c ⟨n, hn⟩ h (by show ¬1 ≤ n % 4; omega) (by show ¬n % 4 = 3; omega)]
    dsimp only
    rw [sout0_A_eq]
    exact pay2_blk m c ⟨n, hn⟩ p f
  · show (outsAt0 m c (n + 1) hn).2 (ix2 p f) = _
    rw [outsAt0_B m c ⟨n + 1, hn⟩ h (by show 1 ≤ (n + 1) % 4; omega) (by show ¬(n + 1) % 4 = 3; omega)]
    dsimp only
    rw [sout0_B_eq]
    exact pay3_blk m c ⟨n + 1, hn⟩ _ p f

/-- What the last time block writes out. -/
theorem out_last (t : Fin cfg0.N) (hl : t.val % 4 = 3) (p : Fin 1024) (f : Fin 1024) : (outsAt0 m c t.val t.isLt).1 (ix3 0 p f) = ∑ k, tm m c t p f k := by
  obtain ⟨v, hv⟩ := t
  cases v with
  | zero => exact absurd hl (by show ¬0 % 4 = 3; decide)
  | succ v =>
    have h3 : (v + 1) % 4 = 3 := hl
    rw [outsAt0_C m c ⟨v + 1, hv⟩ (by show ¬(v + 1) % 4 = 0; omega) (by show 1 ≤ (v + 1) % 4; omega) hl]
    dsimp only
    rw [out0_C_eq, pay4_at, pay3_blk]
    refine (congrArg (· + _) (at_all m c p f v (Nat.lt_of_succ_lt hv) (by omega))).trans ?_
    rw [← tm_step m c v hv (by omega)]
    show upto _ ((v % 4 + 1) * 2048) + blk _ 2048 ((v + 1) % 4) = _
    rw [h3, (by omega : v % 4 = 2)]
    exact (upto_blk _ 2048 3).symm.trans (upto_all _)

/-- The gradient of the weights. -/
def F2 (O : Arr3 1 8192 2048) (CT : Arr3 1 8192 2048) : Vec Ideal S1x2048x2048 .bf16 := fun y => ∑ k, term O CT (y 1) (y 2) k

theorem flush2 (t : Fin cfg0.N) (hf : (cfg0.win 2).flush t = true) :
    (dats m 0 c).flushed 2 t = ((cfg0.win 2).blk t).view.read (Elt Ideal) (F2 (aO m c) (aCT m c)) := by
  have hl := (flush0_2 t).mp hf
  rw [flushed2]
  have ha := out_last m c t hl
  generalize outsAt0 m c t.val t.isLt = o at ha
  funext y
  obtain ⟨y0, y1, y2, rfl⟩ : ∃ (y0 : Fin 1) (y1 : Fin 1024) (y2 : Fin 1024), y = ix3 y0 y1 y2 :=
    ⟨y 0, y 1, y 2, by funext a; match a with | ⟨0, _⟩ => rfl | ⟨1, _⟩ => rfl | ⟨2, _⟩ => rfl⟩
  show o.1 (ix3 y0 y1 y2) = F2 (aO m c) (aCT m c) (((cfg0.win 2).blk t).view.emb (ix3 y0 y1 y2))
  rw [emb2, (Subsingleton.elim _ _ : y0 = 0), ha]
  rfl

/-- The last grid point of a pair of blocks of columns. -/
def pt (j k : Fin 2) : Fin cfg0.N := ⟨j.val * 8 + k.val * 4 + 3, Nat.lt_of_lt_of_eq (by have := j.isLt; have := k.isLt; omega : j.val * 8 + k.val * 4 + 3 < 16) N_0.symm⟩

theorem final : (dats m 0 c).arrAt 2 cfg0.N = F2 (aO m c) (aCT m c) := by
  refine (dats m 0 c).arrAt_eq_of_cover 2 _ (fun t hf => flush2 m c t hf) fun i => ?_
  obtain ⟨y0, y1, y2, rfl⟩ : ∃ (y0 : Fin 1) (y1 : Fin 2048) (y2 : Fin 2048), i = ix3 y0 y1 y2 :=
    ⟨i 0, i 1, i 2, by funext a; match a with | ⟨0, _⟩ => rfl | ⟨1, _⟩ => rfl | ⟨2, _⟩ => rfl⟩
  have h1 := y1.isLt
  have h2 := y2.isLt
  have hj : y1.val / 1024 < 2 := by omega
  have hk : y2.val / 1024 < 2 := by omega
  have hr : y1.val % 1024 < 1024 := by omega
  have hs : y2.val % 1024 < 1024 := by omega
  refine ⟨pt ⟨y1.val / 1024, hj⟩ ⟨y2.val / 1024, hk⟩, (flush0_2 _).mpr (by show (y1.val / 1024 * 8 + y2.val / 1024 * 4 + 3) % 4 = 3; omega), ?_⟩
  have e : ((cfg0.win 2).blk (pt ⟨y1.val / 1024, hj⟩ ⟨y2.val / 1024, hk⟩)).view.emb (ix3 y0 ⟨y1.val % 1024, hr⟩ ⟨y2.val % 1024, hs⟩) = ix3 y0 y1 y2 := by
    rw [emb2]
    congr 1
    · exact Fin.ext (by show (y1.val / 1024 * 8 + y2.val / 1024 * 4 + 3) / 8 * 1024 + y1.val % 1024 = y1.val; omega)
    · exact Fin.ext (by show (y1.val / 1024 * 8 + y2.val / 1024 * 4 + 3) / 4 % 2 * 1024 + y2.val % 1024 = y2.val; omega)
  rw [← e]
  exact View.emb_mem_set _ _

end Cert.Kernel10Ideal.Wo

namespace Cert.Reference10Ideal.Wo

open Cert.Reference10Ideal Cert.Reference10Ideal.Gen Cert.Reference10Ideal.Read Idealize.ShloMosaic Idealize.ShloMosaic.TcCoe Idealize.ShloMosaic.Tactic Cert.Spec

theorem v1_at (O : Arr3 1 8192 2048) (CT : Arr3 1 8192 2048) (f : Fin 2048) (p : Fin 2048) :
    val_main_v1 (F := Ideal) O CT (ix2 f p) = ∑ k : Fin 8192, CT (ix3 0 k f) * O (ix3 0 k p) := by
  unfold val_main_v1
  pointwise
  exact Fin.sum_univ_one _

theorem v4_eq (O : Arr3 1 8192 2048) (CT : Arr3 1 8192 2048) : val_main_v4 (F := Ideal) O CT = Cert.Kernel10Ideal.Wo.F2 O CT := by
  funext y
  obtain ⟨j, p, f, rfl⟩ : ∃ (j : Fin 1) (p : Fin 2048) (f : Fin 2048), y = ix3 j p f :=
    ⟨y 0, y 1, y 2, by funext a; match a with | ⟨0, _⟩ => rfl | ⟨1, _⟩ => rfl | ⟨2, _⟩ => rfl⟩
  show val_main_v3 (F := Ideal) O CT (ix3 j p f) = ∑ k, Cert.Kernel10Ideal.Wo.term O CT p f k
  rw [val_main_v3_apply, val_main_v2_apply]
  have hi : idx_main_v2 (idx_main_v3 (ix3 j p f)) = ix2 f p := by
    funext a; apply Fin.ext
    match a with
    | ⟨0, _⟩ => rfl
    | ⟨1, _⟩ => rfl
  rw [hi, v1_at]
  exact Finset.sum_congr rfl fun k _ => mul_comm _ _

end Cert.Reference10Ideal.Wo

end
-- ==== Proof.QkvDw.lean ====
module

public import proofs.«01_k».proof.Proof.Sums
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace Cert.Kernel11Ideal.Qkv

open Cert.Kernel11Ideal Cert.Kernel11Ideal.Gen Cert.Kernel11Ideal.Value Idealize.ShloMosaic Idealize.ShloMosaic.TcCoe Idealize.SL.Sem Idealize.ShloMosaic.Tactic Cert.Spec Cert.Sums

theorem lt64 (t : Fin cfg0.N) : t.val < 64 := Nat.lt_of_lt_of_eq t.isLt N_0

/-- The chunk of features at a grid point. -/
def jt (t : Fin cfg0.N) : Fin 8 := ⟨t.val / 8, by have := lt64 t; omega⟩

/-- Row `r` of the time block at a grid point. -/
def row (t : Fin cfg0.N) (r : Fin 2048) : Fin 8192 := ⟨t.val % 4 * 2048 + r.val, by have := r.isLt; omega⟩

/-- Column `p` of the block of columns at a grid point. -/
def cl (t : Fin cfg0.N) (p : Fin 1024) : Fin 2048 := ⟨t.val / 4 % 2 * 1024 + p.val, by have := p.isLt; omega⟩

/-- Feature `f` of chunk `j`. -/
def ft (j : Fin 8) (f : Fin 768) : Fin 6144 := ⟨j.val * 768 + f.val, by have := j.isLt; have := f.isLt; omega⟩

theorem widx0 : ∀ t : Fin cfg0.N, win0_0.index t (0 : Fin 3) = 0 ∧ win0_0.index t (1 : Fin 3) = t.val % 4 ∧ win0_0.index t (2 : Fin 3) = t.val / 4 % 2 :=
  (by decide +kernel : ∀ t : Fin grid0.N, _)
theorem widx1 : ∀ t : Fin cfg0.N, win0_1.index t (0 : Fin 2) = t.val % 4 ∧ win0_1.index t (1 : Fin 2) = t.val / 8 :=
  (by decide +kernel : ∀ t : Fin grid0.N, _)
theorem widx2 : ∀ t : Fin cfg0.N, win0_2.index t (0 : Fin 3) = t.val / 8 ∧ win0_2.index t (1 : Fin 3) = t.val / 4 % 2 ∧ win0_2.index t (2 : Fin 3) = 0 :=
  (by decide +kernel : ∀ t : Fin grid0.N, _)

theorem emb0 (t : Fin cfg0.N) (a0 : Fin 1) (a1 : Fin 2048) (a2 : Fin 1024) : ((cfg0.win 0).blk t).view.emb (ix3 a0 a1 a2) = ix3 a0 (row t a1) (cl t a2) := by
  obtain ⟨e0, e1, e2⟩ := widx0 t
  funext a; apply Fin.ext
  match a with
  | ⟨0, _⟩ => show win0_0.index t (0 : Fin 3) * 1 + 1 * a0.val = a0.val; rw [e0]; simp
  | ⟨1, _⟩ => show win0_0.index t (1 : Fin 3) * 2048 + 1 * a1.val = (row t a1).val; rw [e1]; simp [row]
  | ⟨2, _⟩ => show win0_0.index t (2 : Fin 3) * 1024 + 1 * a2.val = (cl t a2).val; rw [e2]; simp [cl]

theorem emb1 (t : Fin cfg0.N) (a0 : Fin 2048) (a1 : Fin 768) : ((cfg0.win 1).blk t).view.emb (ix2 a0 a1) = ix2 (row t a0) (ft (jt t) a1) := by
  obtain ⟨e0, e1⟩ := widx1 t
  funext a; apply Fin.ext
  match a with
  | ⟨0, _⟩ => show win0_1.index t (0 : Fin 2) * 2048 + 1 * a0.val = (row t a0).val; rw [e0]; simp [row]
  | ⟨1, _⟩ => show win0_1.index t (1 : Fin 2) * 768 + 1 * a1.val = (ft (jt t) a1).val; rw [e1]; simp [ft, jt]

theorem emb2 (t : Fin cfg0.N) (a0 : Fin 1) (a1 : Fin 1024) (a2 : Fin 768) : ((cfg0.win 2).blk t).view.emb (ix3 a0 a1 a2) = ix3 (jt t) (cl t a1) a2 := by
  obtain ⟨e0, e1, e2⟩ := widx2 t
  funext a; apply Fin.ext
  match a with
  | ⟨0, _⟩ => show win0_2.index t (0 : Fin 3) * 1 + 1 * a0.val = (jt t).val; rw [e0]; simp [jt]
  | ⟨1, _⟩ => show win0_2.index t (1 : Fin 3) * 1024 + 1 * a1.val = (cl t a1).val; rw [e1]; simp [cl]
  | ⟨2, _⟩ => show win0_2.index t (2 : Fin 3) * 768 + 1 * a2.val = a2.val; rw [e2]; simp

variable (m : (ℓ : Loc nD τ sig) → Buf (Elt Ideal) ℓ) (c : Dev nD)

/-- The layer's input. -/
abbrev aX : Arr3 1 8192 2048 := m ((c : Thread nD τ).loc main_arg0)
/-- The gradient at the projection's output. -/
abbrev aDQ : Arr3 1 8192 6144 := m ((c : Thread nD τ).loc main_arg2)

theorem V0 (s : Fin 8192) (p : Fin 2048) : V m c main_v0 (ix3 0 s p) = aX m c (ix3 0 s p) := by
  after_reads_at

theorem V2 (s : Fin 8192) (f : Fin 6144) : V m c main_v2 (ix2 s f) = aDQ m c (ix3 0 s f) := by
  after_reads_at

theorem rd0 (W : (b : Ref sig .tc) → Buf (Elt Ideal) ((c : Thread nD τ).loc b)) (t : Fin cfg0.N) (r : Fin 2048) (p : Fin 1024) :
    ((cfg0.win 0).blk t).view.read (Elt Ideal) (W (Pipeline.arrRef spec0 0)) (ix3 0 r p) = W main_v0 (ix3 0 (row t r) (cl t p)) := by
  show W main_v0 (((cfg0.win 0).blk t).view.emb (ix3 0 r p)) = _
  rw [emb0]

theorem rd1 (W : (b : Ref sig .tc) → Buf (Elt Ideal) ((c : Thread nD τ).loc b)) (t : Fin cfg0.N) (r : Fin 2048) (f : Fin 768) :
    ((cfg0.win 1).blk t).view.read (Elt Ideal) (W (Pipeline.arrRef spec0 1)) (ix2 r f) = W main_v2 (ix2 (row t r) (ft (jt t) f)) := by
  show W main_v2 (((cfg0.win 1).blk t).view.emb (ix2 r f)) = _
  rw [emb1]

theorem iblk0 (t : Fin cfg0.N) (r : Fin 2048) (p : Fin 1024) : iblk m c 0 t (ix3 0 r p) = aX m c (ix3 0 (row t r) (cl t p)) := by
  unfold iblk
  exact (rd0 c (V m c) t r p).trans (V0 m c _ _)

theorem iblk1 (t : Fin cfg0.N) (r : Fin 2048) (f : Fin 768) : iblk m c 1 t (ix2 r f) = aDQ m c (ix3 0 (row t r) (ft (jt t) f)) := by
  unfold iblk
  exact (rd1 c (V m c) t r f).trans (V2 m c _ _)

section Point

theorem pay2_at (v0 : Vec Ideal S1x2048x1024 .bf16) (v2 : Vec Ideal S2048x768 .bf16) (p : Fin 1024) (f : Fin 768) :
    k0_pay2 v0 v2 (ix2 p f) = ∑ k : Fin 2048, v0 (ix3 0 k p) * v2 (ix2 k f) := by
  unfold_payloads; pointwise

theorem pay3_at (v0 : Vec Ideal S1x2048x1024 .bf16) (v2 : Vec Ideal S2048x768 .bf16) (v14 : Vec Ideal S1024x768 .f32) (p : Fin 1024) (f : Fin 768) :
    k0_pay3 v0 v2 v14 (ix2 p f) = v14 (ix2 p f) + ∑ k : Fin 2048, v0 (ix3 0 k p) * v2 (ix2 k f) := by
  unfold_payloads; pointwise

theorem pay4_at (v14 : Vec Ideal S1024x768 .f32) (p : Fin 1024) (f : Fin 768) : k0_pay4 v14 (ix3 0 p f) = v14 (ix2 p f) := by
  unfold_payloads; pointwise

variable (i : grid0.Coords)
  (arg4 : Memref sig .tc .vmem S1x2048x1024 .bf16) (harg4 : arg4.IsWhole)
  (arg5 : Memref sig .tc .vmem S2048x768 .bf16) (harg5 : arg5.IsWhole)
  (arg6 : Memref sig .tc .vmem S1x1024x768 .bf16) (harg6 : arg6.IsWhole)
  (arg7 : Memref sig .tc .vmem S1024x768 .f32) (harg7 : arg7.IsWhole)
  (x0 : Vec Ideal S1x2048x1024 .bf16) (x1 : Vec Ideal S2048x768 .bf16) (xs : Vec Ideal S1024x768 .f32)

/-- The first time block leaves its product. -/
theorem sout0_A_eq (hc0 : cond0_0 i) (hc1 : ¬cond0_1 i) (hc2 : ¬cond0_2 i) :
    sout0_A_0 c i arg4 harg4 arg5 harg5 arg6 harg6 arg7 harg7 hc0 hc1 hc2 x0 x1 = k0_pay2 x0 x1 := by
  unfold sout0_A_0
  rw [View.read_writes_eq_canon _ _ _ (scover0_A_0 c i arg4 harg4 arg5 harg5 arg6 harg6 arg7 harg7 hc0 hc1 hc2 x0 x1)]
  unfold kernelRun0_A; dsimp only; sl_unfold_words
  simp only [View.readAt_eq_ld, harg4.read_unread, harg5.read_unread, harg6.read_unread, harg7.read_unread]
  rw [View.canon_unit_zero hz2, View.ld_unit_zero hz3, View.ld_unit_zero hz2]

/-- A middle time block adds its product. -/
theorem sout0_B_eq (hc0 : ¬cond0_0 i) (hc1 : cond0_1 i) (hc2 : ¬cond0_2 i) :
    sout0_B_0 c i arg4 harg4 arg5 harg5 arg6 harg6 arg7 harg7 hc0 hc1 hc2 x0 x1 xs = k0_pay3 x0 x1 xs := by
  unfold sout0_B_0
  rw [View.read_writes_eq_canon _ _ _ (scover0_B_0 c i arg4 harg4 arg5 harg5 arg6 harg6 arg7 harg7 hc0 hc1 hc2 x0 x1 xs)]
  unfold kernelRun0_B; dsimp only; sl_unfold_words
  simp only [View.readAt_eq_ld, harg4.read_unread, harg5.read_unread, harg6.read_unread, harg7.read_unread]
  rw [View.canon_unit_zero hz2, View.ld_unit_zero hz3, View.ld_unit_zero hz2, View.ld_unit_zero hz2]

/-- The last time block adds its product and writes the sum out. -/
theorem out0_C_eq (hc0 : ¬cond0_0 i) (hc1 : cond0_1 i) (hc2 : cond0_2 i) :
    out0_C_2 c i arg4 harg4 arg5 harg5 arg6 harg6 arg7 harg7 hc0 hc1 hc2 x0 x1 xs = k0_pay4 (k0_pay3 x0 x1 xs) := by
  unfold out0_C_2
  rw [View.read_writes_eq_canon _ _ _ (cover0_C_2 c i arg4 harg4 arg5 harg5 arg6 harg6 arg7 harg7 hc0 hc1 hc2 x0 x1 xs)]
  unfold kernelRun0_C; dsimp only; sl_unfold_words
  simp only [View.readAt_eq_ld, harg4.read_unread, harg5.read_unread, harg6.read_unread, harg7.read_unread]
  rw [View.canon_unit_zero hz3, View.ld_unit_zero hz3, View.ld_unit_zero hz2, View.ld_unit_zero hz2, View.readCov_unit_zero _ hz2]

end Point

/-- The products of one pair of columns, row by row. -/
def term (X : Arr3 1 8192 2048) (DQ : Arr3 1 8192 6144) (p : Fin 2048) (f : Fin 6144) (k : Fin 8192) : EReal := X (ix3 0 k p) * DQ (ix3 0 k f)

/-- The products that a grid point's entry sums. -/
abbrev tm (t : Fin cfg0.N) (p : Fin 1024) (f : Fin 768) : Fin 8192 → EReal := term (aX m c) (aDQ m c) (cl t p) (ft (jt t) f)

/-- The product of a grid point's blocks. -/
theorem pay2_blk (t : Fin cfg0.N) (p : Fin 1024) (f : Fin 768) : k0_pay2 (iblk m c 0 t) (iblk m c 1 t) (ix2 p f) = blk (tm m c t p f) 2048 (t.val % 4) := by
  refine (pay2_at _ _ p f).trans (blk_eq _ _ _ _ fun k => ⟨(row t k).isLt, ?_⟩)
  exact congrArg₂ (· * ·) (iblk0 m c t k p) (iblk1 m c t k f)

/-- The product of a grid point's blocks, added to what was there. -/
theorem pay3_blk (t : Fin cfg0.N) (o : Vec Ideal S1024x768 .f32) (p : Fin 1024) (f : Fin 768) :
    k0_pay3 (iblk m c 0 t) (iblk m c 1 t) o (ix2 p f) = o (ix2 p f) + blk (tm m c t p f) 2048 (t.val % 4) := by
  refine (pay3_at _ _ _ p f).trans (congrArg _ (blk_eq _ _ _ _ fun k => ⟨(row t k).isLt, ?_⟩))
  exact congrArg₂ (· * ·) (iblk0 m c t k p) (iblk1 m c t k f)

theorem tm_step (n : ℕ) (hn : n + 1 < cfg0.N) (h : ¬(n + 1) % 4 = 0) (p : Fin 1024) (f : Fin 768) :
    tm m c ⟨n + 1, hn⟩ p f = tm m c ⟨n, Nat.lt_of_succ_lt hn⟩ p f := by
  refine congrArg₂ (term (aX m c) (aDQ m c)) (Fin.ext ?_) (Fin.ext ?_)
  · show (n + 1) / 4 % 2 * 1024 + p.val = n / 4 % 2 * 1024 + p.val; omega
  · show (n + 1) / 8 * 768 + f.val = n / 8 * 768 + f.val; omega

/-- The accumulator holds the products over the time blocks up to the grid point's. -/
theorem at_all (p : Fin 1024) (f : Fin 768) : ∀ (n : ℕ) (hn : n < cfg0.N), n % 4 < 3 →
    (outsAt0 m c n hn).2 (ix2 p f) = upto (tm m c ⟨n, hn⟩ p f) ((n % 4 + 1) * 2048) := by
  refine acc 4 3 2048 (fun n hn => (outsAt0 m c n hn).2 (ix2 p f)) (fun n hn => tm m c ⟨n, hn⟩ p f)
    (fun n h => by omega) (fun n hn h => tm_step m c n hn h p f) (fun n hn h => ?_) (fun n hn h hl => ?_)
  · show (outsAt0 m c n hn).2 (ix2 p f) = _
    rw [outsAt0_A m c ⟨n, hn⟩ h (by show ¬1 ≤ n % 4; omega) (by show ¬n % 4 = 3; omega)]
    dsimp only
    rw [sout0_A_eq]
    exact pay2_blk m c ⟨n, hn⟩ p f
  · show (outsAt0 m c (n + 1) hn).2 (ix2 p f) = _
    rw [outsAt0_B m c ⟨n + 1, hn⟩ h (by show 1 ≤ (n + 1) % 4; omega) (by show ¬(n + 1) % 4 = 3; omega)]
    dsimp only
    rw [sout0_B_eq]
    exact pay3_blk m c ⟨n + 1, hn⟩ _ p f

/-- What the last time block writes out. -/
theorem out_last (t : Fin cfg0.N) (hl : t.val % 4 = 3) (p : Fin 1024) (f : Fin 768) : (outsAt0 m c t.val t.isLt).1 (ix3 0 p f) = ∑ k, tm m c t p f k := by
  obtain ⟨v, hv⟩ := t
  cases v with
  | zero => exact absurd hl (by show ¬0 % 4 = 3; decide)
  | succ v =>
    have h3 : (v + 1) % 4 = 3 := hl
    rw [outsAt0_C m c ⟨v + 1, hv⟩ (by show ¬(v + 1) % 4 = 0; omega) (by show 1 ≤ (v + 1) % 4; omega) hl]
    dsimp only
    rw [out0_C_eq, pay4_at, pay3_blk]
    refine (congrArg (· + _) (at_all m c p f v (Nat.lt_of_succ_lt hv) (by omega))).trans ?_
    rw [← tm_step m c v hv (by omega)]
    show upto _ ((v % 4 + 1) * 2048) + blk _ 2048 ((v + 1) % 4) = _
    rw [h3, (by omega : v % 4 = 2)]
    exact (upto_blk _ 2048 3).symm.trans (upto_all _)

/-- The gradient of the weights, cut into chunks of features. -/
def F2 (X : Arr3 1 8192 2048) (DQ : Arr3 1 8192 6144) : Vec Ideal S8x2048x768 .bf16 := fun y => ∑ k, term X DQ (y 1) (ft (y 0) (y 2)) k

theorem flush2 (t : Fin cfg0.N) (hf : (cfg0.win 2).flush t = true) :
    (dats m 0 c).flushed 2 t = ((cfg0.win 2).blk t).view.read (Elt Ideal) (F2 (aX m c) (aDQ m c)) := by
  have hl := (flush0_2 t).mp hf
  rw [flushed2]
  have ha := out_last m c t hl
  generalize outsAt0 m c t.val t.isLt = o at ha
  funext y
  obtain ⟨y0, y1, y2, rfl⟩ : ∃ (y0 : Fin 1) (y1 : Fin 1024) (y2 : Fin 768), y = ix3 y0 y1 y2 :=
    ⟨y 0, y 1, y 2, by funext a; match a with | ⟨0, _⟩ => rfl | ⟨1, _⟩ => rfl | ⟨2, _⟩ => rfl⟩
  show o.1 (ix3 y0 y1 y2) = F2 (aX m c) (aDQ m c) (((cfg0.win 2).blk t).view.emb (ix3 y0 y1 y2))
  rw [emb2, (Subsingleton.elim _ _ : y0 = 0), ha]
  rfl

/-- The last grid point of a chunk of features and a block of columns. -/
def pt (j : Fin 8) (k : Fin 2) : Fin cfg0.N := ⟨j.val * 8 + k.val * 4 + 3, Nat.lt_of_lt_of_eq (by have := j.isLt; have := k.isLt; omega : j.val * 8 + k.val * 4 + 3 < 64) N_0.symm⟩

theorem final : (dats m 0 c).arrAt 2 cfg0.N = F2 (aX m c) (aDQ m c) := by
  refine (dats m 0 c).arrAt_eq_of_cover 2 _ (fun t hf => flush2 m c t hf) fun i => ?_
  obtain ⟨y0, y1, y2, rfl⟩ : ∃ (y0 : Fin 8) (y1 : Fin 2048) (y2 : Fin 768), i = ix3 y0 y1 y2 :=
    ⟨i 0, i 1, i 2, by funext a; match a with | ⟨0, _⟩ => rfl | ⟨1, _⟩ => rfl | ⟨2, _⟩ => rfl⟩
  have h0 := y0.isLt
  have h1 := y1.isLt
  have hk : y1.val / 1024 < 2 := by omega
  have hr : y1.val % 1024 < 1024 := by omega
  refine ⟨pt y0 ⟨y1.val / 1024, hk⟩, (flush0_2 _).mpr (by show (y0.val * 8 + y1.val / 1024 * 4 + 3) % 4 = 3; omega), ?_⟩
  have e : ((cfg0.win 2).blk (pt y0 ⟨y1.val / 1024, hk⟩)).view.emb (ix3 0 ⟨y1.val % 1024, hr⟩ y2) = ix3 y0 y1 y2 := by
    rw [emb2]
    congr 1
    · exact Fin.ext (by show (y0.val * 8 + y1.val / 1024 * 4 + 3) / 8 = y0.val; omega)
    · exact Fin.ext (by show (y0.val * 8 + y1.val / 1024 * 4 + 3) / 4 % 2 * 1024 + y1.val % 1024 = y1.val; omega)
  rw [← e]
  exact View.emb_mem_set _ _

end Cert.Kernel11Ideal.Qkv

namespace Cert.Reference11Ideal.Qkv

open Cert.Reference11Ideal Cert.Reference11Ideal.Gen Cert.Reference11Ideal.Read Idealize.ShloMosaic Idealize.ShloMosaic.TcCoe Idealize.ShloMosaic.Tactic Cert.Spec

theorem v1_at (X : Arr3 1 8192 2048) (DQ : Arr3 1 8192 6144) (f : Fin 6144) (p : Fin 2048) :
    val_main_v1 (F := Ideal) X DQ (ix2 f p) = ∑ k : Fin 8192, DQ (ix3 0 k f) * X (ix3 0 k p) := by
  unfold val_main_v1
  pointwise
  exact Fin.sum_univ_one _

theorem v5_eq (X : Arr3 1 8192 2048) (DQ : Arr3 1 8192 6144) : val_main_v5 (F := Ideal) X DQ = Cert.Kernel11Ideal.Qkv.F2 X DQ := by
  funext y
  obtain ⟨j, p, f, rfl⟩ : ∃ (j : Fin 8) (p : Fin 2048) (f : Fin 768), y = ix3 j p f :=
    ⟨y 0, y 1, y 2, by funext a; match a with | ⟨0, _⟩ => rfl | ⟨1, _⟩ => rfl | ⟨2, _⟩ => rfl⟩
  show val_main_v4 (F := Ideal) X DQ (ix3 j p f) = ∑ k, Cert.Kernel11Ideal.Qkv.term X DQ p (Cert.Kernel11Ideal.Qkv.ft j f) k
  rw [val_main_v4_apply, val_main_v3_apply, val_main_v2_apply]
  have hj := j.isLt
  have hf := f.isLt
  have hp := p.isLt
  have hi : idx_main_v2 (idx_main_v3 (idx_main_v4 (ix3 j p f))) = ix2 (Cert.Kernel11Ideal.Qkv.ft j f) p := by
    funext a; apply Fin.ext
    match a with
    | ⟨0, _⟩ => exact (show ((p.val * 8 + j.val) * 768 + f.val) % 6144 = j.val * 768 + f.val by omega)
    | ⟨1, _⟩ => exact (show ((p.val * 8 + j.val) * 768 + f.val) / 6144 = p.val by omega)
  rw [hi, v1_at]
  exact Finset.sum_congr rfl fun k _ => mul_comm _ _

end Cert.Reference11Ideal.Qkv

end
-- ==== Proof.QkvDx.lean ====
module

public import proofs.«01_k».proof.Proof.Sums
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Kernel12Ideal.Qkv

open Cert.Kernel12Ideal Cert.Kernel12Ideal.Gen Cert.Kernel12Ideal.Value Idealize.ShloMosaic Idealize.ShloMosaic.TcCoe Idealize.SL.Sem Idealize.ShloMosaic.Tactic Cert.Spec Cert.Sums

theorem lt64 (t : Fin cfg0.N) : t.val < 64 := Nat.lt_of_lt_of_eq t.isLt N_0

/-- The chunk of features at a grid point. -/
def jt (t : Fin cfg0.N) : Fin 8 := ⟨t.val % 8, Nat.mod_lt _ (by decide)⟩

/-- Row `r` of the block of rows at a grid point. -/
def row (t : Fin cfg0.N) (r : Fin 1024) : Fin 8192 := ⟨t.val / 8 * 1024 + r.val, by have := lt64 t; have := r.isLt; omega⟩

/-- Feature `f` of chunk `j`. -/
def ft (j : Fin 8) (f : Fin 768) : Fin 6144 := ⟨j.val * 768 + f.val, by have := j.isLt; have := f.isLt; omega⟩

theorem widx0 : ∀ t : Fin cfg0.N, win0_0.index t (0 : Fin 2) = t.val / 8 ∧ win0_0.index t (1 : Fin 2) = t.val % 8 :=
  (by decide +kernel : ∀ t : Fin grid0.N, _)
theorem widx1 : ∀ t : Fin cfg0.N, win0_1.index t (0 : Fin 3) = t.val % 8 ∧ win0_1.index t (1 : Fin 3) = 0 ∧ win0_1.index t (2 : Fin 3) = 0 :=
  (by decide +kernel : ∀ t : Fin grid0.N, _)
theorem widx2 : ∀ t : Fin cfg0.N, win0_2.index t (0 : Fin 2) = t.val / 8 ∧ win0_2.index t (1 : Fin 2) = 0 :=
  (by decide +kernel : ∀ t : Fin grid0.N, _)

theorem emb0 (t : Fin cfg0.N) (a0 : Fin 1024) (a1 : Fin 768) : ((cfg0.win 0).blk t).view.emb (ix2 a0 a1) = ix2 (row t a0) (ft (jt t) a1) := by
  obtain ⟨e0, e1⟩ := widx0 t
  funext a; apply Fin.ext
  match a with
  | ⟨0, _⟩ => show win0_0.index t (0 : Fin 2) * 1024 + 1 * a0.val = (row t a0).val; rw [e0]; simp [row]
  | ⟨1, _⟩ => show win0_0.index t (1 : Fin 2) * 768 + 1 * a1.val = (ft (jt t) a1).val; rw [e1]; simp [ft, jt]

theorem emb1 (t : Fin cfg0.N) (a0 : Fin 1) (a1 : Fin 2048) (a2 : Fin 768) : ((cfg0.win 1).blk t).view.emb (ix3 a0 a1 a2) = ix3 (jt t) a1 a2 := by
  obtain ⟨e0, e1, e2⟩ := widx1 t
  funext a; apply Fin.ext
  match a with
  | ⟨0, _⟩ => show win0_1.index t (0 : Fin 3) * 1 + 1 * a0.val = (jt t).val; rw [e0]; simp [jt]
  | ⟨1, _⟩ => show win0_1.index t (1 : Fin 3) * 2048 + 1 * a1.val = a1.val; rw [e1]; simp
  | ⟨2, _⟩ => show win0_1.index t (2 : Fin 3) * 768 + 1 * a2.val = a2.val; rw [e2]; simp

theorem emb2 (t : Fin cfg0.N) (a0 : Fin 1024) (a1 : Fin 2048) : ((cfg0.win 2).blk t).view.emb (ix2 a0 a1) = ix2 (row t a0) a1 := by
  obtain ⟨e0, e1⟩ := widx2 t
  funext a; apply Fin.ext
  match a with
  | ⟨0, _⟩ => show win0_2.index t (0 : Fin 2) * 1024 + 1 * a0.val = (row t a0).val; rw [e0]; simp [row]
  | ⟨1, _⟩ => show win0_2.index t (1 : Fin 2) * 2048 + 1 * a1.val = a1.val; rw [e1]; simp

variable (m : (ℓ : Loc nD τ sig) → Buf (Elt Ideal) ℓ) (c : Dev nD)

/-- The projection's weights. -/
abbrev aW : Arr2 2048 6144 := m ((c : Thread nD τ).loc main_arg1)
/-- The gradient at the projection's output. -/
abbrev aDQ : Arr3 1 8192 6144 := m ((c : Thread nD τ).loc main_arg2)

theorem V1 (s : Fin 8192) (f : Fin 6144) : V m c main_v1 (ix2 s f) = aDQ m c (ix3 0 s f) := by
  after_reads_at

theorem V4 (j : Fin 8) (n : Fin 2048) (f : Fin 768) : V m c main_v4 (ix3 j n f) = aW m c (ix2 n (ft j f)) := by
  after_reads_at
  rfl

theorem rd0 (W : (b : Ref sig .tc) → Buf (Elt Ideal) ((c : Thread nD τ).loc b)) (t : Fin cfg0.N) (r : Fin 1024) (f : Fin 768) :
    ((cfg0.win 0).blk t).view.read (Elt Ideal) (W (Pipeline.arrRef spec0 0)) (ix2 r f) = W main_v1 (ix2 (row t r) (ft (jt t) f)) := by
  show W main_v1 (((cfg0.win 0).blk t).view.emb (ix2 r f)) = _
  rw [emb0]

theorem rd1 (W : (b : Ref sig .tc) → Buf (Elt Ideal) ((c : Thread nD τ).loc b)) (t : Fin cfg0.N) (n : Fin 2048) (f : Fin 768) :
    ((cfg0.win 1).blk t).view.read (Elt Ideal) (W (Pipeline.arrRef spec0 1)) (ix3 0 n f) = W main_v4 (ix3 (jt t) n f) := by
  show W main_v4 (((cfg0.win 1).blk t).view.emb (ix3 0 n f)) = _
  rw [emb1]

theorem iblk0 (t : Fin cfg0.N) (r : Fin 1024) (f : Fin 768) : iblk m c 0 t (ix2 r f) = aDQ m c (ix3 0 (row t r) (ft (jt t) f)) := by
  unfold iblk
  exact (rd0 c (V m c) t r f).trans (V1 m c _ _)

theorem iblk1 (t : Fin cfg0.N) (n : Fin 2048) (f : Fin 768) : iblk m c 1 t (ix3 0 n f) = aW m c (ix2 n (ft (jt t) f)) := by
  unfold iblk
  exact (rd1 c (V m c) t n f).trans (V4 m c _ _ _)

section Point

theorem pay1_at (v0 : Vec Ideal S1024x768 .bf16) (v2 : Vec Ideal S1x2048x768 .bf16) (r : Fin 1024) (n : Fin 2048) :
    k0_pay1 v0 v2 (ix2 r n) = ∑ k : Fin 768, v0 (ix2 r k) * v2 (ix3 0 n k) := by
  unfold_payloads; pointwise

theorem pay2_at (v0 : Vec Ideal S1024x768 .bf16) (v2 : Vec Ideal S1x2048x768 .bf16) (v11 : Vec Ideal S1024x2048 .f32) (r : Fin 1024) (n : Fin 2048) :
    k0_pay2 v0 v2 v11 (ix2 r n) = v11 (ix2 r n) + ∑ k : Fin 768, v0 (ix2 r k) * v2 (ix3 0 n k) := by
  unfold_payloads; pointwise

variable (i : grid0.Coords)
  (arg2 : Memref sig .tc .vmem S1024x768 .bf16) (harg2 : arg2.IsWhole)
  (arg3 : Memref sig .tc .vmem S1x2048x768 .bf16) (harg3 : arg3.IsWhole)
  (arg4 : Memref sig .tc .vmem S1024x2048 .f32) (harg4 : arg4.IsWhole)
  (x0 : Vec Ideal S1024x768 .bf16) (x1 : Vec Ideal S1x2048x768 .bf16) (xo : Vec Ideal S1024x2048 .f32)

/-- The first point of a block of rows leaves its product. -/
theorem out0_A_eq (hc0 : cond0_0 i) (hc1 : ¬cond0_1 i) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A; dsimp only; sl_unfold_words
  simp only [View.readAt_eq_ld, harg2.read_unread, harg3.read_unread, harg4.read_unread]
  rw [View.canon_unit_zero hz2, View.ld_unit_zero hz2, View.ld_unit_zero hz3]

/-- A later point of a block of rows adds its product. -/
theorem out0_B_eq (hc0 : ¬cond0_0 i) (hc1 : cond0_1 i) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B; dsimp only; sl_unfold_words
  simp only [View.readAt_eq_ld, harg2.read_unread, harg3.read_unread, harg4.read_unread]
  rw [View.canon_unit_zero hz2, View.ld_unit_zero hz2, View.ld_unit_zero hz3, View.ld_unit_zero hz2]

end Point

/-- A row's product with the weights, feature by feature. -/
def term (DQ : Arr3 1 8192 6144) (W : Arr2 2048 6144) (s : Fin 8192) (n : Fin 2048) (k : Fin 6144) : EReal := DQ (ix3 0 s k) * W (ix2 n k)

/-- The product of a grid point's blocks. -/
theorem pay1_blk (t : Fin cfg0.N) (r : Fin 1024) (n : Fin 2048) :
    k0_pay1 (iblk m c 0 t) (iblk m c 1 t) (ix2 r n) = blk (term (aDQ m c) (aW m c) (row t r) n) 768 (t.val % 8) := by
  refine (pay1_at _ _ r n).trans (blk_eq _ _ _ _ fun k => ⟨(ft (jt t) k).isLt, ?_⟩)
  exact congrArg₂ (· * ·) (iblk0 m c t r k) (iblk1 m c t n k)

/-- The product of a grid point's blocks, added to what was there. -/
theorem pay2_blk (t : Fin cfg0.N) (o : Vec Ideal S1024x2048 .f32) (r : Fin 1024) (n : Fin 2048) :
    k0_pay2 (iblk m c 0 t) (iblk m c 1 t) o (ix2 r n) = o (ix2 r n) + blk (term (aDQ m c) (aW m c) (row t r) n) 768 (t.val % 8) := by
  refine (pay2_at _ _ _ r n).trans (congrArg _ (blk_eq _ _ _ _ fun k => ⟨(ft (jt t) k).isLt, ?_⟩))
  exact congrArg₂ (· * ·) (iblk0 m c t r k) (iblk1 m c t n k)

/-- After a grid point the output's block holds the products over the chunks visited so far. -/
theorem at_all (r : Fin 1024) (n : Fin 2048) : ∀ (k : ℕ) (hk : k < cfg0.N), k % 8 < 8 →
    outsAt0 m c k hk (ix2 r n) = upto (term (aDQ m c) (aW m c) (row ⟨k, hk⟩ r) n) ((k % 8 + 1) * 768) := by
  refine acc 8 8 768 (fun k hk => outsAt0 m c k hk (ix2 r n)) (fun k hk => term (aDQ m c) (aW m c) (row ⟨k, hk⟩ r) n)
    (fun k h => by omega) (fun k hk h => ?_) (fun k hk h => ?_) (fun k hk h _ => ?_)
  · exact congrArg (fun s => term (aDQ m c) (aW m c) s n) (Fin.ext (by show (k + 1) / 8 * 1024 + r.val = k / 8 * 1024 + r.val; omega))
  · show outsAt0 m c k hk (ix2 r n) = _
    rw [outsAt0_A m c ⟨k, hk⟩ h (by show ¬1 ≤ k % 8; omega), out0_A_eq]
    exact pay1_blk m c ⟨k, hk⟩ r n
  · show outsAt0 m c (k + 1) hk (ix2 r n) = _
    rw [outsAt0_B m c ⟨k + 1, hk⟩ h (by show 1 ≤ (k + 1) % 8; omega), out0_B_eq]
    exact pay2_blk m c ⟨k + 1, hk⟩ _ r n

/-- The gradient at the projection's input. -/
def F2 (DQ : Arr3 1 8192 6144) (W : Arr2 2048 6144) : Vec Ideal S8192x2048 .f32 := fun y => ∑ k, term DQ W (y 0) (y 1) k

theorem flush2 (t : Fin cfg0.N) (hf : (cfg0.win 2).flush t = true) :
    (dats m 0 c).flushed 2 t = ((cfg0.win 2).blk t).view.read (Elt Ideal) (F2 (aDQ m c) (aW m c)) := by
  have hl := (flush0_2 t).mp hf
  rw [flushed2]
  have ha := fun r n => at_all m c r n t.val t.isLt (Nat.mod_lt _ (by decide))
  rw [hl] at ha
  generalize outsAt0 m c t.val t.isLt = o at ha
  funext y
  obtain ⟨y0, y1, rfl⟩ : ∃ (y0 : Fin 1024) (y1 : Fin 2048), y = ix2 y0 y1 :=
    ⟨y 0, y 1, by funext a; match a with | ⟨0, _⟩ => rfl | ⟨1, _⟩ => rfl⟩
  show o (ix2 y0 y1) = F2 (aDQ m c) (aW m c) (((cfg0.win 2).blk t).view.emb (ix2 y0 y1))
  rw [emb2, ha]
  exact upto_all _

/-- The last grid point of a block of rows. -/
def pt (k : Fin 8) : Fin cfg0.N := ⟨k.val * 8 + 7, Nat.lt_of_lt_of_eq (by have := k.isLt; omega : k.val * 8 + 7 < 64) N_0.symm⟩

theorem final2 : (dats m 0 c).arrAt 2 cfg0.N = F2 (aDQ m c) (aW m c) := by
  refine (dats m 0 c).arrAt_eq_of_cover 2 _ (fun t hf => flush2 m c t hf) fun i => ?_
  obtain ⟨y0, y1, rfl⟩ : ∃ (y0 : Fin 8192) (y1 : Fin 2048), i = ix2 y0 y1 :=
    ⟨i 0, i 1, by funext a; match a with | ⟨0, _⟩ => rfl | ⟨1, _⟩ => rfl⟩
  have h0 := y0.isLt
  have hk : y0.val / 1024 < 8 := by omega
  have hr : y0.val % 1024 < 1024 := by omega
  refine ⟨pt ⟨y0.val / 1024, hk⟩, (flush0_2 _).mpr (by show (y0.val / 1024 * 8 + 7) % 8 = 7; omega), ?_⟩
  have e : ((cfg0.win 2).blk (pt ⟨y0.val / 1024, hk⟩)).view.emb (ix2 ⟨y0.val % 1024, hr⟩ y1) = ix2 y0 y1 := by
    rw [emb2]
    congr 1
    exact Fin.ext (by show (y0.val / 1024 * 8 + 7) / 8 * 1024 + y0.val % 1024 = y0.val; omega)
  rw [← e]
  exact View.emb_mem_set _ _

end Cert.Kernel12Ideal.Qkv

namespace Cert.Reference12Ideal.Qkv

open Cert.Reference12Ideal Cert.Reference12Ideal.Gen Cert.Reference12Ideal.Read Idealize.ShloMosaic Idealize.ShloMosaic.TcCoe Cert.Spec

theorem v2_eq (W : Arr2 2048 6144) (DQ : Arr3 1 8192 6144) : val_main_v2 (F := Ideal) W DQ = Cert.Kernel12Ideal.Qkv.F2 DQ W := by
  funext y
  obtain ⟨s, n, rfl⟩ : ∃ (s : Fin 8192) (n : Fin 2048), y = ix2 s n :=
    ⟨y 0, y 1, by funext a; match a with | ⟨0, _⟩ => rfl | ⟨1, _⟩ => rfl⟩
  rw [val_main_v2_apply, val_main_v1_apply]
  refine Finset.sum_congr rfl fun k _ => ?_
  have hs := s.isLt
  have hn := n.isLt
  have hl : lidx_main_v1 (idx_main_v2 (ix2 s n)) k = ix3 0 s k := by
    funext a; apply Fin.ext; match a with | ⟨0, _⟩ => rfl | ⟨1, _⟩ => exact (show (s.val * 2048 + n.val) / 2048 % 8192 = s.val by omega) | ⟨2, _⟩ => rfl
  have hr : ridx_main_v1 (idx_main_v2 (ix2 s n)) k = ix2 n k := by
    funext a; apply Fin.ext; match a with | ⟨0, _⟩ => exact (show (s.val * 2048 + n.val) % 2048 = n.val by omega) | ⟨1, _⟩ => rfl
  rw [hl, hr]
  rfl

end Cert.Reference12Ideal.Qkv

end
-- ==== Proof.Projections.lean ====
module

public import proofs.«01_k».proof.Defs
public import proofs.«01_k».proof.Proof.QkvFwd
public import proofs.«01_k».proof.Proof.WoFwd
public import proofs.«01_k».proof.Proof.WoDx
public import proofs.«01_k».proof.Proof.WoDw
public import proofs.«01_k».proof.Proof.QkvDw
public import proofs.«01_k».proof.Proof.QkvDx
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame

@[expose] public section

set_option maxRecDepth 16384

noncomputable section

namespace Cert.Projections

open Idealize.ShloMosaic Idealize.ShloMosaic.TcCoe Idealize.SL.Sem Cert.Spec

/-! The products around the attention, and their backward passes: each runs, keeps its arguments, and ends as its reference does. -/

/-- The kernel of the attention's first projection, over floating-point words. -/
theorem frame_k7 : Cert.quiescent_Kernel7 (hKernel7 := Cert.Kernel7.Gen.facts) := fun m ρ _ => Cert.Kernel7.Gen.frame m ρ

/-- The kernel of the attention's first projection, at the extended reals. -/
theorem frame_i7 : Cert.quiescent_Kernel7Ideal (hKernel7Ideal := Cert.Kernel7Ideal.Gen.facts) := fun m ρ _ => Cert.Kernel7Ideal.Gen.frame m ρ

/-- The reference of the attention's first projection, at the extended reals. -/
theorem frame_r7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

section
open Cert.Kernel7Ideal.Qkv

/-- The kernel and the reference of the attention's first projection end with the same result. -/
theorem value7 : Cert.algebraic_Kernel7Ideal_Reference7Ideal (hKernel7Ideal := Cert.Kernel7Ideal.Gen.facts) (hReference7Ideal := Cert.Reference7Ideal.Gen.facts) := by
  intro m ρ m' ρ' _ ha
  refine ⟨fun c => F2 (aX m c) (aW m c), ?_, ?_⟩
  · refine (θ_run Cert.Kernel7Ideal.defs _ _).mono (fun r h c => ?_) (Cert.Kernel7Ideal.Value.run_blocks (F := Ideal) m ρ)
    exact ⟨(h c).1.trans (final2 m c), (h c).2⟩
  · refine (θ_run Cert.Reference7Ideal.defs _ _).mono (fun r h c => ?_) (Cert.Reference7Ideal.Value.run (F := Ideal) m' ρ')
    obtain ⟨e0, e1⟩ := ha c
    refine ⟨(h c).1.trans ?_, (h c).2⟩
    rw [e0, e1]
    exact (Cert.Reference7Ideal.Read.val_main_v2_eq (F := Ideal) _ _).trans (Cert.Reference7Ideal.Qkv.v2_eq _ _)

end

/-- The kernel of the attention's output projection, over floating-point words. -/
theorem frame_k8 : Cert.quiescent_Kernel8 (hKernel8 := Cert.Kernel8.Gen.facts) := fun m ρ _ => Cert.Kernel8.Gen.frame m ρ

/-- The kernel of the attention's output projection, at the extended reals. -/
theorem frame_i8 : Cert.quiescent_Kernel8Ideal (hKernel8Ideal := Cert.Kernel8Ideal.Gen.facts) := fun m ρ _ => Cert.Kernel8Ideal.Gen.frame m ρ

/-- The reference of the attention's output projection, at the extended reals. -/
theorem frame_r8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

section
open Cert.Kernel8Ideal.Wo

/-- The kernel and the reference of the attention's output projection end with the same result. -/
theorem value8 : Cert.algebraic_Kernel8Ideal_Reference8Ideal (hKernel8Ideal := Cert.Kernel8Ideal.Gen.facts) (hReference8Ideal := Cert.Reference8Ideal.Gen.facts) := by
  intro m ρ m' ρ' _ ha
  refine ⟨fun c => F2 (aO m c) (aW m c), ?_, ?_⟩
  · refine (θ_run Cert.Kernel8Ideal.defs _ _).mono (fun r h c => ?_) (Cert.Kernel8Ideal.Value.run_blocks (F := Ideal) m ρ)
    exact ⟨(h c).1.trans (final2 m c), (h c).2⟩
  · refine (θ_run Cert.Reference8Ideal.defs _ _).mono (fun r h c => ?_) (Cert.Reference8Ideal.Value.run (F := Ideal) m' ρ')
    obtain ⟨e0, e1⟩ := ha c
    refine ⟨(h c).1.trans ?_, (h c).2⟩
    rw [e0, e1]
    exact (Cert.Reference8Ideal.Read.val_main_v0_eq (F := Ideal) _ _).trans (Cert.Reference8Ideal.Wo.v0_eq _ _)

end

/-- The kernel of the gradient at the attention's output, over floating-point words. -/
theorem frame_k9 : Cert.quiescent_Kernel9 (hKernel9 := Cert.Kernel9.Gen.facts) := fun m ρ _ => Cert.Kernel9.Gen.frame m ρ

/-- The kernel of the gradient at the attention's output, at the extended reals. -/
theorem frame_i9 : Cert.quiescent_Kernel9Ideal (hKernel9Ideal := Cert.Kernel9Ideal.Gen.facts) := fun m ρ _ => Cert.Kernel9Ideal.Gen.frame m ρ

/-- The reference of the gradient at the attention's output, at the extended reals. -/
theorem frame_r9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

section
open Cert.Kernel9Ideal.Wo

/-- The kernel and the reference of the gradient at the attention's output end with the same result. -/
theorem value9 : Cert.algebraic_Kernel9Ideal_Reference9Ideal (hKernel9Ideal := Cert.Kernel9Ideal.Gen.facts) (hReference9Ideal := Cert.Reference9Ideal.Gen.facts) := by
  intro m ρ m' ρ' _ ha
  refine ⟨fun c => F2 (aCT m c) (aW m c), ?_, ?_⟩
  · refine (θ_run Cert.Kernel9Ideal.defs _ _).mono (fun r h c => ?_) (Cert.Kernel9Ideal.Value.run_blocks (F := Ideal) m ρ)
    exact ⟨(h c).1.trans (final2 m c), (h c).2⟩
  · refine (θ_run Cert.Reference9Ideal.defs _ _).mono (fun r h c => ?_) (Cert.Reference9Ideal.Value.run (F := Ideal) m' ρ')
    obtain ⟨e0, e1, e2⟩ := ha c
    refine ⟨(h c).1.trans ?_, (h c).2⟩
    rw [e1, e2]
    exact (Cert.Reference9Ideal.Read.val_main_v2_eq (F := Ideal) _ _).trans (Cert.Reference9Ideal.Wo.v2_eq _ _)

end

/-- The kernel of the gradient of the output projection's weights, over floating-point words. -/
theorem frame_k10 : Cert.quiescent_Kernel10 (hKernel10 := Cert.Kernel10.Gen.facts) := fun m ρ _ => Cert.Kernel10.Gen.frame m ρ

/-- The kernel of the gradient of the output projection's weights, at the extended reals. -/
theorem frame_i10 : Cert.quiescent_Kernel10Ideal (hKernel10Ideal := Cert.Kernel10Ideal.Gen.facts) := fun m ρ _ => Cert.Kernel10Ideal.Gen.frame m ρ

/-- The reference of the gradient of the output projection's weights, at the extended reals. -/
theorem frame_r10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

section
open Cert.Kernel10Ideal.Wo

/-- The kernel and the reference of the gradient of the output projection's weights end with the same result. -/
theorem value10 : Cert.algebraic_Kernel10Ideal_Reference10Ideal (hKernel10Ideal := Cert.Kernel10Ideal.Gen.facts) (hReference10Ideal := Cert.Reference10Ideal.Gen.facts) := by
  intro m ρ m' ρ' _ ha
  refine ⟨fun c => F2 (aO m c) (aCT m c), ?_, ?_⟩
  · refine (θ_run Cert.Kernel10Ideal.defs _ _).mono (fun r h c => ?_) (Cert.Kernel10Ideal.Value.run_blocks (F := Ideal) m ρ)
    exact ⟨(h c).1.trans (final m c), (h c).2⟩
  · refine (θ_run Cert.Reference10Ideal.defs _ _).mono (fun r h c => ?_) (Cert.Reference10Ideal.Value.run (F := Ideal) m' ρ')
    obtain ⟨e0, e1, e2⟩ := ha c
    refine ⟨(h c).1.trans ?_, (h c).2⟩
    rw [e0, e2]
    exact (Cert.Reference10Ideal.Read.val_main_v4_eq (F := Ideal) _ _).trans (Cert.Reference10Ideal.Wo.v4_eq _ _)

end

/-- The kernel of the gradient of the first projection's weights, over floating-point words. -/
theorem frame_k11 : Cert.quiescent_Kernel11 (hKernel11 := Cert.Kernel11.Gen.facts) := fun m ρ _ => Cert.Kernel11.Gen.frame m ρ

/-- The kernel of the gradient of the first projection's weights, at the extended reals. -/
theorem frame_i11 : Cert.quiescent_Kernel11Ideal (hKernel11Ideal := Cert.Kernel11Ideal.Gen.facts) := fun m ρ _ => Cert.Kernel11Ideal.Gen.frame m ρ

/-- The reference of the gradient of the first projection's weights, at the extended reals. -/
theorem frame_r11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

section
open Cert.Kernel11Ideal.Qkv

/-- The kernel and the reference of the gradient of the first projection's weights end with the same result. -/
theorem value11 : Cert.algebraic_Kernel11Ideal_Reference11Ideal (hKernel11Ideal := Cert.Kernel11Ideal.Gen.facts) (hReference11Ideal := Cert.Reference11Ideal.Gen.facts) := by
  intro m ρ m' ρ' _ ha
  refine ⟨fun c => F2 (aX m c) (aDQ m c), ?_, ?_⟩
  · refine (θ_run Cert.Kernel11Ideal.defs _ _).mono (fun r h c => ?_) (Cert.Kernel11Ideal.Value.run_blocks (F := Ideal) m ρ)
    exact ⟨(h c).1.trans (final m c), (h c).2⟩
  · refine (θ_run Cert.Reference11Ideal.defs _ _).mono (fun r h c => ?_) (Cert.Reference11Ideal.Value.run (F := Ideal) m' ρ')
    obtain ⟨e0, e1, e2⟩ := ha c
    refine ⟨(h c).1.trans ?_, (h c).2⟩
    rw [e0, e2]
    exact (Cert.Reference11Ideal.Read.val_main_v5_eq (F := Ideal) _ _).trans (Cert.Reference11Ideal.Qkv.v5_eq _ _)

end

/-- The kernel of the gradient at the first projection's input, over floating-point words. -/
theorem frame_k12 : Cert.quiescent_Kernel12 (hKernel12 := Cert.Kernel12.Gen.facts) := fun m ρ _ => Cert.Kernel12.Gen.frame m ρ

/-- The kernel of the gradient at the first projection's input, at the extended reals. -/
theorem frame_i12 : Cert.quiescent_Kernel12Ideal (hKernel12Ideal := Cert.Kernel12Ideal.Gen.facts) := fun m ρ _ => Cert.Kernel12Ideal.Gen.frame m ρ

/-- The reference of the gradient at the first projection's input, at the extended reals. -/
theorem frame_r12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

section
open Cert.Kernel12Ideal.Qkv

/-- The kernel and the reference of the gradient at the first projection's input end with the same result. -/
theorem value12 : Cert.algebraic_Kernel12Ideal_Reference12Ideal (hKernel12Ideal := Cert.Kernel12Ideal.Gen.facts) (hReference12Ideal := Cert.Reference12Ideal.Gen.facts) := by
  intro m ρ m' ρ' _ ha
  refine ⟨fun c => F2 (aDQ m c) (aW m c), ?_, ?_⟩
  · refine (θ_run Cert.Kernel12Ideal.defs _ _).mono (fun r h c => ?_) (Cert.Kernel12Ideal.Value.run_blocks (F := Ideal) m ρ)
    exact ⟨(h c).1.trans (final2 m c), (h c).2⟩
  · refine (θ_run Cert.Reference12Ideal.defs _ _).mono (fun r h c => ?_) (Cert.Reference12Ideal.Value.run (F := Ideal) m' ρ')
    obtain ⟨e0, e1, e2⟩ := ha c
    refine ⟨(h c).1.trans ?_, (h c).2⟩
    rw [e1, e2]
    exact (Cert.Reference12Ideal.Read.val_main_v2_eq (F := Ideal) _ _).trans (Cert.Reference12Ideal.Qkv.v2_eq _ _)

end

end Cert.Projections

end
-- ==== Proof.lean ====
module

public import proofs.«01_k».proof.Defs
public import proofs.«01_k».proof.Proof.Taken
public import proofs.«01_k».proof.Proof.Others
public import proofs.«01_k».proof.Proof.Projections

@[expose] public section

noncomputable section

namespace Cert.Proof

/-- Every claim, at the witnesses of the programs' stated facts. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Taken.pre_facts,
    Cert.Taken.frame_k, Cert.Taken.frame_i, Cert.Taken.frame_i_pre, Cert.Taken.frame_r, Cert.Taken.frame_r_pre,
    Cert.Others.frame_k2, Cert.Others.frame_i2, Cert.Others.frame_r2,
    Cert.Others.frame_k3, Cert.Others.frame_i3, Cert.Others.frame_r3,
    Cert.Others.frame_k4, Cert.Others.frame_i4, Cert.Others.frame_r4,
    Cert.Others.frame_k5, Cert.Others.frame_i5, Cert.Others.frame_r5,
    Cert.Others.frame_k6, Cert.Others.frame_i6, Cert.Others.frame_r6,
    Cert.Projections.frame_k7, Cert.Projections.frame_i7, Cert.Projections.frame_r7,
    Cert.Projections.frame_k8, Cert.Projections.frame_i8, Cert.Projections.frame_r8,
    Cert.Projections.frame_k9, Cert.Projections.frame_i9, Cert.Projections.frame_r9,
    Cert.Projections.frame_k10, Cert.Projections.frame_i10, Cert.Projections.frame_r10,
    Cert.Projections.frame_k11, Cert.Projections.frame_i11, Cert.Projections.frame_r11,
    Cert.Projections.frame_k12, Cert.Projections.frame_i12, Cert.Projections.frame_r12,
    trivial, Cert.Taken.value,
    trivial, Cert.Others.value2,
    trivial, Cert.Others.value3,
    trivial, Cert.Others.value4,
    trivial, Cert.Others.value5,
    trivial, Cert.Others.value6,
    trivial, Cert.Projections.value7,
    trivial, Cert.Projections.value8,
    trivial, Cert.Projections.value9,
    trivial, Cert.Projections.value10,
    trivial, Cert.Projections.value11,
    trivial, Cert.Projections.value12⟩

end Cert.Proof

end
